-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![2048]⟩ ⟨1, ![8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![16, 1024, 2048]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![16, 2048, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v192)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v192) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S_ : Shape := ⟨0, ![]⟩

class Facts : Prop where
  bcast_S2048_S2048x1_0 : S2048.BroadcastsInDim S2048x1 (![0] : Fin 1 → Fin S2048x1.rank)
  bcast_S16_S1x16_1 : S16.BroadcastsInDim S1x16 (![1] : Fin 1 → Fin S1x16.rank)
  bcast_S2048x1_S2048x16_0_1 : S2048x1.BroadcastsInDim S2048x16 (![0, 1] : Fin 2 → Fin S2048x16.rank)
  bcast_S1x16_S2048x16_0_1 : S1x16.BroadcastsInDim S2048x16 (![0, 1] : Fin 2 → Fin S2048x16.rank)
  natLt_1_32 : 1 < 32
  reducesTo_S2048x16_S16_d0 : S2048x16.ReducesTo [0] S16
  h_S_ : 0 < S_.numel
  bcast_S_S2048 : S_.BroadcastsInDim S2048 (![] : Fin 0 → Fin S2048.rank)
  reducesTo_S2048_S_d0 : S2048.ReducesTo [0] S_
  bcast_S_S16 : S_.BroadcastsInDim S16 (![] : Fin 0 → Fin S16.rank)
  reducesTo_S16_S_d0 : S16.ReducesTo [0] S_

variable [Facts]

def fn {F : FTy → Type} [FloatOps F] (main_arg0 : FVec F S2048x1024 .f32) (main_arg1 : IVec S2048 32) (main_arg2 : FVec F S4x1024x2048 .f32) (main_arg3 : FVec F S4x2048x1024 .f32) : IVec S_ 1 :=
  let main_v0 : IVec S2048x1 32 := broadcastInDim S2048x1 ![0] bcast_S2048_S2048x1_0 main_arg1
  let main_v1 : IVec S16 32 := iotaInDim S16 32 0
  let main_v2 : IVec S1x16 32 := broadcastInDim S1x16 ![1] bcast_S16_S1x16_1 main_v1
  let main_v3 : IVec S2048x16 32 := broadcastInDim S2048x16 ![0, 1] bcast_S2048x1_S2048x16_0_1 main_v0
  let main_v4 : IVec S2048x16 32 := broadcastInDim S2048x16 ![0, 1] bcast_S1x16_S2048x16_0_1 main_v2
  let main_v5 : IVec S2048x16 1 := cmpi .eq main_v3 main_v4
  let main_v6 : IVec S2048x16 32 := (extui 32 · natLt_1_32) main_v5
  let main_c : IVec S_ 32 := constantI S_ 32 0#32
  let main_v7 : IVec S16 32 := (fun x v => Host.reduce IntOp.addi x v reducesTo_S2048x16_S16_d0 h_S_) main_v6 main_c
  let main_c_0 : IVec S_ 32 := constantI S_ 32 0#32
  let main_v8 : IVec S2048 32 := broadcastInDim S2048 ![] bcast_S_S2048 main_c_0
  let main_v9 : IVec S2048 1 := cmpi .sge main_arg1 main_v8
  let main_c_1 : IVec S_ 32 := constantI S_ 32 16#32
  let main_v10 : IVec S2048 32 := broadcastInDim S2048 ![] bcast_S_S2048 main_c_1
  let main_v11 : IVec S2048 1 := cmpi .slt main_arg1 main_v10
  let main_v12 : IVec S2048 1 := andi main_v9 main_v11
  let main_c_2 : IVec S_ 1 := constantI S_ 1 1#1
  let main_v13 : IVec S_ 1 := (fun x v => Host.reduce IntOp.andi x v reducesTo_S2048_S_d0 h_S_) main_v12 main_c_2
  let main_c_3 : IVec S_ 32 := constantI S_ 32 160#32
  let main_v14 : IVec S16 32 := broadcastInDim S16 ![] bcast_S_S16 main_c_3
  let main_v15 : IVec S16 1 := cmpi .sle main_v7 main_v14
  let main_c_4 : IVec S_ 1 := constantI S_ 1 1#1
  let main_v16 : IVec S_ 1 := (fun x v => Host.reduce IntOp.andi x v reducesTo_S16_S_d0 h_S_) main_v15 main_c_4
  let main_v17 : IVec S_ 1 := andi main_v13 main_v16
  main_v17
-- ==== Pre_routed_ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S_ : Shape := ⟨0, ![]⟩

class Facts : Prop where
  bcast_S8192_S8192x1_0 : S8192.BroadcastsInDim S8192x1 (![0] : Fin 1 → Fin S8192x1.rank)
  bcast_S16_S1x16_1 : S16.BroadcastsInDim S1x16 (![1] : Fin 1 → Fin S1x16.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  reducesTo_S8192x16_S16_d0 : S8192x16.ReducesTo [0] S16
  h_S_ : 0 < S_.numel
  bcast_S_S8192 : S_.BroadcastsInDim S8192 (![] : Fin 0 → Fin S8192.rank)
  reducesTo_S8192_S_d0 : S8192.ReducesTo [0] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8192x1024 .f32) (main_arg1 : IVec S8192 32) (main_arg2 : FVec F S16x1024x2048 .f32) (main_arg3 : FVec F S16x2048x1024 .f32) : IVec S_ 1 :=
  let main_v0 : IVec S8192x1 32 := broadcastInDim S8192x1 ![0] bcast_S8192_S8192x1_0 main_arg1
  let main_v1 : IVec S16 32 := iotaInDim S16 32 0
  let main_v2 : IVec S1x16 32 := broadcastInDim S1x16 ![1] bcast_S16_S1x16_1 main_v1
  let main_v3 : IVec S8192x16 32 := broadcastInDim S8192x16 ![0, 1] bcast_S8192x1_S8192x16_0_1 main_v0
  let main_v4 : IVec S8192x16 32 := broadcastInDim S8192x16 ![0, 1] bcast_S1x16_S8192x16_0_1 main_v2
  let main_v5 : IVec S8192x16 1 := cmpi .eq main_v3 main_v4
  let main_v6 : IVec S8192x16 32 := (extui 32 · natLt_1_32) main_v5
  let main_c : IVec S_ 32 := constantI S_ 32 0#32
  let main_v7 : IVec S16 32 := (fun x v => Host.reduce IntOp.addi x v reducesTo_S8192x16_S16_d0 h_S_) main_v6 main_c
  let main_c_0 : IVec S_ 32 := constantI S_ 32 0#32
  let main_v8 : IVec S8192 32 := broadcastInDim S8192 ![] bcast_S_S8192 main_c_0
  let main_v9 : IVec S8192 1 := cmpi .sge main_arg1 main_v8
  let main_c_1 : IVec S_ 32 := constantI S_ 32 16#32
  let main_v10 : IVec S8192 32 := broadcastInDim S8192 ![] bcast_S_S8192 main_c_1
  let main_v11 : IVec S8192 1 := cmpi .slt main_arg1 main_v10
  let main_v12 : IVec S8192 1 := andi main_v9 main_v11
  let main_c_2 : IVec S_ 1 := constantI S_ 1 1#1
  let main_v13 : IVec S_ 1 := (fun x v => Host.reduce IntOp.andi x v reducesTo_S8192_S_d0 h_S_) main_v12 main_c_2
  let main_c_3 : IVec S_ 32 := constantI S_ 32 160#32
  let main_v14 : IVec S16 32 := broadcastInDim S16 ![] bcast_S_S16 main_c_3
  let main_v15 : IVec S16 1 := cmpi .sle main_v7 main_v14
  let main_c_4 : IVec S_ 1 := constantI S_ 1 1#1
  let main_v16 : IVec S_ 1 := (fun x v => Host.reduce IntOp.andi x v reducesTo_S16_S_d0 h_S_) main_v15 main_c_4
  let main_v17 : IVec S_ 1 := andi main_v13 main_v16
  main_v17
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S2048x1 : Shape := ⟨2, ![2048, 1]⟩
abbrev S16 : Shape := ⟨1, ![16]⟩
abbrev S1x16 : Shape := ⟨2, ![1, 16]⟩
abbrev S2048x16 : Shape := ⟨2, ![2048, 16]⟩
abbrev S1x2048 : Shape := ⟨2, ![1, 2048]⟩
abbrev S640x2048 : Shape := ⟨2, ![640, 2048]⟩
abbrev S2048x640 : Shape := ⟨2, ![2048, 640]⟩
abbrev S2560x1024 : Shape := ⟨2, ![2560, 1024]⟩
abbrev S4x4x160x1024 : Shape := ⟨4, ![4, 4, 160, 1024]⟩
abbrev S4x3x160x1024 : Shape := ⟨4, ![4, 3, 160, 1024]⟩
abbrev S1024x2048 : Shape := ⟨2, ![1024, 2048]⟩
abbrev S4x4 : Shape := ⟨2, ![4, 4]⟩
abbrev S2 : Shape := ⟨1, ![2]⟩
abbrev S1 : Shape := ⟨1, ![1]⟩
abbrev S1x1024x2048 : Shape := ⟨3, ![1, 1024, 2048]⟩
abbrev S1x2048x1024 : Shape := ⟨3, ![1, 2048, 1024]⟩
abbrev S160x2048 : Shape := ⟨2, ![160, 2048]⟩
abbrev S160x1024 : Shape := ⟨2, ![160, 1024]⟩
abbrev S1x1 : Shape := ⟨2, ![1, 1]⟩
abbrev S1x1x160x1024 : Shape := ⟨4, ![1, 1, 160, 1024]⟩
abbrev S640x1024 : Shape := ⟨2, ![640, 1024]⟩
abbrev S1x4x160x1024 : Shape := ⟨4, ![1, 4, 160, 1024]⟩
abbrev S4x160x1024 : Shape := ⟨3, ![4, 160, 1024]⟩
abbrev S480x1024 : Shape := ⟨2, ![480, 1024]⟩
abbrev S3x160x1024 : Shape := ⟨3, ![3, 160, 1024]⟩
abbrev S1x3x160x1024 : Shape := ⟨4, ![1, 3, 160, 1024]⟩

abbrev nBuf : Space → Nat
  | .hbm => 112
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2048x1, .i32⟩
  | .hbm, ⟨11, _⟩ => ⟨S16, .i32⟩
  | .hbm, ⟨12, _⟩ => ⟨S1x16, .i32⟩
  | .hbm, ⟨13, _⟩ => ⟨S2048x16, .i32⟩
  | .hbm, ⟨14, _⟩ => ⟨S2048x16, .i32⟩
  | .hbm, ⟨15, _⟩ => ⟨S2048x16, .i1⟩
  | .hbm, ⟨16, _⟩ => ⟨S2048x16, .i32⟩
  | .hbm, ⟨17, _⟩ => ⟨S_, .i32⟩
  | .hbm, ⟨18, _⟩ => ⟨S_, .i32⟩
  | .hbm, ⟨19, _⟩ => ⟨S2048x16, .i32⟩
  | .hbm, ⟨20, _⟩ => ⟨S_, .i32⟩
  | .hbm, ⟨21, _⟩ => ⟨S2048x16, .i32⟩
  | .hbm, ⟨22, _⟩ => ⟨S2048x16, .i32⟩
  | .hbm, ⟨23, _⟩ => ⟨S_, .i32⟩
  | .hbm, ⟨24, _⟩ => ⟨S_, .i32⟩
  | .hbm, ⟨25, _⟩ => ⟨S2048x16, .i32⟩
  | .hbm, ⟨26, _⟩ => ⟨S2048x16, .i32⟩
  | .hbm, ⟨27, _⟩ => ⟨S_, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i1⟩
  | .hbm, ⟨61, _⟩ => ⟨S_, .i32⟩
  | .hbm, ⟨62, _⟩ => ⟨S_, .i1⟩
  | .hbm, ⟨63, _⟩ => ⟨S2048, .i1⟩
  | .hbm, ⟨64, _⟩ => ⟨S2048, .i1⟩
  | .hbm, ⟨65, _⟩ => ⟨S2048, .i1⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S_, .i32⟩
  | .hbm, ⟨80, _⟩ => ⟨S2048, .i32⟩
  | .hbm, ⟨81, _⟩ => ⟨S2048, .i1⟩
  | .hbm, ⟨82, _⟩ => ⟨S_, .i32⟩
  | .hbm, ⟨83, _⟩ => ⟨S2048, .i32⟩
  | .hbm, ⟨84, _⟩ => ⟨S2048, .i1⟩
  | .hbm, ⟨85, _⟩ => ⟨S_, .i32⟩
  | .hbm, ⟨86, _⟩ => ⟨S_, .i1⟩
  | .hbm, ⟨87, _⟩ => ⟨S2048, .i1⟩
  | .hbm, ⟨88, _⟩ => ⟨S2048, .i1⟩
  | .hbm, ⟨89, _⟩ => ⟨S2048, .i1⟩
  | .hbm, ⟨90, _⟩ => ⟨S2048, .i32⟩
  | .hbm, ⟨91, _⟩ => ⟨S2048, .i32⟩
  | .hbm, ⟨92, _⟩ => ⟨S2048, .i32⟩
  | .hbm, ⟨93, _⟩ => ⟨S_, .i32⟩
  | .hbm, ⟨94, _⟩ => ⟨S2048, .i32⟩
  | .hbm, ⟨95, _⟩ => ⟨S2048, .i32⟩
  | .hbm, ⟨96, _⟩ => ⟨S2048, .i32⟩
  | .hbm, ⟨97, _⟩ => ⟨S_, .i32⟩
  | .hbm, ⟨98, _⟩ => ⟨S2048, .i32⟩
  | .hbm, ⟨99, _⟩ => ⟨S2048, .i32⟩
  | .hbm, ⟨100, _⟩ => ⟨S2048, .i32⟩
  | .hbm, ⟨101, _⟩ => ⟨S_, .i32⟩
  | .hbm, ⟨102, _⟩ => ⟨S2048, .i32⟩
  | .hbm, ⟨103, _⟩ => ⟨S2048, .i1⟩
  | .hbm, ⟨104, _⟩ => ⟨S_, .i32⟩
  | .hbm, ⟨105, _⟩ => ⟨S_, .i32⟩
  | .hbm, ⟨106, _⟩ => ⟨S2048, .i32⟩
  | .hbm, ⟨107, _⟩ => ⟨S2048, .i32⟩
  | .hbm, ⟨108, _⟩ => ⟨S2048x1024, .bf16⟩
  | .hbm, ⟨109, _⟩ => ⟨S1x2048, .i32⟩
  | .hbm, ⟨110, _⟩ => ⟨S2048x1, .i32⟩
  | .hbm, ⟨111, _⟩ => ⟨S2048x1024, .f32⟩
  | .local _ .vmem, ⟨0, _⟩ => ⟨S2048x1024, .bf16⟩
  | .local _ .vmem, ⟨1, _⟩ => ⟨S1x2048, .i32⟩
  | .local _ .vmem, ⟨2, _⟩ => ⟨S2048x1, .i32⟩
  | .local _ .vmem, ⟨3, _⟩ => ⟨S2048x1024, .f32⟩
  | .local _ .vmem, ⟨4, _⟩ => ⟨S640x2048, .bf16⟩
  | .local _ .vmem, ⟨5, _⟩ => ⟨S2048x640, .bf16⟩
  | .local _ .vmem, ⟨6, _⟩ => ⟨S2560x1024, .bf16⟩
  | .local _ .vmem, ⟨7, _⟩ => ⟨S4x4x160x1024, .bf16⟩
  | .local _ .vmem, ⟨8, _⟩ => ⟨S4x3x160x1024, .bf16⟩
  | .local _ .vmem, ⟨9, _⟩ => ⟨S2560x1024, .bf16⟩
  | .local _ .vmem, ⟨10, _⟩ => ⟨S1024x2048, .f32⟩
  | .local _ .vmem, ⟨11, _⟩ => ⟨S2048x1024, .f32⟩
  | .local _ .vmem, ⟨12, _⟩ => ⟨S640x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_call0_c : Ref sig .tc := ⟨.hbm, 17, rfl⟩
abbrev main_call0_call0_v0 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_c_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v17 : Ref sig .tc := ⟨.hbm, 46, rfl⟩
abbrev main_c_5 : Ref sig .tc := ⟨.hbm, 47, rfl⟩
abbrev main_call3_v0 : Ref sig .tc := ⟨.hbm, 48, rfl⟩
abbrev main_call3_c : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_c_1 : Ref sig .tc := ⟨.hbm, 55, rfl⟩
abbrev main_call3_v5 : Ref sig .tc := ⟨.hbm, 56, rfl⟩
abbrev main_call3_v6 : Ref sig .tc := ⟨.hbm, 57, rfl⟩
abbrev main_call3_c_2 : Ref sig .tc := ⟨.hbm, 58, rfl⟩
abbrev main_call3_v7 : Ref sig .tc := ⟨.hbm, 59, rfl⟩
abbrev main_call3_v8 : Ref sig .tc := ⟨.hbm, 60, rfl⟩
abbrev main_call3_c_3 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_6 : Ref sig .tc := ⟨.hbm, 71, rfl⟩
abbrev main_call4_v0 : Ref sig .tc := ⟨.hbm, 72, rfl⟩
abbrev main_call4_c : Ref sig .tc := ⟨.hbm, 73, rfl⟩
abbrev main_call4_v1 : Ref sig .tc := ⟨.hbm, 74, rfl⟩
abbrev main_call4_c_0 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_c_1 : Ref sig .tc := ⟨.hbm, 79, rfl⟩
abbrev main_call4_v5 : Ref sig .tc := ⟨.hbm, 80, rfl⟩
abbrev main_call4_v6 : Ref sig .tc := ⟨.hbm, 81, rfl⟩
abbrev main_call4_c_2 : Ref sig .tc := ⟨.hbm, 82, rfl⟩
abbrev main_call4_v7 : Ref sig .tc := ⟨.hbm, 83, rfl⟩
abbrev main_call4_v8 : Ref sig .tc := ⟨.hbm, 84, rfl⟩
abbrev main_call4_c_3 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_v12 : Ref sig .tc := ⟨.hbm, 89, rfl⟩
abbrev main_call4_v13 : Ref sig .tc := ⟨.hbm, 90, rfl⟩
abbrev main_call4_v14 : Ref sig .tc := ⟨.hbm, 91, rfl⟩
abbrev main_v21 : Ref sig .tc := ⟨.hbm, 92, rfl⟩
abbrev main_c_7 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_c_8 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_c_9 : Ref sig .tc := ⟨.hbm, 101, rfl⟩
abbrev main_v28 : Ref sig .tc := ⟨.hbm, 102, rfl⟩
abbrev main_v29 : Ref sig .tc := ⟨.hbm, 103, rfl⟩
abbrev main_c_10 : Ref sig .tc := ⟨.hbm, 104, rfl⟩
abbrev main_call5_v0 : Ref sig .tc := ⟨.hbm, 105, rfl⟩
abbrev main_call5_v1 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v73 : BitVec 32 := Scalar.addi v2 c1_i32_44
  let c4_i32_45 : BitVec 32 := 4#32
  let c0_i32_46 : BitVec 32 := 0#32
  let v74 : BitVec 1 := Scalar.cmpi .eq c4_i32_45 c0_i32_46
  let c1_i32_47 : BitVec 32 := 1#32
  let v75 : BitVec 32 := Scalar.select v74 c1_i32_47 c4_i32_45
  let v76 : BitVec 32 := Scalar.remsi v73 v75
  let c0_i32_49 : BitVec 32 := 0#32
  let v78 : BitVec 1 := Scalar.cmpi .slt v76 c0_i32_49
  let c0_i32_50 : BitVec 32 := 0#32
  let v79 : BitVec 1 := Scalar.cmpi .slt v75 c0_i32_50
  let v80 : BitVec 1 := Scalar.xori v78 v79
  let c0_i32_48 : BitVec 32 := 0#32
  let v77 : BitVec 1 := Scalar.cmpi .ne v76 c0_i32_48
  let v81 : BitVec 1 := Scalar.andi v80 v77
  let v82 : BitVec 32 := Scalar.addi v76 v75
  let v83 : BitVec 32 := Scalar.select v81 v82 v76
  let c1_i32_57 : BitVec 32 := 1#32
  let v84 : BitVec 32 := Scalar.muli v83 c1_i32_57
  let v85 : BitVec 32 := Scalar.addi c0_i32_58 v84
  v85.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v113 : BitVec 32 := Scalar.addi v2 c2_i32_73
  let c4_i32_74 : BitVec 32 := 4#32
  let c0_i32_75 : BitVec 32 := 0#32
  let v114 : BitVec 1 := Scalar.cmpi .eq c4_i32_74 c0_i32_75
  let c1_i32_76 : BitVec 32 := 1#32
  let v115 : BitVec 32 := Scalar.select v114 c1_i32_76 c4_i32_74
  let v116 : BitVec 32 := Scalar.remsi v113 v115
  let c0_i32_78 : BitVec 32 := 0#32
  let v118 : BitVec 1 := Scalar.cmpi .slt v116 c0_i32_78
  let c0_i32_79 : BitVec 32 := 0#32
  let v119 : BitVec 1 := Scalar.cmpi .slt v115 c0_i32_79
  let v120 : BitVec 1 := Scalar.xori v118 v119
  let c0_i32_77 : BitVec 32 := 0#32
  let v117 : BitVec 1 := Scalar.cmpi .ne v116 c0_i32_77
  let v121 : BitVec 1 := Scalar.andi v120 v117
  let v122 : BitVec 32 := Scalar.addi v116 v115
  let v123 : BitVec 32 := Scalar.select v121 v122 v116
  let c1_i32_86 : BitVec 32 := 1#32
  let v124 : BitVec 32 := Scalar.muli v123 c1_i32_86
  let v125 : BitVec 32 := Scalar.addi c0_i32_87 v124
  v125.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_102 : BitVec 32 := 3#32
  let v153 : BitVec 32 := Scalar.addi v2 c3_i32_102
  let c4_i32_103 : BitVec 32 := 4#32
  let c0_i32_104 : BitVec 32 := 0#32
  let v154 : BitVec 1 := Scalar.cmpi .eq c4_i32_103 c0_i32_104
  let c1_i32_105 : BitVec 32 := 1#32
  let v155 : BitVec 32 := Scalar.select v154 c1_i32_105 c4_i32_103
  let v156 : BitVec 32 := Scalar.remsi v153 v155
  let c0_i32_107 : BitVec 32 := 0#32
  let v158 : BitVec 1 := Scalar.cmpi .slt v156 c0_i32_107
  let c0_i32_108 : BitVec 32 := 0#32
  let v159 : BitVec 1 := Scalar.cmpi .slt v155 c0_i32_108
  let v160 : BitVec 1 := Scalar.xori v158 v159
  let c0_i32_106 : BitVec 32 := 0#32
  let v157 : BitVec 1 := Scalar.cmpi .ne v156 c0_i32_106
  let v161 : BitVec 1 := Scalar.andi v160 v157
  let v162 : BitVec 32 := Scalar.addi v156 v155
  let v163 : BitVec 32 := Scalar.select v161 v162 v156
  let c1_i32_115 : BitVec 32 := 1#32
  let v164 : BitVec 32 := Scalar.muli v163 c1_i32_115
  let v165 : BitVec 32 := Scalar.addi c0_i32_116 v164
  v165.toNat
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_148 : BitVec 32 := 1#32
  let v217 : BitVec 32 := Scalar.addi v2 c1_i32_148
  let c4_i32_149 : BitVec 32 := 4#32
  let c0_i32_150 : BitVec 32 := 0#32
  let v218 : BitVec 1 := Scalar.cmpi .eq c4_i32_149 c0_i32_150
  let c1_i32_151 : BitVec 32 := 1#32
  let v219 : BitVec 32 := Scalar.select v218 c1_i32_151 c4_i32_149
  let v220 : BitVec 32 := Scalar.remsi v217 v219
  let c0_i32_153 : BitVec 32 := 0#32
  let v222 : BitVec 1 := Scalar.cmpi .slt v220 c0_i32_153
  let c0_i32_154 : BitVec 32 := 0#32
  let v223 : BitVec 1 := Scalar.cmpi .slt v219 c0_i32_154
  let v224 : BitVec 1 := Scalar.xori v222 v223
  let c0_i32_152 : BitVec 32 := 0#32
  let v221 : BitVec 1 := Scalar.cmpi .ne v220 c0_i32_152
  let v225 : BitVec 1 := Scalar.andi v224 v221
  let v226 : BitVec 32 := Scalar.addi v220 v219
  let v227 : BitVec 32 := Scalar.select v225 v226 v220
  let c1_i32_161 : BitVec 32 := 1#32
  let v228 : BitVec 32 := Scalar.muli v227 c1_i32_161
  let v229 : BitVec 32 := Scalar.addi c0_i32_162 v228
  v229.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_166 : BitVec 32 := 2#32
  let v237 : BitVec 32 := Scalar.addi v2 c2_i32_166
  let c4_i32_167 : BitVec 32 := 4#32
  let c0_i32_168 : BitVec 32 := 0#32
  let v238 : BitVec 1 := Scalar.cmpi .eq c4_i32_167 c0_i32_168
  let c1_i32_169 : BitVec 32 := 1#32
  let v239 : BitVec 32 := Scalar.select v238 c1_i32_169 c4_i32_167
  let v240 : BitVec 32 := Scalar.remsi v237 v239
  let c0_i32_171 : BitVec 32 := 0#32
  let v242 : BitVec 1 := Scalar.cmpi .slt v240 c0_i32_171
  let c0_i32_172 : BitVec 32 := 0#32
  let v243 : BitVec 1 := Scalar.cmpi .slt v239 c0_i32_172
  let v244 : BitVec 1 := Scalar.xori v242 v243
  let c0_i32_170 : BitVec 32 := 0#32
  let v241 : BitVec 1 := Scalar.cmpi .ne v240 c0_i32_170
  let v245 : BitVec 1 := Scalar.andi v244 v241
  let v246 : BitVec 32 := Scalar.addi v240 v239
  let v247 : BitVec 32 := Scalar.select v245 v246 v240
  let c1_i32_179 : BitVec 32 := 1#32
  let v248 : BitVec 32 := Scalar.muli v247 c1_i32_179
  let v249 : BitVec 32 := Scalar.addi c0_i32_180 v248
  v249.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_184 : BitVec 32 := 3#32
  let v257 : BitVec 32 := Scalar.addi v2 c3_i32_184
  let c4_i32_185 : BitVec 32 := 4#32
  let c0_i32_186 : BitVec 32 := 0#32
  let v258 : BitVec 1 := Scalar.cmpi .eq c4_i32_185 c0_i32_186
  let c1_i32_187 : BitVec 32 := 1#32
  let v259 : BitVec 32 := Scalar.select v258 c1_i32_187 c4_i32_185
  let v260 : BitVec 32 := Scalar.remsi v257 v259
  let c0_i32_189 : BitVec 32 := 0#32
  let v262 : BitVec 1 := Scalar.cmpi .slt v260 c0_i32_189
  let c0_i32_190 : BitVec 32 := 0#32
  let v263 : BitVec 1 := Scalar.cmpi .slt v259 c0_i32_190
  let v264 : BitVec 1 := Scalar.xori v262 v263
  let c0_i32_188 : BitVec 32 := 0#32
  let v261 : BitVec 1 := Scalar.cmpi .ne v260 c0_i32_188
  let v265 : BitVec 1 := Scalar.andi v264 v261
  let v266 : BitVec 32 := Scalar.addi v260 v259
  let v267 : BitVec 32 := Scalar.select v265 v266 v260
  let c1_i32_197 : BitVec 32 := 1#32
  let v268 : BitVec 32 := Scalar.muli v267 c1_i32_197
  let v269 : BitVec 32 := Scalar.addi c0_i32_198 v268
  v269.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_215 : BitVec 32 := 1#32
  let v301 : BitVec 32 := Scalar.addi v2 c1_i32_215
  let c4_i32_216 : BitVec 32 := 4#32
  let c0_i32_217 : BitVec 32 := 0#32
  let v302 : BitVec 1 := Scalar.cmpi .eq c4_i32_216 c0_i32_217
  let c1_i32_218 : BitVec 32 := 1#32
  let v303 : BitVec 32 := Scalar.select v302 c1_i32_218 c4_i32_216
  let v304 : BitVec 32 := Scalar.remsi v301 v303
  let c0_i32_220 : BitVec 32 := 0#32
  let v306 : BitVec 1 := Scalar.cmpi .slt v304 c0_i32_220
  let c0_i32_221 : BitVec 32 := 0#32
  let v307 : BitVec 1 := Scalar.cmpi .slt v303 c0_i32_221
  let v308 : BitVec 1 := Scalar.xori v306 v307
  let c0_i32_219 : BitVec 32 := 0#32
  let v305 : BitVec 1 := Scalar.cmpi .ne v304 c0_i32_219
  let v309 : BitVec 1 := Scalar.andi v308 v305
  let v310 : BitVec 32 := Scalar.addi v304 v303
  let v311 : BitVec 32 := Scalar.select v309 v310 v304
  let c1_i32_228 : BitVec 32 := 1#32
  let v312 : BitVec 32 := Scalar.muli v311 c1_i32_228
  let v313 : BitVec 32 := Scalar.addi c0_i32_229 v312
  v313.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_233 : BitVec 32 := 2#32
  let v321 : BitVec 32 := Scalar.addi v2 c2_i32_233
  let c4_i32_234 : BitVec 32 := 4#32
  let c0_i32_235 : BitVec 32 := 0#32
  let v322 : BitVec 1 := Scalar.cmpi .eq c4_i32_234 c0_i32_235
  let c1_i32_236 : BitVec 32 := 1#32
  let v323 : BitVec 32 := Scalar.select v322 c1_i32_236 c4_i32_234
  let v324 : BitVec 32 := Scalar.remsi v321 v323
  let c0_i32_238 : BitVec 32 := 0#32
  let v326 : BitVec 1 := Scalar.cmpi .slt v324 c0_i32_238
  let c0_i32_239 : BitVec 32 := 0#32
  let v327 : BitVec 1 := Scalar.cmpi .slt v323 c0_i32_239
  let v328 : BitVec 1 := Scalar.xori v326 v327
  let c0_i32_237 : BitVec 32 := 0#32
  let v325 : BitVec 1 := Scalar.cmpi .ne v324 c0_i32_237
  let v329 : BitVec 1 := Scalar.andi v328 v325
  let v330 : BitVec 32 := Scalar.addi v324 v323
  let v331 : BitVec 32 := Scalar.select v329 v330 v324
  let c1_i32_246 : BitVec 32 := 1#32
  let v332 : BitVec 32 := Scalar.muli v331 c1_i32_246
  let v333 : BitVec 32 := Scalar.addi c0_i32_247 v332
  v333.toNat
def k0_dev12 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v341 : BitVec 32 := Scalar.addi v2 c3_i32_251
  let c4_i32_252 : BitVec 32 := 4#32
  let c0_i32_253 : BitVec 32 := 0#32
  let v342 : BitVec 1 := Scalar.cmpi .eq c4_i32_252 c0_i32_253
  let c1_i32_254 : BitVec 32 := 1#32
  let v343 : BitVec 32 := Scalar.select v342 c1_i32_254 c4_i32_252
  let v344 : BitVec 32 := Scalar.remsi v341 v343
  let c0_i32_256 : BitVec 32 := 0#32
  let v346 : BitVec 1 := Scalar.cmpi .slt v344 c0_i32_256
  let c0_i32_257 : BitVec 32 := 0#32
  let v347 : BitVec 1 := Scalar.cmpi .slt v343 c0_i32_257
  let v348 : BitVec 1 := Scalar.xori v346 v347
  let c0_i32_255 : BitVec 32 := 0#32
  let v345 : BitVec 1 := Scalar.cmpi .ne v344 c0_i32_255
  let v349 : BitVec 1 := Scalar.andi v348 v345
  let v350 : BitVec 32 := Scalar.addi v344 v343
  let v351 : BitVec 32 := Scalar.select v349 v350 v344
  let c1_i32_264 : BitVec 32 := 1#32
  let v352 : BitVec 32 := Scalar.muli v351 c1_i32_264
  let v353 : BitVec 32 := Scalar.addi c0_i32_265 v352
  v353.toNat
def k0_dev13 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_282 : BitVec 32 := 1#32
  let v385 : BitVec 32 := Scalar.addi v2 c1_i32_282
  let c4_i32_283 : BitVec 32 := 4#32
  let c0_i32_284 : BitVec 32 := 0#32
  let v386 : BitVec 1 := Scalar.cmpi .eq c4_i32_283 c0_i32_284
  let c1_i32_285 : BitVec 32 := 1#32
  let v387 : BitVec 32 := Scalar.select v386 c1_i32_285 c4_i32_283
  let v388 : BitVec 32 := Scalar.remsi v385 v387
  let c0_i32_287 : BitVec 32 := 0#32
  let v390 : BitVec 1 := Scalar.cmpi .slt v388 c0_i32_287
  let c0_i32_288 : BitVec 32 := 0#32
  let v391 : BitVec 1 := Scalar.cmpi .slt v387 c0_i32_288
  let v392 : BitVec 1 := Scalar.xori v390 v391
  let c0_i32_286 : BitVec 32 := 0#32
  let v389 : BitVec 1 := Scalar.cmpi .ne v388 c0_i32_286
  let v393 : BitVec 1 := Scalar.andi v392 v389
  let v394 : BitVec 32 := Scalar.addi v388 v387
  let v395 : BitVec 32 := Scalar.select v393 v394 v388
  let c1_i32_295 : BitVec 32 := 1#32
  let v396 : BitVec 32 := Scalar.muli v395 c1_i32_295
  let v397 : BitVec 32 := Scalar.addi c0_i32_296 v396
  v397.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v405 : BitVec 32 := Scalar.addi v2 c2_i32_300
  let c4_i32_301 : BitVec 32 := 4#32
  let c0_i32_302 : BitVec 32 := 0#32
  let v406 : BitVec 1 := Scalar.cmpi .eq c4_i32_301 c0_i32_302
  let c1_i32_303 : BitVec 32 := 1#32
  let v407 : BitVec 32 := Scalar.select v406 c1_i32_303 c4_i32_301
  let v408 : BitVec 32 := Scalar.remsi v405 v407
  let c0_i32_305 : BitVec 32 := 0#32
  let v410 : BitVec 1 := Scalar.cmpi .slt v408 c0_i32_305
  let c0_i32_306 : BitVec 32 := 0#32
  let v411 : BitVec 1 := Scalar.cmpi .slt v407 c0_i32_306
  let v412 : BitVec 1 := Scalar.xori v410 v411
  let c0_i32_304 : BitVec 32 := 0#32
  let v409 : BitVec 1 := Scalar.cmpi .ne v408 c0_i32_304
  let v413 : BitVec 1 := Scalar.andi v412 v409
  let v414 : BitVec 32 := Scalar.addi v408 v407
  let v415 : BitVec 32 := Scalar.select v413 v414 v408
  let c1_i32_313 : BitVec 32 := 1#32
  let v416 : BitVec 32 := Scalar.muli v415 c1_i32_313
  let v417 : BitVec 32 := Scalar.addi c0_i32_314 v416
  v417.toNat
def k0_dev15 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_318 : BitVec 32 := 3#32
  let v425 : BitVec 32 := Scalar.addi v2 c3_i32_318
  let c4_i32_319 : BitVec 32 := 4#32
  let c0_i32_320 : BitVec 32 := 0#32
  let v426 : BitVec 1 := Scalar.cmpi .eq c4_i32_319 c0_i32_320
  let c1_i32_321 : BitVec 32 := 1#32
  let v427 : BitVec 32 := Scalar.select v426 c1_i32_321 c4_i32_319
  let v428 : BitVec 32 := Scalar.remsi v425 v427
  let c0_i32_323 : BitVec 32 := 0#32
  let v430 : BitVec 1 := Scalar.cmpi .slt v428 c0_i32_323
  let c0_i32_324 : BitVec 32 := 0#32
  let v431 : BitVec 1 := Scalar.cmpi .slt v427 c0_i32_324
  let v432 : BitVec 1 := Scalar.xori v430 v431
  let c0_i32_322 : BitVec 32 := 0#32
  let v429 : BitVec 1 := Scalar.cmpi .ne v428 c0_i32_322
  let v433 : BitVec 1 := Scalar.andi v432 v429
  let v434 : BitVec 32 := Scalar.addi v428 v427
  let v435 : BitVec 32 := Scalar.select v433 v434 v428
  let c1_i32_331 : BitVec 32 := 1#32
  let v436 : BitVec 32 := Scalar.muli v435 c1_i32_331
  let v437 : BitVec 32 := Scalar.addi c0_i32_332 v436
  v437.toNat
def k0_dev16 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_422 : BitVec 32 := 1#32
  let v532 : BitVec 32 := Scalar.subi v2 c1_i32_422
  let c4_i32_423 : BitVec 32 := 4#32
  let c0_i32_424 : BitVec 32 := 0#32
  let v533 : BitVec 1 := Scalar.cmpi .eq c4_i32_423 c0_i32_424
  let c1_i32_425 : BitVec 32 := 1#32
  let v534 : BitVec 32 := Scalar.select v533 c1_i32_425 c4_i32_423
  let v535 : BitVec 32 := Scalar.remsi v532 v534
  let c0_i32_427 : BitVec 32 := 0#32
  let v537 : BitVec 1 := Scalar.cmpi .slt v535 c0_i32_427
  let c0_i32_428 : BitVec 32 := 0#32
  let v538 : BitVec 1 := Scalar.cmpi .slt v534 c0_i32_428
  let v539 : BitVec 1 := Scalar.xori v537 v538
  let c0_i32_426 : BitVec 32 := 0#32
  let v536 : BitVec 1 := Scalar.cmpi .ne v535 c0_i32_426
  let v540 : BitVec 1 := Scalar.andi v539 v536
  let v541 : BitVec 32 := Scalar.addi v535 v534
  let v542 : BitVec 32 := Scalar.select v540 v541 v535
  let c1_i32_435 : BitVec 32 := 1#32
  let v543 : BitVec 32 := Scalar.muli v542 c1_i32_435
  let v544 : BitVec 32 := Scalar.addi c0_i32_436 v543
  v544.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_441 : BitVec 32 := 2#32
  let v552 : BitVec 32 := Scalar.subi v2 c2_i32_441
  let c4_i32_442 : BitVec 32 := 4#32
  let c0_i32_443 : BitVec 32 := 0#32
  let v553 : BitVec 1 := Scalar.cmpi .eq c4_i32_442 c0_i32_443
  let c1_i32_444 : BitVec 32 := 1#32
  let v554 : BitVec 32 := Scalar.select v553 c1_i32_444 c4_i32_442
  let v555 : BitVec 32 := Scalar.remsi v552 v554
  let c0_i32_446 : BitVec 32 := 0#32
  let v557 : BitVec 1 := Scalar.cmpi .slt v555 c0_i32_446
  let c0_i32_447 : BitVec 32 := 0#32
  let v558 : BitVec 1 := Scalar.cmpi .slt v554 c0_i32_447
  let v559 : BitVec 1 := Scalar.xori v557 v558
  let c0_i32_445 : BitVec 32 := 0#32
  let v556 : BitVec 1 := Scalar.cmpi .ne v555 c0_i32_445
  let v560 : BitVec 1 := Scalar.andi v559 v556
  let v561 : BitVec 32 := Scalar.addi v555 v554
  let v562 : BitVec 32 := Scalar.select v560 v561 v555
  let c1_i32_454 : BitVec 32 := 1#32
  let v563 : BitVec 32 := Scalar.muli v562 c1_i32_454
  let v564 : BitVec 32 := Scalar.addi c0_i32_455 v563
  v564.toNat
def k0_dev18 (d0 : Dev nD) : Nat :=
  let c0_i32_474 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_460 : BitVec 32 := 3#32
  let v572 : BitVec 32 := Scalar.subi v2 c3_i32_460
  let c4_i32_461 : BitVec 32 := 4#32
  let c0_i32_462 : BitVec 32 := 0#32
  let v573 : BitVec 1 := Scalar.cmpi .eq c4_i32_461 c0_i32_462
  let c1_i32_463 : BitVec 32 := 1#32
  let v574 : BitVec 32 := Scalar.select v573 c1_i32_463 c4_i32_461
  let v575 : BitVec 32 := Scalar.remsi v572 v574
  let c0_i32_465 : BitVec 32 := 0#32
  let v577 : BitVec 1 := Scalar.cmpi .slt v575 c0_i32_465
  let c0_i32_466 : BitVec 32 := 0#32
  let v578 : BitVec 1 := Scalar.cmpi .slt v574 c0_i32_466
  let v579 : BitVec 1 := Scalar.xori v577 v578
  let c0_i32_464 : BitVec 32 := 0#32
  let v576 : BitVec 1 := Scalar.cmpi .ne v575 c0_i32_464
  let v580 : BitVec 1 := Scalar.andi v579 v576
  let v581 : BitVec 32 := Scalar.addi v575 v574
  let v582 : BitVec 32 := Scalar.select v580 v581 v575
  let c1_i32_473 : BitVec 32 := 1#32
  let v583 : BitVec 32 := Scalar.muli v582 c1_i32_473
  let v584 : BitVec 32 := Scalar.addi c0_i32_474 v583
  v584.toNat
def k0_dev19 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_573 : BitVec 32 := 1#32
  let v686 : BitVec 32 := Scalar.subi v2 c1_i32_573
  let c4_i32_574 : BitVec 32 := 4#32
  let c0_i32_575 : BitVec 32 := 0#32
  let v687 : BitVec 1 := Scalar.cmpi .eq c4_i32_574 c0_i32_575
  let c1_i32_576 : BitVec 32 := 1#32
  let v688 : BitVec 32 := Scalar.select v687 c1_i32_576 c4_i32_574
  let v689 : BitVec 32 := Scalar.remsi v686 v688
  let c0_i32_578 : BitVec 32 := 0#32
  let v691 : BitVec 1 := Scalar.cmpi .slt v689 c0_i32_578
  let c0_i32_579 : BitVec 32 := 0#32
  let v692 : BitVec 1 := Scalar.cmpi .slt v688 c0_i32_579
  let v693 : BitVec 1 := Scalar.xori v691 v692
  let c0_i32_577 : BitVec 32 := 0#32
  let v690 : BitVec 1 := Scalar.cmpi .ne v689 c0_i32_577
  let v694 : BitVec 1 := Scalar.andi v693 v690
  let v695 : BitVec 32 := Scalar.addi v689 v688
  let v696 : BitVec 32 := Scalar.select v694 v695 v689
  let c1_i32_586 : BitVec 32 := 1#32
  let v697 : BitVec 32 := Scalar.muli v696 c1_i32_586
  let v698 : BitVec 32 := Scalar.addi c0_i32_587 v697
  v698.toNat
def k0_dev20 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_592 : BitVec 32 := 2#32
  let v706 : BitVec 32 := Scalar.subi v2 c2_i32_592
  let c4_i32_593 : BitVec 32 := 4#32
  let c0_i32_594 : BitVec 32 := 0#32
  let v707 : BitVec 1 := Scalar.cmpi .eq c4_i32_593 c0_i32_594
  let c1_i32_595 : BitVec 32 := 1#32
  let v708 : BitVec 32 := Scalar.select v707 c1_i32_595 c4_i32_593
  let v709 : BitVec 32 := Scalar.remsi v706 v708
  let c0_i32_597 : BitVec 32 := 0#32
  let v711 : BitVec 1 := Scalar.cmpi .slt v709 c0_i32_597
  let c0_i32_598 : BitVec 32 := 0#32
  let v712 : BitVec 1 := Scalar.cmpi .slt v708 c0_i32_598
  let v713 : BitVec 1 := Scalar.xori v711 v712
  let c0_i32_596 : BitVec 32 := 0#32
  let v710 : BitVec 1 := Scalar.cmpi .ne v709 c0_i32_596
  let v714 : BitVec 1 := Scalar.andi v713 v710
  let v715 : BitVec 32 := Scalar.addi v709 v708
  let v716 : BitVec 32 := Scalar.select v714 v715 v709
  let c1_i32_605 : BitVec 32 := 1#32
  let v717 : BitVec 32 := Scalar.muli v716 c1_i32_605
  let v718 : BitVec 32 := Scalar.addi c0_i32_606 v717
  v718.toNat
def k0_dev21 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_611 : BitVec 32 := 3#32
  let v726 : BitVec 32 := Scalar.subi v2 c3_i32_611
  let c4_i32_612 : BitVec 32 := 4#32
  let c0_i32_613 : BitVec 32 := 0#32
  let v727 : BitVec 1 := Scalar.cmpi .eq c4_i32_612 c0_i32_613
  let c1_i32_614 : BitVec 32 := 1#32
  let v728 : BitVec 32 := Scalar.select v727 c1_i32_614 c4_i32_612
  let v729 : BitVec 32 := Scalar.remsi v726 v728
  let c0_i32_616 : BitVec 32 := 0#32
  let v731 : BitVec 1 := Scalar.cmpi .slt v729 c0_i32_616
  let c0_i32_617 : BitVec 32 := 0#32
  let v732 : BitVec 1 := Scalar.cmpi .slt v728 c0_i32_617
  let v733 : BitVec 1 := Scalar.xori v731 v732
  let c0_i32_615 : BitVec 32 := 0#32
  let v730 : BitVec 1 := Scalar.cmpi .ne v729 c0_i32_615
  let v734 : BitVec 1 := Scalar.andi v733 v730
  let v735 : BitVec 32 := Scalar.addi v729 v728
  let v736 : BitVec 32 := Scalar.select v734 v735 v729
  let c1_i32_624 : BitVec 32 := 1#32
  let v737 : BitVec 32 := Scalar.muli v736 c1_i32_624
  let v738 : BitVec 32 := Scalar.addi c0_i32_625 v737
  v738.toNat
def k0_dev22 (d0 : Dev nD) : Nat :=
  let c0_i32_807 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_793 : BitVec 32 := 1#32
  let v910 : BitVec 32 := Scalar.subi v2 c1_i32_793
  let c4_i32_794 : BitVec 32 := 4#32
  let c0_i32_795 : BitVec 32 := 0#32
  let v911 : BitVec 1 := Scalar.cmpi .eq c4_i32_794 c0_i32_795
  let c1_i32_796 : BitVec 32 := 1#32
  let v912 : BitVec 32 := Scalar.select v911 c1_i32_796 c4_i32_794
  let v913 : BitVec 32 := Scalar.remsi v910 v912
  let c0_i32_798 : BitVec 32 := 0#32
  let v915 : BitVec 1 := Scalar.cmpi .slt v913 c0_i32_798
  let c0_i32_799 : BitVec 32 := 0#32
  let v916 : BitVec 1 := Scalar.cmpi .slt v912 c0_i32_799
  let v917 : BitVec 1 := Scalar.xori v915 v916
  let c0_i32_797 : BitVec 32 := 0#32
  let v914 : BitVec 1 := Scalar.cmpi .ne v913 c0_i32_797
  let v918 : BitVec 1 := Scalar.andi v917 v914
  let v919 : BitVec 32 := Scalar.addi v913 v912
  let v920 : BitVec 32 := Scalar.select v918 v919 v913
  let c1_i32_806 : BitVec 32 := 1#32
  let v921 : BitVec 32 := Scalar.muli v920 c1_i32_806
  let v922 : BitVec 32 := Scalar.addi c0_i32_807 v921
  v922.toNat
def k0_dev23 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_812 : BitVec 32 := 2#32
  let v930 : BitVec 32 := Scalar.subi v2 c2_i32_812
  let c4_i32_813 : BitVec 32 := 4#32
  let c0_i32_814 : BitVec 32 := 0#32
  let v931 : BitVec 1 := Scalar.cmpi .eq c4_i32_813 c0_i32_814
  let c1_i32_815 : BitVec 32 := 1#32
  let v932 : BitVec 32 := Scalar.select v931 c1_i32_815 c4_i32_813
  let v933 : BitVec 32 := Scalar.remsi v930 v932
  let c0_i32_817 : BitVec 32 := 0#32
  let v935 : BitVec 1 := Scalar.cmpi .slt v933 c0_i32_817
  let c0_i32_818 : BitVec 32 := 0#32
  let v936 : BitVec 1 := Scalar.cmpi .slt v932 c0_i32_818
  let v937 : BitVec 1 := Scalar.xori v935 v936
  let c0_i32_816 : BitVec 32 := 0#32
  let v934 : BitVec 1 := Scalar.cmpi .ne v933 c0_i32_816
  let v938 : BitVec 1 := Scalar.andi v937 v934
  let v939 : BitVec 32 := Scalar.addi v933 v932
  let v940 : BitVec 32 := Scalar.select v938 v939 v933
  let c1_i32_825 : BitVec 32 := 1#32
  let v941 : BitVec 32 := Scalar.muli v940 c1_i32_825
  let v942 : BitVec 32 := Scalar.addi c0_i32_826 v941
  v942.toNat
def k0_dev24 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_831 : BitVec 32 := 3#32
  let v950 : BitVec 32 := Scalar.subi v2 c3_i32_831
  let c4_i32_832 : BitVec 32 := 4#32
  let c0_i32_833 : BitVec 32 := 0#32
  let v951 : BitVec 1 := Scalar.cmpi .eq c4_i32_832 c0_i32_833
  let c1_i32_834 : BitVec 32 := 1#32
  let v952 : BitVec 32 := Scalar.select v951 c1_i32_834 c4_i32_832
  let v953 : BitVec 32 := Scalar.remsi v950 v952
  let c0_i32_836 : BitVec 32 := 0#32
  let v955 : BitVec 1 := Scalar.cmpi .slt v953 c0_i32_836
  let c0_i32_837 : BitVec 32 := 0#32
  let v956 : BitVec 1 := Scalar.cmpi .slt v952 c0_i32_837
  let v957 : BitVec 1 := Scalar.xori v955 v956
  let c0_i32_835 : BitVec 32 := 0#32
  let v954 : BitVec 1 := Scalar.cmpi .ne v953 c0_i32_835
  let v958 : BitVec 1 := Scalar.andi v957 v954
  let v959 : BitVec 32 := Scalar.addi v953 v952
  let v960 : BitVec 32 := Scalar.select v958 v959 v953
  let c1_i32_844 : BitVec 32 := 1#32
  let v961 : BitVec 32 := Scalar.muli v960 c1_i32_844
  let v962 : BitVec 32 := Scalar.addi c0_i32_845 v961
  v962.toNat
def k0_dev25 (d0 : Dev nD) : Nat :=
  let c0_i32_1029 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1015 : BitVec 32 := 1#32
  let v1137 : BitVec 32 := Scalar.subi v2 c1_i32_1015
  let c4_i32_1016 : BitVec 32 := 4#32
  let c0_i32_1017 : BitVec 32 := 0#32
  let v1138 : BitVec 1 := Scalar.cmpi .eq c4_i32_1016 c0_i32_1017
  let c1_i32_1018 : BitVec 32 := 1#32
  let v1139 : BitVec 32 := Scalar.select v1138 c1_i32_1018 c4_i32_1016
  let v1140 : BitVec 32 := Scalar.remsi v1137 v1139
  let c0_i32_1020 : BitVec 32 := 0#32
  let v1142 : BitVec 1 := Scalar.cmpi .slt v1140 c0_i32_1020
  let c0_i32_1021 : BitVec 32 := 0#32
  let v1143 : BitVec 1 := Scalar.cmpi .slt v1139 c0_i32_1021
  let v1144 : BitVec 1 := Scalar.xori v1142 v1143
  let c0_i32_1019 : BitVec 32 := 0#32
  let v1141 : BitVec 1 := Scalar.cmpi .ne v1140 c0_i32_1019
  let v1145 : BitVec 1 := Scalar.andi v1144 v1141
  let v1146 : BitVec 32 := Scalar.addi v1140 v1139
  let v1147 : BitVec 32 := Scalar.select v1145 v1146 v1140
  let c1_i32_1028 : BitVec 32 := 1#32
  let v1148 : BitVec 32 := Scalar.muli v1147 c1_i32_1028
  let v1149 : BitVec 32 := Scalar.addi c0_i32_1029 v1148
  v1149.toNat
def k0_dev26 (d0 : Dev nD) : Nat :=
  let c0_i32_1048 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1034 : BitVec 32 := 2#32
  let v1157 : BitVec 32 := Scalar.subi v2 c2_i32_1034
  let c4_i32_1035 : BitVec 32 := 4#32
  let c0_i32_1036 : BitVec 32 := 0#32
  let v1158 : BitVec 1 := Scalar.cmpi .eq c4_i32_1035 c0_i32_1036
  let c1_i32_1037 : BitVec 32 := 1#32
  let v1159 : BitVec 32 := Scalar.select v1158 c1_i32_1037 c4_i32_1035
  let v1160 : BitVec 32 := Scalar.remsi v1157 v1159
  let c0_i32_1039 : BitVec 32 := 0#32
  let v1162 : BitVec 1 := Scalar.cmpi .slt v1160 c0_i32_1039
  let c0_i32_1040 : BitVec 32 := 0#32
  let v1163 : BitVec 1 := Scalar.cmpi .slt v1159 c0_i32_1040
  let v1164 : BitVec 1 := Scalar.xori v1162 v1163
  let c0_i32_1038 : BitVec 32 := 0#32
  let v1161 : BitVec 1 := Scalar.cmpi .ne v1160 c0_i32_1038
  let v1165 : BitVec 1 := Scalar.andi v1164 v1161
  let v1166 : BitVec 32 := Scalar.addi v1160 v1159
  let v1167 : BitVec 32 := Scalar.select v1165 v1166 v1160
  let c1_i32_1047 : BitVec 32 := 1#32
  let v1168 : BitVec 32 := Scalar.muli v1167 c1_i32_1047
  let v1169 : BitVec 32 := Scalar.addi c0_i32_1048 v1168
  v1169.toNat
def k0_dev27 (d0 : Dev nD) : Nat :=
  let c0_i32_1067 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1053 : BitVec 32 := 3#32
  let v1177 : BitVec 32 := Scalar.subi v2 c3_i32_1053
  let c4_i32_1054 : BitVec 32 := 4#32
  let c0_i32_1055 : BitVec 32 := 0#32
  let v1178 : BitVec 1 := Scalar.cmpi .eq c4_i32_1054 c0_i32_1055
  let c1_i32_1056 : BitVec 32 := 1#32
  let v1179 : BitVec 32 := Scalar.select v1178 c1_i32_1056 c4_i32_1054
  let v1180 : BitVec 32 := Scalar.remsi v1177 v1179
  let c0_i32_1058 : BitVec 32 := 0#32
  let v1182 : BitVec 1 := Scalar.cmpi .slt v1180 c0_i32_1058
  let c0_i32_1059 : BitVec 32 := 0#32
  let v1183 : BitVec 1 := Scalar.cmpi .slt v1179 c0_i32_1059
  let v1184 : BitVec 1 := Scalar.xori v1182 v1183
  let c0_i32_1057 : BitVec 32 := 0#32
  let v1181 : BitVec 1 := Scalar.cmpi .ne v1180 c0_i32_1057
  let v1185 : BitVec 1 := Scalar.andi v1184 v1181
  let v1186 : BitVec 32 := Scalar.addi v1180 v1179
  let v1187 : BitVec 32 := Scalar.select v1185 v1186 v1180
  let c1_i32_1066 : BitVec 32 := 1#32
  let v1188 : BitVec 32 := Scalar.muli v1187 c1_i32_1066
  let v1189 : BitVec 32 := Scalar.addi c0_i32_1067 v1188
  v1189.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S_ : Shape := ⟨0, ![]⟩
abbrev S1x1024x2048 : Shape := ⟨3, ![1, 1024, 2048]⟩
abbrev S1024x2048 : Shape := ⟨2, ![1024, 2048]⟩
abbrev S8192x2048 : Shape := ⟨2, ![8192, 2048]⟩
abbrev S8192x1 : Shape := ⟨2, ![8192, 1]⟩
abbrev S1x2048x1024 : Shape := ⟨3, ![1, 2048, 1024]⟩
abbrev S2048x1024 : Shape := ⟨2, ![2048, 1024]⟩

abbrev nBuf : Space → Nat
  | .hbm => 246
  | .vmem => 0
  | .smem => 0
  | _ => 0

abbrev hbmTy0_0 (i : Nat) : BufTy := match i % 128 with
  | 0 => ⟨S8192x1024, .f32⟩
  | 1 => ⟨S8192, .i32⟩
  | 2 => ⟨S16x1024x2048, .f32⟩
  | 3 => ⟨S16x2048x1024, .f32⟩
  | 4 => ⟨S_, .f32⟩
  | 5 => ⟨S8192x1024, .f32⟩
  | 6 => ⟨S1x1024x2048, .f32⟩
  | 7 => ⟨S1024x2048, .f32⟩
  | 8 => ⟨S8192x2048, .f32⟩
  | 9 => ⟨S_, .f32⟩
  | 10 => ⟨S8192x2048, .f32⟩
  | 11 => ⟨S8192x2048, .f32⟩
  | 12 => ⟨S_, .i32⟩
  | 13 => ⟨S8192, .i32⟩
  | 14 => ⟨S8192, .i1⟩
  | 15 => ⟨S8192x1, .i1⟩
  | 16 => ⟨S1x2048x1024, .f32⟩
  | 17 => ⟨S2048x1024, .f32⟩
  | 18 => ⟨S8192x1024, .f32⟩
  | 19 => ⟨S8192x1024, .i1⟩
  | 20 => ⟨S8192x1024, .f32⟩
  | 21 => ⟨S1x1024x2048, .f32⟩
  | 22 => ⟨S1024x2048, .f32⟩
  | 23 => ⟨S8192x2048, .f32⟩
  | 24 => ⟨S_, .f32⟩
  | 25 => ⟨S8192x2048, .f32⟩
  | 26 => ⟨S8192x2048, .f32⟩
  | 27 => ⟨S_, .i32⟩
  | 28 => ⟨S8192, .i32⟩
  | 29 => ⟨S8192, .i1⟩
  | 30 => ⟨S8192x1, .i1⟩
  | 31 => ⟨S1x2048x1024, .f32⟩
  | 32 => ⟨S2048x1024, .f32⟩
  | 33 => ⟨S8192x1024, .f32⟩
  | 34 => ⟨S8192x1024, .i1⟩
  | 35 => ⟨S8192x1024, .f32⟩
  | 36 => ⟨S1x1024x2048, .f32⟩
  | 37 => ⟨S1024x2048, .f32⟩
  | 38 => ⟨S8192x2048, .f32⟩
  | 39 => ⟨S_, .f32⟩
  | 40 => ⟨S8192x2048, .f32⟩
  | 41 => ⟨S8192x2048, .f32⟩
  | 42 => ⟨S_, .i32⟩
  | 43 => ⟨S8192, .i32⟩
  | 44 => ⟨S8192, .i1⟩
  | 45 => ⟨S8192x1, .i1⟩
  | 46 => ⟨S1x2048x1024, .f32⟩
  | 47 => ⟨S2048x1024, .f32⟩
  | 48 => ⟨S8192x1024, .f32⟩
  | 49 => ⟨S8192x1024, .i1⟩
  | 50 => ⟨S8192x1024, .f32⟩
  | 51 => ⟨S1x1024x2048, .f32⟩
  | 52 => ⟨S1024x2048, .f32⟩
  | 53 => ⟨S8192x2048, .f32⟩
  | 54 => ⟨S_, .f32⟩
  | 55 => ⟨S8192x2048, .f32⟩
  | 56 => ⟨S8192x2048, .f32⟩
  | 57 => ⟨S_, .i32⟩
  | 58 => ⟨S8192, .i32⟩
  | 59 => ⟨S8192, .i1⟩
  | 60 => ⟨S8192x1, .i1⟩
  | 61 => ⟨S1x2048x1024, .f32⟩
  | 62 => ⟨S2048x1024, .f32⟩
  | 63 => ⟨S8192x1024, .f32⟩
  | 64 => ⟨S8192x1024, .i1⟩
  | 65 => ⟨S8192x1024, .f32⟩
  | 66 => ⟨S1x1024x2048, .f32⟩
  | 67 => ⟨S1024x2048, .f32⟩
  | 68 => ⟨S8192x2048, .f32⟩
  | 69 => ⟨S_, .f32⟩
  | 70 => ⟨S8192x2048, .f32⟩
  | 71 => ⟨S8192x2048, .f32⟩
  | 72 => ⟨S_, .i32⟩
  | 73 => ⟨S8192, .i32⟩
  | 74 => ⟨S8192, .i1⟩
  | 75 => ⟨S8192x1, .i1⟩
  | 76 => ⟨S1x2048x1024, .f32⟩
  | 77 => ⟨S2048x1024, .f32⟩
  | 78 => ⟨S8192x1024, .f32⟩
  | 79 => ⟨S8192x1024, .i1⟩
  | 80 => ⟨S8192x1024, .f32⟩
  | 81 => ⟨S1x1024x2048, .f32⟩
  | 82 => ⟨S1024x2048, .f32⟩
  | 83 => ⟨S8192x2048, .f32⟩
  | 84 => ⟨S_, .f32⟩
  | 85 => ⟨S8192x2048, .f32⟩
  | 86 => ⟨S8192x2048, .f32⟩
  | 87 => ⟨S_, .i32⟩
  | 88 => ⟨S8192, .i32⟩
  | 89 => ⟨S8192, .i1⟩
  | 90 => ⟨S8192x1, .i1⟩
  | 91 => ⟨S1x2048x1024, .f32⟩
  | 92 => ⟨S2048x1024, .f32⟩
  | 93 => ⟨S8192x1024, .f32⟩
  | 94 => ⟨S8192x1024, .i1⟩
  | 95 => ⟨S8192x1024, .f32⟩
  | 96 => ⟨S1x1024x2048, .f32⟩
  | 97 => ⟨S1024x2048, .f32⟩
  | 98 => ⟨S8192x2048, .f32⟩
  | 99 => ⟨S_, .f32⟩
  | 100 => ⟨S8192x2048, .f32⟩
  | 101 => ⟨S8192x2048, .f32⟩
  | 102 => ⟨S_, .i32⟩
  | 103 => ⟨S8192, .i32⟩
  | 104 => ⟨S8192, .i1⟩
  | 105 => ⟨S8192x1, .i1⟩
  | 106 => ⟨S1x2048x1024, .f32⟩
  | 107 => ⟨S2048x1024, .f32⟩
  | 108 => ⟨S8192x1024, .f32⟩
  | 109 => ⟨S8192x1024, .i1⟩
  | 110 => ⟨S8192x1024, .f32⟩
  | 111 => ⟨S1x1024x2048, .f32⟩
  | 112 => ⟨S1024x2048, .f32⟩
  | 113 => ⟨S8192x2048, .f32⟩
  | 114 => ⟨S_, .f32⟩
  | 115 => ⟨S8192x2048, .f32⟩
  | 116 => ⟨S8192x2048, .f32⟩
  | 117 => ⟨S_, .i32⟩
  | 118 => ⟨S8192, .i32⟩
  | 119 => ⟨S8192, .i1⟩
  | 120 => ⟨S8192x1, .i1⟩
  | 121 => ⟨S1x2048x1024, .f32⟩
  | 122 => ⟨S2048x1024, .f32⟩
  | 123 => ⟨S8192x1024, .f32⟩
  | 124 => ⟨S8192x1024, .i1⟩
  | 125 => ⟨S8192x1024, .f32⟩
  | 126 => ⟨S1x1024x2048, .f32⟩
  | 127 => ⟨S1024x2048, .f32⟩
  | _ => ⟨S8192x1024, .f32⟩

abbrev hbmTy0_1 (i : Nat) : BufTy := match i % 128 with
  | 0 => ⟨S8192x2048, .f32⟩
  | 1 => ⟨S_, .f32⟩
  | 2 => ⟨S8192x2048, .f32⟩
  | 3 => ⟨S8192x2048, .f32⟩
  | 4 => ⟨S_, .i32⟩
  | 5 => ⟨S8192, .i32⟩
  | 6 => ⟨S8192, .i1⟩
  | 7 => ⟨S8192x1, .i1⟩
  | 8 => ⟨S1x2048x1024, .f32⟩
  | 9 => ⟨S2048x1024, .f32⟩
  | 10 => ⟨S8192x1024, .f32⟩
  | 11 => ⟨S8192x1024, .i1⟩
  | 12 => ⟨S8192x1024, .f32⟩
  | 13 => ⟨S1x1024x2048, .f32⟩
  | 14 => ⟨S1024x2048, .f32⟩
  | 15 => ⟨S8192x2048, .f32⟩
  | 16 => ⟨S_, .f32⟩
  | 17 => ⟨S8192x2048, .f32⟩
  | 18 => ⟨S8192x2048, .f32⟩
  | 19 => ⟨S_, .i32⟩
  | 20 => ⟨S8192, .i32⟩
  | 21 => ⟨S8192, .i1⟩
  | 22 => ⟨S8192x1, .i1⟩
  | 23 => ⟨S1x2048x1024, .f32⟩
  | 24 => ⟨S2048x1024, .f32⟩
  | 25 => ⟨S8192x1024, .f32⟩
  | 26 => ⟨S8192x1024, .i1⟩
  | 27 => ⟨S8192x1024, .f32⟩
  | 28 => ⟨S1x1024x2048, .f32⟩
  | 29 => ⟨S1024x2048, .f32⟩
  | 30 => ⟨S8192x2048, .f32⟩
  | 31 => ⟨S_, .f32⟩
  | 32 => ⟨S8192x2048, .f32⟩
  | 33 => ⟨S8192x2048, .f32⟩
  | 34 => ⟨S_, .i32⟩
  | 35 => ⟨S8192, .i32⟩
  | 36 => ⟨S8192, .i1⟩
  | 37 => ⟨S8192x1, .i1⟩
  | 38 => ⟨S1x2048x1024, .f32⟩
  | 39 => ⟨S2048x1024, .f32⟩
  | 40 => ⟨S8192x1024, .f32⟩
  | 41 => ⟨S8192x1024, .i1⟩
  | 42 => ⟨S8192x1024, .f32⟩
  | 43 => ⟨S1x1024x2048, .f32⟩
  | 44 => ⟨S1024x2048, .f32⟩
  | 45 => ⟨S8192x2048, .f32⟩
  | 46 => ⟨S_, .f32⟩
  | 47 => ⟨S8192x2048, .f32⟩
  | 48 => ⟨S8192x2048, .f32⟩
  | 49 => ⟨S_, .i32⟩
  | 50 => ⟨S8192, .i32⟩
  | 51 => ⟨S8192, .i1⟩
  | 52 => ⟨S8192x1, .i1⟩
  | 53 => ⟨S1x2048x1024, .f32⟩
  | 54 => ⟨S2048x1024, .f32⟩
  | 55 => ⟨S8192x1024, .f32⟩
  | 56 => ⟨S8192x1024, .i1⟩
  | 57 => ⟨S8192x1024, .f32⟩
  | 58 => ⟨S1x1024x2048, .f32⟩
  | 59 => ⟨S1024x2048, .f32⟩
  | 60 => ⟨S8192x2048, .f32⟩
  | 61 => ⟨S_, .f32⟩
  | 62 => ⟨S8192x2048, .f32⟩
  | 63 => ⟨S8192x2048, .f32⟩
  | 64 => ⟨S_, .i32⟩
  | 65 => ⟨S8192, .i32⟩
  | 66 => ⟨S8192, .i1⟩
  | 67 => ⟨S8192x1, .i1⟩
  | 68 => ⟨S1x2048x1024, .f32⟩
  | 69 => ⟨S2048x1024, .f32⟩
  | 70 => ⟨S8192x1024, .f32⟩
  | 71 => ⟨S8192x1024, .i1⟩
  | 72 => ⟨S8192x1024, .f32⟩
  | 73 => ⟨S1x1024x2048, .f32⟩
  | 74 => ⟨S1024x2048, .f32⟩
  | 75 => ⟨S8192x2048, .f32⟩
  | 76 => ⟨S_, .f32⟩
  | 77 => ⟨S8192x2048, .f32⟩
  | 78 => ⟨S8192x2048, .f32⟩
  | 79 => ⟨S_, .i32⟩
  | 80 => ⟨S8192, .i32⟩
  | 81 => ⟨S8192, .i1⟩
  | 82 => ⟨S8192x1, .i1⟩
  | 83 => ⟨S1x2048x1024, .f32⟩
  | 84 => ⟨S2048x1024, .f32⟩
  | 85 => ⟨S8192x1024, .f32⟩
  | 86 => ⟨S8192x1024, .i1⟩
  | 87 => ⟨S8192x1024, .f32⟩
  | 88 => ⟨S1x1024x2048, .f32⟩
  | 89 => ⟨S1024x2048, .f32⟩
  | 90 => ⟨S8192x2048, .f32⟩
  | 91 => ⟨S_, .f32⟩
  | 92 => ⟨S8192x2048, .f32⟩
  | 93 => ⟨S8192x2048, .f32⟩
  | 94 => ⟨S_, .i32⟩
  | 95 => ⟨S8192, .i32⟩
  | 96 => ⟨S8192, .i1⟩
  | 97 => ⟨S8192x1, .i1⟩
  | 98 => ⟨S1x2048x1024, .f32⟩
  | 99 => ⟨S2048x1024, .f32⟩
  | 100 => ⟨S8192x1024, .f32⟩
  | 101 => ⟨S8192x1024, .i1⟩
  | 102 => ⟨S8192x1024, .f32⟩
  | 103 => ⟨S1x1024x2048, .f32⟩
  | 104 => ⟨S1024x2048, .f32⟩
  | 105 => ⟨S8192x2048, .f32⟩
  | 106 => ⟨S_, .f32⟩
  | 107 => ⟨S8192x2048, .f32⟩
  | 108 => ⟨S8192x2048, .f32⟩
  | 109 => ⟨S_, .i32⟩
  | 110 => ⟨S8192, .i32⟩
  | 111 => ⟨S8192, .i1⟩
  | 112 => ⟨S8192x1, .i1⟩
  | 113 => ⟨S1x2048x1024, .f32⟩
  | 114 => ⟨S2048x1024, .f32⟩
  | 115 => ⟨S8192x1024, .f32⟩
  | 116 => ⟨S8192x1024, .i1⟩
  | 117 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_15 : Ref sig .tc := ⟨.hbm, 129, rfl⟩
abbrev main_v100 : Ref sig .tc := ⟨.hbm, 130, rfl⟩
abbrev main_v101 : Ref sig .tc := ⟨.hbm, 131, rfl⟩
abbrev main_c_16 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_call8_v0 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_17 : Ref sig .tc := ⟨.hbm, 144, rfl⟩
abbrev main_v112 : Ref sig .tc := ⟨.hbm, 145, rfl⟩
abbrev main_v113 : Ref sig .tc := ⟨.hbm, 146, rfl⟩
abbrev main_c_18 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_call9_v0 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_19 : Ref sig .tc := ⟨.hbm, 159, rfl⟩
abbrev main_v124 : Ref sig .tc := ⟨.hbm, 160, rfl⟩
abbrev main_v125 : Ref sig .tc := ⟨.hbm, 161, rfl⟩
abbrev main_c_20 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call10_v0 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_21 : Ref sig .tc := ⟨.hbm, 174, rfl⟩
abbrev main_v136 : Ref sig .tc := ⟨.hbm, 175, rfl⟩
abbrev main_v137 : Ref sig .tc := ⟨.hbm, 176, rfl⟩
abbrev main_c_22 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_call11_v0 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_23 : Ref sig .tc := ⟨.hbm, 189, rfl⟩
abbrev main_v148 : Ref sig .tc := ⟨.hbm, 190, rfl⟩
abbrev main_v149 : Ref sig .tc := ⟨.hbm, 191, rfl⟩
abbrev main_c_24 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_call12_v0 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_25 : Ref sig .tc := ⟨.hbm, 204, rfl⟩
abbrev main_v160 : Ref sig .tc := ⟨.hbm, 205, rfl⟩
abbrev main_v161 : Ref sig .tc := ⟨.hbm, 206, rfl⟩
abbrev main_c_26 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_call13_v0 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_27 : Ref sig .tc := ⟨.hbm, 219, rfl⟩
abbrev main_v172 : Ref sig .tc := ⟨.hbm, 220, rfl⟩
abbrev main_v173 : Ref sig .tc := ⟨.hbm, 221, rfl⟩
abbrev main_c_28 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_call14_v0 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_29 : Ref sig .tc := ⟨.hbm, 234, rfl⟩
abbrev main_v184 : Ref sig .tc := ⟨.hbm, 235, rfl⟩
abbrev main_v185 : Ref sig .tc := ⟨.hbm, 236, rfl⟩
abbrev main_c_30 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_call15_v0 : Ref sig .tc := ⟨.hbm, 244, rfl⟩
abbrev main_v192 : Ref sig .tc := ⟨.hbm, 245, rfl⟩

abbrev nD : Nat := 1
abbrev τ : Topo := Topo.v7x

variable {F : FTy → Type} [FloatOps F]
-- ==== Proof.Held.lean ====
/-
  Memory held at a value: `HdS c v S w` is the elements `S` of the buffer under the view `v`, held at the full share, with
  `w` what `v` reads there. The kernel's run below is told in these: a load hands back the value, a store replaces it, a
  transfer carries it, and a buffer held whole is carved into windows and put together again (`HdS_slices`).
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk
public import Idealize.ShloMosaic.Lib.Rounds
public import Idealize.ShloMosaic.Lib.Transfers
public import Idealize.ShloMosaic.Lib.ValueLayout
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the protocol's, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans embR
abbrev EC : UEmb Counters (MT nD τ sig Unit (Elt F) ℕ UU ℕ) := countersEmb
abbrev 𝒱₀ : Variants := Variants.none

/-! ## Memory held at a value -/

section Held

variable {sp sp' : Space} {s s' : Shape} {e : EltTy}

/-- The elements `S` of `v`'s buffer on device `c`, held whole, where `v` reads `w`. -/
def HdS (c : Dev nD) (v : View sig .tc sp s e) (S : Finset v.ty.Idx) (w : s.Idx → Elt F e) : sProp 𝕄 :=
  iprop(∃ f : Buf (Elt F) (v.loc (c : Thread nD τ)), ⌜v.read (Elt F) f = w⌝ ∗ (v.loc (c : Thread nD τ) ↦[S]{fullShare} f))

/-- The elements under `v` itself. -/
abbrev Hd (c : Dev nD) (v : View sig .tc sp s e) (w : s.Idx → Elt F e) : sProp 𝕄 := HdS c v v.set w

/-- The elements `S` of `v`'s buffer at any contents. -/
def AnyS (c : Dev nD) (v : View sig .tc sp s e) (S : Finset v.ty.Idx) : sProp 𝕄 :=
  iprop(∃ f : Buf (Elt F) (v.loc (c : Thread nD τ)), (v.loc (c : Thread nD τ) ↦[S]{fullShare} f))

abbrev Any (c : Dev nD) (v : View sig .tc sp s e) : sProp 𝕄 := AnyS c v v.set

instance (c : Dev nD) (v : View sig .tc sp s e) (S w) : Idealize.SL.BI.Storable (upEmb (nD := nD) (τ := τ)) (HdS (F := F) c v S w) := by unfold HdS; infer_instance
instance (c : Dev nD) (v : View sig .tc sp s e) (S) : Idealize.SL.BI.Storable upEmb (AnyS (F := F) c v S) := by unfold AnyS; infer_instance

omit [FloatOps F] in
theorem HdS_any (c : Dev nD) (v : View sig .tc sp s e) (S w) : HdS (F := F) c v S w ⊢ AnyS c v S := by
  unfold HdS AnyS
  iintro ⟨%f, -, H⟩
  iexists f; iexact H

omit [FloatOps F] in
theorem HdS_intro (c : Dev nD) (v : View sig .tc sp s e) (S) (w : s.Idx → Elt F e) (f : Buf (Elt F) (v.loc (c : Thread nD τ)))
    (h : v.read (Elt F) f = w) : (v.loc (c : Thread nD τ) ↦[S]{fullShare} f : sProp 𝕄) ⊢ HdS c v S w := by
  unfold HdS
  iintro H
  iexists f
  isplitr
  · ipureintro; exact h
  iexact H

omit [FloatOps F] in
/-- Any contents under a view are some value there. -/
theorem AnyS_some (c : Dev nD) (v : View sig .tc sp s e) (S) : AnyS (F := F) c v S ⊢ iprop(∃ w, HdS c v S w) := by
  unfold HdS AnyS
  iintro ⟨%f, H⟩
  iexists (v.read (Elt F) f), f
  isplitr
  · ipureintro; rfl
  iexact H

omit [FloatOps F] in
/-- A reshaped view reads the same elements renumbered. -/
theorem HdS_reshape (c : Dev nD) (v : View sig .tc sp s e) (h : s'.numel = s.numel) (S : Finset v.ty.Idx) (w : s.Idx → Elt F e) :
    HdS (F := F) c v S w = HdS c (v.reshape s' h) S (fun x => w (Shape.reshapeEquiv h x)) := by
  unfold HdS
  congr 1; funext f
  have : (v.read (Elt F) f = w) = ((v.reshape s' h).read (Elt F) f = fun x => w (Shape.reshapeEquiv h x)) := by
    apply propext
    constructor
    · rintro rfl; rfl
    · intro hh
      funext y
      have := congrFun hh ((Shape.reshapeEquiv h).symm y)
      simp only [Equiv.apply_symm_apply] at this
      rw [← this]
      show _ = v.read (Elt F) f (Shape.reshapeEquiv h ((Shape.reshapeEquiv h).symm y))
      rw [Equiv.apply_symm_apply]
  rw [this]

omit [FloatOps F] in
theorem Hd_reshape (c : Dev nD) (v : View sig .tc sp s e) (h : s'.numel = s.numel) (w : s.Idx → Elt F e) :
    Hd (F := F) c v w = Hd c (v.reshape s' h) (fun x => w (Shape.reshapeEquiv h x)) := by
  unfold Hd
  rw [HdS_reshape c v h, View.set_reshape]

/-- A window held at a value is the windows that tile it, each at its part of the value. -/
theorem Hd_slices {n : ℕ} (c : Dev nD) (v : View sig .tc sp s e) (R : Rect s) (Rs : Fin n → Rect s)
    (i₀ : ∀ i, (Rs i).shape.Idx → R.shape.Idx) (he : ∀ i x, (Rs i).emb x = R.emb (i₀ i x))
    (hcov : ∀ y, ∃ i x, i₀ i x = y) (hdis : ∀ i i' x x', i₀ i x = i₀ i' x' → i = i') (w : R.shape.Idx → Elt F e) :
    Hd (F := F) c (v.slice R) w = bigSep Finset.univ fun i => Hd c (v.slice (Rs i)) (fun x => w (i₀ i x)) := by
  classical
  have hemb : ∀ i x, (v.slice (Rs i)).emb x = (v.slice R).emb (i₀ i x) := fun i x => by
    show v.emb ((Rs i).emb x) = v.emb (R.emb (i₀ i x)); rw [he]
  have hset : (v.slice R).set = Finset.univ.biUnion fun i => (v.slice (Rs i)).set := by
    ext z
    simp only [View.set, Finset.mem_map, Finset.mem_univ, _root_.true_and, Finset.mem_biUnion]
    constructor
    · rintro ⟨y, rfl⟩
      obtain ⟨i, x, rfl⟩ := hcov y
      exact ⟨i, x, hemb i x⟩
    · rintro ⟨i, x, rfl⟩
      exact ⟨i₀ i x, (hemb i x).symm⟩
  have hdisj : ∀ t ∈ (Finset.univ : Finset (Fin n)), ∀ t' ∈ (Finset.univ : Finset (Fin n)), t ≠ t' →
      Disjoint (v.slice (Rs t)).set (v.slice (Rs t')).set := by
    intro t _ t' _ hne
    rw [Finset.disjoint_left]
    intro z hz hz'
    simp only [View.set, Finset.mem_map, Finset.mem_univ, _root_.true_and] at hz hz'
    obtain ⟨x, rfl⟩ := hz
    obtain ⟨x', hx'⟩ := hz'
    rw [hemb, hemb] at hx'
    exact hne (hdis _ _ _ _ ((v.slice R).emb.injective hx').symm)
  have hread : ∀ (f : v.ty.Contents (Elt F)) i, (v.slice (Rs i)).read (Elt F) f = fun x => (v.slice R).read (Elt F) f (i₀ i x) := by
    intro f i; funext x
    show cast _ (f ((v.slice (Rs i)).emb x)) = cast _ (f ((v.slice R).emb (i₀ i x)))
    rw [hemb]
  suffices key : (Hd (F := F) c (v.slice R) w ⊢ bigSep Finset.univ fun i => Hd c (v.slice (Rs i)) (fun x => w (i₀ i x)))
      ∧ ((bigSep Finset.univ fun i => Hd c (v.slice (Rs i)) (fun x => w (i₀ i x))) ⊢ Hd (F := F) c (v.slice R) w) from BI.equiv_iff.mp ⟨key.1, key.2⟩
  constructor
  · have hf : ∀ f : v.ty.Contents (Elt F), ((v.slice R).loc (c : Thread nD τ) ↦[(v.slice R).set]{fullShare} f : sProp 𝕄)
        ⊢ bigSep Finset.univ fun i => Hd c (v.slice (Rs i)) (fun x => (v.slice R).read (Elt F) f (i₀ i x)) := by
      intro f
      have h1 := pointsTo_biUnion (nD := nD) (τ := τ) (sig := sig) (Ix := Unit) (Name := ℕ) (U := UU) (Lvl := ℕ)
        (ℓ := v.loc (c : Thread nD τ)) (q := fullShare) (f := f) Finset.univ (fun i => (v.slice (Rs i)).set) hdisj
      have h2 : ((v.slice R).loc (c : Thread nD τ) ↦[(v.slice R).set]{fullShare} f : sProp 𝕄)
          = bigSep Finset.univ fun t => v.loc (c : Thread nD τ) ↦[(v.slice (Rs t)).set]{fullShare} f := by
        rw [← h1]; exact congrArg (fun S => (v.loc (c : Thread nD τ) ↦[S]{fullShare} f : sProp 𝕄)) hset
      rw [h2]
      exact bigSep_mono fun i _ => HdS_intro c (v.slice (Rs i)) _ _ f (hread f i)
    unfold Hd
    rw [show HdS (F := F) c (v.slice R) (v.slice R).set w = iprop(∃ f : Buf (Elt F) ((v.slice R).loc (c : Thread nD τ)),
      ⌜(v.slice R).read (Elt F) f = w⌝ ∗ ((v.slice R).loc (c : Thread nD τ) ↦[(v.slice R).set]{fullShare} f)) from rfl]
    iintro ⟨%f, %hfw, H⟩
    subst hfw
    iapply (hf f) $$ H
  · have f₀ : v.ty.Contents (Elt F) := fun _ => Classical.choice inferInstance
    have hone : ∀ i, Hd (F := F) c (v.slice (Rs i)) (fun x => w (i₀ i x))
        ⊢ (v.loc (c : Thread nD τ) ↦[(v.slice (Rs i)).set]{fullShare} ((v.slice R).write (Elt F) f₀ w Finset.univ) : sProp 𝕄) := by
      intro i
      unfold Hd HdS
      iintro ⟨%f, %hf, H⟩
      have e : ∀ z ∈ (v.slice (Rs i)).set, f z = (v.slice R).write (Elt F) f₀ w Finset.univ z := by
        intro z hz
        simp only [View.set, Finset.mem_map, Finset.mem_univ, _root_.true_and] at hz
        obtain ⟨x, rfl⟩ := hz
        have h1 := congrFun hf x
        have h2 : (v.slice R).read (Elt F) ((v.slice R).write (Elt F) f₀ w Finset.univ) (i₀ i x) = w (i₀ i x) := by
          rw [View.read_write_univ]
        rw [← h1] at h2
        have h3 : cast (congrArg (Elt F) v.elt_eq) ((v.slice R).write (Elt F) f₀ w Finset.univ ((v.slice R).emb (i₀ i x)))
            = cast (congrArg (Elt F) v.elt_eq) (f ((v.slice (Rs i)).emb x)) := h2
        rw [← hemb] at h3
        exact ((cast_inj _).mp h3).symm
      have := pointsTo_congr (nD := nD) (τ := τ) (sig := sig) (Ix := Unit) (Name := ℕ) (U := UU) (Lvl := ℕ)
        (ℓ := v.loc (c : Thread nD τ)) (q := fullShare) e
      rw [← this]
      iexact H
    refine (bigSep_mono (s := Finset.univ) fun i _ => hone i).trans ?_
    have := pointsTo_biUnion (nD := nD) (τ := τ) (sig := sig) (Ix := Unit) (Name := ℕ) (U := UU) (Lvl := ℕ)
      (ℓ := v.loc (c : Thread nD τ)) (q := fullShare) (f := (v.slice R).write (Elt F) f₀ w Finset.univ)
      Finset.univ (fun i => (v.slice (Rs i)).set) hdisj
    rw [← this, ← hset]
    exact HdS_intro c (v.slice R) _ _ _ (View.read_write_univ _ _)

/-! ## Loads and stores -/

/-- Program text run on device `c`'s TensorCore. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules

variable {cs : CoreSpace} {α : Type}

theorem wp_loadH {Q : α → sProp 𝕄} {m : Memref sig .tc cs s e} {r : Rect s} {hl : m.view.LoadsAt r.toLoadRect} {w : r.shape.Idx → Elt F e}
    {k : (r.shape.Idx → Elt F e) → Prog (TpuEff nD τ sig (Elt F) Λ₀ .tc) α} (c : Dev nD) {S : Finset (m.access r).ty.Idx}
    (hS : (m.access r).set ⊆ S) :
    HdS c (m.access r) S w ⊢ iprop((HdS c (m.access r) S w -∗ Wp c (k w) Q) -∗ Wp c (.op (.load m r.toLoadRect hl) k) Q) := by
  unfold Wp
  rw [show HdS (F := F) c (m.access r) S w = iprop(∃ f : Buf (Elt F) ((m.access r).loc (c : Thread nD τ)), ⌜(m.access r).read (Elt F) f = w⌝
    ∗ ((m.access r).loc (c : Thread nD τ) ↦[S]{fullShare} f)) from rfl]
  iintro ⟨%f, %hf, H⟩ Hk
  subst hf
  iapply (wp_load_rect 𝒱₀ (c : Thread nD τ) none Set.univ hS) $$ [H]
  · iexact H
  iintro H
  iapply Hk
  iexists f
  isplitr
  · ipureintro; rfl
  iexact H

/-- A load whose result the program does not use, of elements at any contents. -/
theorem wp_loadAny {Q : α → sProp 𝕄} {m : Memref sig .tc cs s e} {r : Rect s} {hl : m.view.LoadsAt r.toLoadRect}
    {k : (r.shape.Idx → Elt F e) → Prog (TpuEff nD τ sig (Elt F) Λ₀ .tc) α} (c : Dev nD) {S : Finset (m.access r).ty.Idx}
    (hS : (m.access r).set ⊆ S) :
    AnyS c (m.access r) S ⊢ iprop((∀ w, AnyS c (m.access r) S -∗ Wp c (k w) Q) -∗ Wp c (.op (.load m r.toLoadRect hl) k) Q) := by
  unfold Wp AnyS
  iintro ⟨%f, H⟩ Hk
  iapply (wp_load_rect 𝒱₀ (c : Thread nD τ) none Set.univ hS) $$ [H]
  · iexact H
  iintro H
  iapply Hk
  iexists f
  iexact H

theorem wp_storeH {Q : α → sProp 𝕄} {m : Memref sig .tc cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} (c : Dev nD) {S : Finset (m.access r).ty.Idx} (hS : (m.access r).set ⊆ S) :
    AnyS c (m.access r) S ⊢ iprop((HdS c (m.access r) S w -∗ Wp c (k ⟨⟩) Q) -∗ Wp c (.op (.store m r w Finset.univ hx hm) k) Q) := by
  unfold Wp AnyS
  iintro ⟨%f, H⟩ Hk
  iapply (wp_store 𝒱₀ (c : Thread nD τ) none Set.univ hS) $$ [H]
  · iexact H
  iintro H
  iapply Hk
  iapply (HdS_intro c (m.access r) S w ((m.access r).write (Elt F) f w Finset.univ) (View.read_write_univ _ _)) $$ H

/-- A transfer within the device: it holds the source and the destination until its wait, which gives the destination at
    the source's value. -/
theorem wp_copyH {Q : α → sProp 𝕄} {sp'' : Space} {src : Memref sig .tc sp' s e} {dst : Memref sig .tc sp'' s e} {sm : SemLoc sig} {hsrc : src.view.WordExact}
    {hdst : dst.view.WordExact} {hsem : DmaTarget.Typed (nD := nD) (τ := τ) (p := Proc.tc) sp' sm (.here dst)} {w : s.Idx → Elt F e}
    {k : PUnit → Prog (TpuEff nD τ sig (Elt F) Λ₀ .tc) α} (c : Dev nD) (N : ℕ) (hN : dst.view.amount sm = N) (hN0 : 0 < N) :
    iprop(Hd c src.view w ∗ Any c dst.view ∗ semVal ((c : Thread nD τ), sm) 0)
      ⊢ iprop((Transfers.Flight EC (c : Thread nD τ) sm () N iprop(Hd c dst.view w ∗ Hd c src.view w) -∗ Wp c (k ⟨⟩) Q)
          -∗ Wp c (.op (.enqueueDma src (.here dst) sm hsrc hdst hsem) k) Q) := by
  unfold Wp Any AnyS Hd
  rw [show HdS (F := F) c src.view src.view.set w = iprop(∃ f : Buf (Elt F) (src.view.loc (c : Thread nD τ)), ⌜src.view.read (Elt F) f = w⌝
    ∗ (src.view.loc (c : Thread nD τ) ↦[src.view.set]{fullShare} f)) from rfl]
  iintro ⟨⟨%f, %hf, Hs⟩, ⟨%g, Hd⟩, Hv⟩ Hk
  subst hf
  iapply (Transfers.wp_dmaLocal EC 𝒱₀ (c : Thread nD τ) none () N hN hN0 (Finset.Subset.refl _)) $$ [Hs Hd Hv]
  · isplitl [Hs]; · iexact Hs
    isplitl [Hd]; · iexact Hd
    iexact Hv
  iintro HF
  iapply Hk
  iapply (Transfers.Flight_mono EC (c : Thread nD τ) ?_) $$ HF
  iintro ⟨Hd, Hs⟩
  isplitl [Hd]
  · iapply (HdS_intro c dst.view _ _ _ ?_) $$ Hd
    exact View.read_write_univ _ _
  · iexists f
    isplitr
    · ipureintro; rfl
    iexact Hs

end Rules

end Held

end Cert.KernelProof
-- ==== Proof.Vals.lean ====
/-
  What the kernel computes, as functions of the devices' blocks: the tiles a device sends, the box of tiles an expert
  reads, the tiles it returns, the rows a device gathers back, and the running sum it stores. `In` is one device's five
  operands; every function takes the family of all devices' operands and the device it speaks of.
-/
module

public import proofs.«01_k».proof.Proof.Held

@[expose] public section

noncomputable section

namespace Cert.KernelProof

open Cert.KernelIdeal Cert.KernelIdeal.Gen

open Idealize.ShloMosaic
open Idealize.ShloMosaic.TcCoe
open Idealize.ShloMosaic.ValueIdx

variable {F : FTy → Type} [FloatOps F]

/-! ## Devices around the ring -/

/-- The device `k + 1` places ahead. -/
def fwd (c : Dev nD) (k : Fin 3) : Dev nD := ⟨(c.val + k.val + 1) % 4, Nat.mod_lt _ (by decide)⟩
/-- The device `k + 1` places behind. -/
def bwd (c : Dev nD) (k : Fin 3) : Dev nD := ⟨(c.val + 3 - k.val) % 4, Nat.mod_lt _ (by decide)⟩

theorem fwd_bwd (c : Dev nD) (k : Fin 3) : fwd (bwd c k) k = c := by revert c k; decide
theorem bwd_fwd (c : Dev nD) (k : Fin 3) : bwd (fwd c k) k = c := by revert c k; decide
theorem bwd_rev (c : Dev nD) (k : Fin 3) : bwd c k.rev = fwd c k := by revert c k; decide
theorem fwd_rev (c : Dev nD) (k : Fin 3) : fwd c k.rev = bwd c k := by revert c k; decide

/-- One device's operands: tokens, slots as a row, slots as a column, the two weight blocks. -/
structure In (F : FTy → Type) where
  x : S2048x1024.Idx → Elt F .bf16
  sl : S1x2048.Idx → Elt F .i32
  st : S2048x1.Idx → Elt F .i32
  w1 : S4x1024x2048.Idx → Elt F .f32
  w2 : S4x2048x1024.Idx → Elt F .f32

abbrev row160 : IVec S160x2048 32 := iota .tc S160x2048 32 [0] iota_S160x2048_d0_w32
abbrev row640 : IVec S640x2048 32 := iota .tc S640x2048 32 [0] iota_S640x2048_d0_w32
abbrev col640 : IVec S2048x640 32 := iota .tc S2048x640 32 [1] iota_S2048x640_d1_w32

/-- The 640 rows a device gathers for local expert `j ≥ 1` of every owner. -/
def big (i : In F) : Fin 4 → (S640x1024.Idx → Elt F .bf16)
  | 0 => k0_pay12 (k0_pay10 row640 i.sl) i.x
  | 1 => k0_pay12 (k0_pay10 row640 i.sl) i.x
  | 2 => k0_pay16 (k0_pay14 row640 i.sl) i.x
  | 3 => k0_pay20 (k0_pay18 row640 i.sl) i.x

/-- Row `r`, lane `l` of block `b` of four 160-row blocks. -/
def blk (b : Fin 4) (y : S160x1024.Idx) : S640x1024.Idx :=
  ix2 (⟨160 * b.val + (y 0).val, by have h : (y 0).val < 160 := (y 0).isLt; have := b.isLt; omega⟩ : Fin 640) (y 1)

/-- The tile sent `k + 1` devices ahead for that device's local expert `j`. -/
def disp (i : In F) (j : Fin 4) (k : Fin 3) : S160x1024.Idx → Elt F .bf16 :=
  match j with
  | 0 => match k with
    | 0 => k0_pay2 (k0_pay1 i.sl) i.x
    | 1 => k0_pay5 (k0_pay4 row160 (k0_pay3 i.sl)) i.x
    | 2 => k0_pay7 (k0_pay6 row160 i.sl) i.x
  | 1 => fun y => big i 1 (blk k.succ y)
  | 2 => fun y => big i 2 (blk k.succ y)
  | 3 => fun y => big i 3 (blk k.succ y)

/-- The tile kept for the device's own local expert `j`. -/
def own (i : In F) : Fin 4 → (S1x1x160x1024.Idx → Elt F .bf16)
  | 0 => k0_pay9 (k0_pay8 row160 i.sl) i.x
  | 1 => k0_pay13 (k0_pay10 row640 i.sl) i.x
  | 2 => k0_pay17 (k0_pay14 row640 i.sl) i.x
  | 3 => k0_pay21 (k0_pay19 (k0_pay18 row640 i.sl) i.x)

variable (inp : Dev nD → In F)

/-- What expert `j` of device `c` reads: its own tile, then those of the devices behind it. -/
def box (c : Dev nD) (j : Fin 4) : S1x4x160x1024.Idx → Elt F .bf16 := fun y =>
  if h : (y 1).val = 0 then own (inp c) j (ix4 0 0 (y 2) (y 3))
  else disp (inp (bwd c ⟨(y 1).val - 1, by have : (y 1).val < 4 := (y 1).isLt; omega⟩)) j
    ⟨(y 1).val - 1, by have : (y 1).val < 4 := (y 1).isLt; omega⟩ (ix2 (y 2) (y 3))

/-- Expert `j`'s two weight matrices. -/
def wt1 (i : In F) (j : Fin 4) : S1024x2048.Idx → Elt F .f32 := fun y => i.w1 (ix3 j (y 0) (y 1))
def wt2 (i : In F) (j : Fin 4) : S2048x1024.Idx → Elt F .f32 := fun y => i.w2 (ix3 j (y 0) (y 1))

/-- The hidden layer. -/
def hid (c : Dev nD) (j : Fin 4) : S640x2048.Idx → Elt F .f32 :=
  match j with
  | 0 => k0_pay22 (box inp c 0) (wt1 (inp c) 0)
  | 1 => k0_pay27 (k0_pay26 (box inp c 1) (wt1 (inp c) 1))
  | 2 => k0_pay33 (box inp c 2) (wt1 (inp c) 2)
  | 3 => k0_pay39 (box inp c 3) (wt1 (inp c) 3)

/-- The expert's results for the device's own tile. -/
def keep (c : Dev nD) (j : Fin 4) : S160x1024.Idx → Elt F .bf16 :=
  match j with
  | 0 => k0_pay24 (hid inp c 0) (wt2 (inp c) 0)
  | 1 => k0_pay29 (hid inp c 1) (wt2 (inp c) 1)
  | 2 => k0_pay35 (hid inp c 2) (wt2 (inp c) 2)
  | 3 => k0_pay41 (hid inp c 3) (wt2 (inp c) 3)

/-- The expert's results for the other devices' tiles. -/
def comp (c : Dev nD) (j : Fin 4) : S1x3x160x1024.Idx → Elt F .bf16 :=
  match j with
  | 0 => k0_pay25 (k0_pay23 (hid inp c 0) (wt2 (inp c) 0))
  | 1 => k0_pay30 (hid inp c 1) (wt2 (inp c) 1)
  | 2 => k0_pay36 (k0_pay34 (hid inp c 2) (wt2 (inp c) 2))
  | 3 => k0_pay42 (hid inp c 3) (wt2 (inp c) 3)

/-- The tile returned `k + 1` devices behind. -/
def ret (c : Dev nD) (j : Fin 4) (k : Fin 3) : S160x1024.Idx → Elt F .bf16 :=
  fun y => comp inp c j (ix4 0 k (y 0) (y 1))

/-- The 640 rows of results device `c` holds for local expert `j` of every owner. -/
def gat (c : Dev nD) (j : Fin 4) : S640x1024.Idx → Elt F .bf16 := fun y =>
  if h : (y 0).val < 160 then keep inp c j (ix2 (⟨(y 0).val, h⟩ : Fin 160) (y 1))
  else ret inp (fwd c ⟨(y 0).val / 160 - 1, by have : (y 0).val < 640 := (y 0).isLt; omega⟩) j
    ⟨(y 0).val / 160 - 1, by have : (y 0).val < 640 := (y 0).isLt; omega⟩
    (ix2 (⟨(y 0).val % 160, Nat.mod_lt _ (by decide)⟩ : Fin 160) (y 1))

/-- The running sums device `c` stores in its result, expert by expert. -/
def out0 (c : Dev nD) : S2048x1024.Idx → Elt F .f32 := k0_pay32 (k0_pay31 col640 (inp c).st) (gat inp c 0)
def out1 (c : Dev nD) : S2048x1024.Idx → Elt F .f32 := k0_pay38 (k0_pay37 col640 (inp c).st) (gat inp c 1) (out0 inp c)
def out2 (c : Dev nD) : S2048x1024.Idx → Elt F .f32 :=
  k0_pay45 (k0_pay44 (k0_pay43 col640 (inp c).st)) (gat inp c 2) (out1 inp c)
def out3 (c : Dev nD) : S2048x1024.Idx → Elt F .f32 := k0_pay47 (k0_pay46 col640 (inp c).st) (gat inp c 3) (out2 inp c)

end Cert.KernelProof
-- ==== Proof.Proto.lean ====
/-
  The protocol between the four devices, written down.

  A device has one BARRIER cell and, for every local expert `j` and every distance `k + 1` around the ring, four cells:
  kind 0 (the sent tile has departed), 1 (a tile of tokens has arrived), 2 (the returned tile has departed), 3 (a tile of
  results has arrived). Each cell has one round.
  * Barrier: the device `k + 1` behind signals it, one unit, duty `k`; with the unit comes the right to write that device's
    landing windows: its token windows at the complementary distance, its result windows at distance `k + 1`.
  * Departures: paid by the device's own transfer; they hand the source window back.
  * Token arrival `(j, k)`: paid by the device `k + 1` behind, with the window holding the tile that device cut for expert `j`.
  * Result arrival `(j, k)`: paid by the device `k + 1` ahead, with the window holding the results that device computed.
  A device signals three barriers, sends twelve tiles and returns twelve, in that order: `owed c t` is what remains after
  `t` of these steps. Arrivals of tokens lie above the barrier, results of expert `j` at level `3 + j`.
-/
module

public import proofs.«01_k».proof.Proof.Vals

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The windows -/

section Windows
variable (j : Fin 4) (k : Fin 3)

theorem inb_rows : ∀ a, (![640 * j.val + 160 * (k.val + 1), 0] : Fin 2 → ℕ) a + S160x1024.size a ≤ S2560x1024.size a := by
  have := j.isLt; have := k.isLt
  intro a; match a with
  | 0 => show 640 * j.val + 160 * (k.val + 1) + 160 ≤ 2560; omega
  | 1 => show 0 + 1024 ≤ 1024; omega
theorem inb_recv : ∀ a, (![j.val, k.val + 1, 0, 0] : Fin 4 → ℕ) a + S1x1x160x1024.size a ≤ S4x4x160x1024.size a := by
  have := j.isLt; have := k.isLt
  intro a; match a with
  | 0 => show j.val + 1 ≤ 4; omega
  | 1 => show k.val + 1 + 1 ≤ 4; omega
  | 2 => show 0 + 160 ≤ 160; omega
  | 3 => show 0 + 1024 ≤ 1024; omega
theorem inb_comp : ∀ a, (![j.val, k.val, 0, 0] : Fin 4 → ℕ) a + S1x1x160x1024.size a ≤ S4x3x160x1024.size a := by
  have := j.isLt; have := k.isLt
  intro a; match a with
  | 0 => show j.val + 1 ≤ 4; omega
  | 1 => show k.val + 1 ≤ 3; omega
  | 2 => show 0 + 160 ≤ 160; omega
  | 3 => show 0 + 1024 ≤ 1024; omega

/-- The rows a tile is sent from. -/
abbrev xsM : Memref sig .tc .vmem S160x1024 .bf16 :=
  (Memref.whole cc0_scratch2).slice (Rect.unit (s := S2560x1024) ![640 * j.val + 160 * (k.val + 1), 0] S160x1024.size (inb_rows j k)) (fun _ => rfl)
/-- The window a tile of tokens arrives in. -/
abbrev recvM : Memref sig .tc .vmem S160x1024 .bf16 :=
  ((Memref.whole cc0_scratch3).slice (Rect.unit (s := S4x4x160x1024) ![j.val, k.val + 1, 0, 0] S1x1x160x1024.size (inb_recv j k)) (fun _ => rfl)).squeeze
    S160x1024 squeezes_S1x1x160x1024_S160x1024
/-- The window results are returned from. -/
abbrev rcM : Memref sig .tc .vmem S160x1024 .bf16 :=
  ((Memref.whole cc0_scratch4).slice (Rect.unit (s := S4x3x160x1024) ![j.val, k.val, 0, 0] S1x1x160x1024.size (inb_comp j k)) (fun _ => rfl)).squeeze
    S160x1024 squeezes_S1x1x160x1024_S160x1024
/-- The rows results arrive in. -/
abbrev rrM : Memref sig .tc .vmem S160x1024 .bf16 :=
  (Memref.whole cc0_scratch5).slice (Rect.unit (s := S2560x1024) ![640 * j.val + 160 * (k.val + 1), 0] S160x1024.size (inb_rows j k)) (fun _ => rfl)

end Windows

/-! ## The cells -/

/-- A cell of a device: its barrier, or kind `q` of expert `j` at distance `k + 1`. -/
abbrev PX : Type := Option (Fin 4 × Fin 4 × Fin 3)

abbrev barS : Sem sig := (SemArray.scalar (sig.barrier 0 rfl) : Sems sig S_).sem

theorem dmaIx_lt (q j : Fin 4) (k : Fin 3) : 4 + 16 * q.val + 4 * j.val + k.val + 1 < 70 := by
  have := q.isLt; have := j.isLt; have := k.isLt; omega
def dmaIx (q j : Fin 4) (k : Fin 3) : DmaSem sig := (⟨4 + 16 * q.val + 4 * j.val + k.val + 1, dmaIx_lt q j k⟩ : Fin 70)

def semOf : PX → SemLoc sig
  | none => .reg barS
  | some (q, j, k) => .dma (dmaIx q j k)

abbrev cell (c : Dev nD) (x : PX) : GSem nD τ sig := ((c : Thread nD τ), semOf x)

/-- Which cell a semaphore is, if the protocol has it. -/
def protoOf : SemLoc sig → Option PX
  | .reg s => if s = barS then some none else none
  | .dma n => if h : 4 ≤ n.val ∧ n.val < 68 ∧ (n.val - 4) % 4 ≠ 0 then
      some (some (⟨(n.val - 4) / 16, by omega⟩, ⟨(n.val - 4) % 16 / 4, by omega⟩, ⟨(n.val - 4) % 4 - 1, by omega⟩)) else none

theorem protoOf_semOf (x : PX) : protoOf (semOf x) = some x := by
  match x with
  | none =>
    show (if barS = barS then some none else none) = some none
    exact if_pos rfl
  | some (q, j, k) =>
    have hq := q.isLt; have hj := j.isLt; have hk := k.isLt
    have hn : (dmaIx q j k).val = 4 + 16 * q.val + 4 * j.val + k.val + 1 := rfl
    show (if h : _ then _ else _) = _
    rw [dif_pos (by rw [hn]; omega)]
    simp only [hn, Option.some.injEq, Prod.mk.injEq, Fin.ext_iff]
    refine ⟨?_, ?_, ?_⟩ <;> omega

theorem semOf_inj : Function.Injective semOf := fun x y h => by
  have := congrArg protoOf h
  rw [protoOf_semOf, protoOf_semOf] at this
  exact Option.some.inj this

theorem cell_inj : Function.Injective fun p : Dev nD × PX => cell p.1 p.2 := fun p q h => by
  have h1 := congrArg (fun g : GSem nD τ sig => g.1.1) h
  have h2 := semOf_inj (congrArg (fun g : GSem nD τ sig => g.2) h)
  exact Prod.ext h1 h2

/-- What one tile credits. -/
def N : ℕ := (recvM 0 0).view.dmaCredit
theorem credit_eq (v : View sig .tc .vmem S160x1024 .bf16) : v.dmaCredit = N := rfl
theorem N_pos : 0 < N := View.dmaCredit_pos _ (by decide)

/-! ## The schedule -/

variable (inp : Dev nD → In F)

/-- The device's tile cells are open. -/
def ready (c : Dev nD) : sProp 𝕄 := bigSep Finset.univ fun y : Fin 4 × Fin 4 × Fin 3 => reached ER (cell c (some y)) 0

instance ready_persistent (c : Dev nD) : BI.Persistent (ready (F := F) c) := by unfold ready; infer_instance

/-- Where the device's tiles of one partner land. -/
def lands (d : Dev nD) (k : Fin 3) : sProp 𝕄 :=
  bigSep Finset.univ fun j : Fin 4 => iprop(Any (F := F) d (recvM j k.rev).view ∗ Any d (rrM j k).view)

/-- What comes with the barrier unit of the device `k + 1` behind. -/
def barPay (c : Dev nD) (k : Fin 3) : sProp 𝕄 := iprop(ready (bwd c k) ∗ lands (bwd c k) k)

def payX (c : Dev nD) : PX → Fin 3 → sProp 𝕄
  | none, k => barPay c k
  | some (0, j, k), _ => Any c (xsM j k).view
  | some (1, j, k), _ => Hd c (recvM j k).view (disp (inp (bwd c k)) j k)
  | some (2, j, k), _ => Any c (rcM j k).view
  | some (3, j, k), _ => Hd c (rrM j k).view (ret inp (fwd c k) j k)

instance payX_storable (c : Dev nD) (x : PX) (d : Fin 3) : Idealize.SL.BI.Storable (upEmb : UEmb _ 𝕄) (payX inp c x d) := by
  match x with
  | none => unfold payX barPay lands ready; infer_instance
  | some (0, j, k) => unfold payX; infer_instance
  | some (1, j, k) => unfold payX; infer_instance
  | some (2, j, k) => unfold payX; infer_instance
  | some (3, j, k) => unfold payX; infer_instance

def dutX : PX → Finset (Fin 3)
  | none => Finset.univ
  | some _ => {0}
def amtX : PX → ℕ
  | none => 1
  | some _ => N

theorem amtX_pos (x : PX) : 0 < amtX x := by
  cases x with
  | none => exact Nat.one_pos
  | some _ => exact N_pos

def sched : Rounds.Schedule (GSem nD τ sig) (Fin 3) 𝕄 where
  duties g r := if r = 0 ∧ g.1.2 = .tc then (match protoOf g.2 with | some x => dutX x | none => ∅) else ∅
  unitless _ := False
  amount g _ _ := match protoOf g.2 with | some x => amtX x | none => 1
  payload g _ d := match protoOf g.2 with | some x => payX inp g.1.1 x d | none => iprop(emp)
  amount_pos g _ _ _ := by
    show 0 < (match protoOf g.2 with | some x => amtX x | none => 1)
    split
    · exact amtX_pos _
    · exact Nat.one_pos

instance sched_storable (g : GSem nD τ sig) (r : ℕ) (d : Fin 3) : Idealize.SL.BI.Storable (upEmb : UEmb _ 𝕄) ((sched inp).payload g r d) := by
  show Idealize.SL.BI.Storable upEmb (match protoOf g.2 with | some x => payX inp g.1.1 x d | none => iprop(emp))
  split <;> infer_instance

section Tables
variable (c : Dev nD) (x : PX)

theorem duties_cell : (sched inp).duties (cell c x) 0 = dutX x := by
  show (if 0 = 0 ∧ (cell c x).1.2 = .tc then (match protoOf (semOf x) with | some x => dutX x | none => ∅) else ∅) = _
  rw [if_pos (⟨rfl, rfl⟩ : 0 = 0 ∧ (cell c x).1.2 = .tc), protoOf_semOf]
theorem duties_later (g : GSem nD τ sig) : ∀ r, 1 ≤ r → (sched inp).duties g r = ∅ :=
  fun r hr => if_neg fun h => by omega
theorem amount_cell (d : Fin 3) : (sched inp).amount (cell c x) 0 d = amtX x := by
  show (match protoOf (semOf x) with | some x => amtX x | none => 1) = _
  rw [protoOf_semOf]
theorem payload_cell (d : Fin 3) : (sched inp).payload (cell c x) 0 d = payX inp c x d := by
  show (match protoOf (semOf x) with | some x => payX inp c x d | none => iprop(emp)) = _
  rw [protoOf_semOf]

theorem payX_bar (d : Fin 3) : payX inp c none d = barPay c d := rfl
theorem payX_0 (j : Fin 4) (k d : Fin 3) : payX inp c (some (0, j, k)) d = Any c (xsM j k).view := rfl
theorem payX_1 (j : Fin 4) (k d : Fin 3) : payX inp c (some (1, j, k)) d = Hd c (recvM j k).view (disp (inp (bwd c k)) j k) := rfl
theorem payX_2 (j : Fin 4) (k d : Fin 3) : payX inp c (some (2, j, k)) d = Any c (rcM j k).view := rfl
theorem payX_3 (j : Fin 4) (k d : Fin 3) : payX inp c (some (3, j, k)) d = Hd c (rrM j k).view (ret inp (fwd c k) j k) := rfl

theorem expect_bar : (sched inp).expect (cell c none) 0 = 3 := by
  unfold Schedule.expect Schedule.amountOf
  rw [duties_cell]
  simp only [amount_cell]
  rfl
theorem expect_some (y : Fin 4 × Fin 4 × Fin 3) : (sched inp).expect (cell c (some y)) 0 = N := by
  unfold Schedule.expect Schedule.amountOf
  rw [duties_cell]
  show ∑ d ∈ {0}, _ = _
  rw [Finset.sum_singleton, amount_cell]
  rfl

theorem rest_cell : bigSep ((sched inp).duties (cell c x) 0 \ ∅) (fun d => (sched inp).payload (cell c x) 0 d)
    = bigSep (dutX x) (payX inp c x) := by
  rw [Finset.sdiff_empty, duties_cell]
  exact bigSep_congr fun d _ => payload_cell inp c x d
theorem rest_some (y : Fin 4 × Fin 4 × Fin 3) : bigSep ((sched inp).duties (cell c (some y)) 0 \ ∅) (fun d => (sched inp).payload (cell c (some y)) 0 d)
    = payX inp c (some y) 0 := by
  rw [rest_cell]
  exact bigSep_singleton

end Tables

/-! ## What a device owes; levels -/

/-- Obligation `i` of device `c`: the cell and the amount. -/
def ob (c : Dev nD) (i : ℕ) : CellTallies nD τ sig Unit :=
  if h : i < 3 then tallyAt (cell (fwd c ⟨i, h⟩) none) () 1
  else if h : i < 15 then
    tallyAt (cell (fwd c ⟨(i - 3) % 3, Nat.mod_lt _ (by decide)⟩) (some (1, ⟨(i - 3) / 3, by omega⟩, ⟨(i - 3) % 3, Nat.mod_lt _ (by decide)⟩))) () N
  else
    tallyAt (cell (bwd c ⟨(i - 15) % 3, Nat.mod_lt _ (by decide)⟩) (some (3, ⟨(i - 15) / 3 % 4, Nat.mod_lt _ (by decide)⟩, ⟨(i - 15) % 3, Nat.mod_lt _ (by decide)⟩))) () N

/-- What remains owed after `t` steps. -/
def owed (c : Dev nD) (t : ℕ) : CellTallies nD τ sig Unit := ∑ i ∈ Finset.Ico t 27, ob c i

theorem owed_step (c : Dev nD) (t : ℕ) (ht : t < 27) : owed c t = owed c (t + 1) + ob c t := by
  unfold owed
  have e : Finset.Ico t 27 = insert t (Finset.Ico (t + 1) 27) := by
    ext i; simp only [Finset.mem_Ico, Finset.mem_insert]; omega
  rw [e, Finset.sum_insert (by simp), add_comm]
theorem owed_end (c : Dev nD) : owed c 27 = 0 := rfl

def L (g : GSem nD τ sig) : Finset Unit := if g.1.2 = .tc then {()} else ∅
def levX : PX → ℕ
  | none => 1
  | some (1, _, _) => 2
  | some (3, j, _) => 3 + j.val
  | some _ => 0
def levS (s : SemLoc sig) : ℕ := match protoOf s with | some x => levX x | none => 0
def lv (g : GSem nD τ sig) (_ : Unit) : ℕ := levS g.2
/-- The level of obligation `i`. -/
def obLev (i : ℕ) : ℕ := if i < 3 then 1 else if i < 15 then 2 else 3 + (i - 15) / 3 % 4

theorem levS_semOf (x : PX) : levS (semOf x) = levX x := by unfold levS; rw [protoOf_semOf]
theorem L_of_ne (g : GSem nD τ sig) (h : g.1.2 ≠ .tc) : L g = ∅ := if_neg h
theorem L_tc (c : Dev nD) (sm : SemLoc sig) : L ((c : Thread nD τ), sm) = {()} := if_pos rfl

theorem ob_pos (c : Dev nD) (i : ℕ) (g : GSem nD τ sig) (u : Unit) (h : 0 < ob c i g u) : g.1.2 = .tc ∧ levS g.2 = obLev i := by
  have key : ∀ (d : Dev nD) (x : PX) (n : ℕ), 0 < tallyAt (cell d x) () n g u → g.1.2 = .tc ∧ levS g.2 = levX x := by
    intro d x n hg
    rw [tallyAt_apply] at hg
    by_cases h : g = cell d x ∧ u = ()
    · rw [h.1]; exact ⟨rfl, levS_semOf x⟩
    · rw [if_neg h] at hg; exact absurd hg (Nat.lt_irrefl 0)
  unfold ob at h
  unfold obLev
  split at h
  · rename_i h3; rw [if_pos h3]; exact key _ _ _ h
  · rename_i h3
    split at h
    · rename_i h15; rw [if_neg h3, if_pos h15]; exact key _ _ _ h
    · rename_i h15; rw [if_neg h3, if_neg h15]; exact key _ _ _ h

theorem owed_pos (c : Dev nD) (t : ℕ) (g : GSem nD τ sig) (u : Unit) (h : 0 < owed c t g u) :
    ∃ i ∈ Finset.Ico t 27, 0 < ob c i g u := by
  unfold owed at h
  rw [Finset.sum_apply, Finsupp.finset_sum_apply] at h
  by_contra hn
  push Not at hn
  rw [Finset.sum_eq_zero fun i hi => Nat.le_zero.mp (hn i hi)] at h
  exact absurd h (Nat.lt_irrefl 0)

theorem mayWait_owed (c : Dev nD) (s : SemLoc sig) (t : ℕ) (h : ∀ i ∈ Finset.Ico t 27, levS s < obLev i) :
    (levAts L lv : sProp 𝕄) ⊢ MayWait (c : Thread nD τ) s () (owed c t) :=
  MayOwe.of_cut (L := L) (lev := lv) (levS s)
    (fun p hp => by rw [Finset.mem_singleton.mp hp, L_tc]; exact Finset.mem_singleton_self _)
    (fun g u hg => by
      obtain ⟨i, _, hi⟩ := owed_pos c t g u hg
      have := (ob_pos c i g u hi).1
      unfold L; rw [if_pos this]; exact Finset.mem_singleton_self _)
    (fun p hp => by rw [Finset.mem_singleton.mp hp]; exact le_refl _)
    (fun g u hg => by
      obtain ⟨i, hi, hp⟩ := owed_pos c t g u hg
      show levS s < levS g.2
      rw [(ob_pos c i g u hp).2]; exact h i hi)

end Cert.KernelProof
-- ==== Proof.Comm.lean ====
/-
  The protocol's steps as rules: signalling a barrier, waiting on one's own, sending a tile, waiting on a cell. Each takes
  the resources the schedule (Proof/Proto.lean) names for it and gives back what the schedule pays. The program names
  its windows, semaphores and devices by its own terms; each rule takes the equations to the protocol's.
-/
module

public import proofs.«01_k».proof.Proof.Proto

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

/-! ## What every step may use -/

theorem bigSep_out {I : Type} [Fintype I] [DecidableEq I] (i : I) (P : I → sProp 𝕄) : bigSep Finset.univ P ⊢ P i := by
  have h : bigSep Finset.univ P ⊢ iprop(P i ∗ bigSep (Finset.univ.erase i) P) := Entails.of_eq (bigSep_univ_split i)
  refine h.trans ?_
  iintro ⟨H, -⟩
  iexact H

/-- All cells' invariants, that every cell has reached its round, the levels. -/
def Pers (K : Dev nD × PX → ℕ) : sProp 𝕄 :=
  iprop((bigSep Finset.univ fun p : Dev nD × PX => cellInv ER (sched inp) (K p) (cell p.1 p.2))
    ∗ (bigSep Finset.univ fun p : Dev nD × PX => reached ER (cell p.1 p.2) 0) ∗ levAts L lv)

instance Pers_persistent (K : Dev nD × PX → ℕ) : BI.Persistent (Pers inp K) := by unfold Pers; infer_instance

/-- What a device may use before the barrier. -/
def Start (K : Dev nD × PX → ℕ) (c : Dev nD) : sProp 𝕄 :=
  iprop((bigSep Finset.univ fun p : Dev nD × PX => cellInv ER (sched inp) (K p) (cell p.1 p.2))
    ∗ (bigSep Finset.univ fun d : Dev nD => reached ER (cell d none) 0) ∗ ready c ∗ levAts L lv)

instance Start_persistent (K : Dev nD × PX → ℕ) (c : Dev nD) : BI.Persistent (Start inp K c) := by unfold Start; infer_instance

theorem Start_inv (K : Dev nD × PX → ℕ) (c n : Dev nD) (x : PX) : Start inp K c ⊢ cellInv ER (sched inp) (K (n, x)) (cell n x) := by
  unfold Start
  iintro ⟨H, -⟩
  iapply (bigSep_out (n, x) (fun p : Dev nD × PX => cellInv ER (sched inp) (K p) (cell p.1 p.2)))
  iexact H
theorem Start_reached (K : Dev nD × PX → ℕ) (c n : Dev nD) : Start inp K c ⊢ reached ER (cell n none) 0 := by
  unfold Start
  iintro ⟨-, H, -⟩
  iapply (bigSep_out n (fun d : Dev nD => (reached ER (cell d none) 0 : sProp 𝕄)))
  iexact H
theorem Start_ready (K : Dev nD × PX → ℕ) (c : Dev nD) : Start inp K c ⊢ ready c := by
  unfold Start
  iintro ⟨-, -, H, -⟩
  iexact H
theorem Start_lev (K : Dev nD × PX → ℕ) (c : Dev nD) : Start inp K c ⊢ (levAts L lv : sProp 𝕄) := by
  unfold Start
  iintro ⟨-, -, -, H⟩
  iexact H

theorem bigSep_in {I : Type} [Fintype I] [DecidableEq I] {R : sProp 𝕄} (P : I → sProp 𝕄) [BI.Persistent R] (h : ∀ i, R ⊢ P i) : R ⊢ bigSep Finset.univ P :=
  bigSep_intro_persistent fun i _ => h i

/-- After the barrier every cell is open. -/
theorem all_ready (K : Dev nD × PX → ℕ) (c : Dev nD) :
    iprop(Start inp K c ∗ bigSep Finset.univ fun k : Fin 3 => ready (F := F) (bwd c k)) ⊢ Pers inp K := by
  have far : ∀ d : Dev nD, iprop(Start inp K c ∗ bigSep Finset.univ fun k : Fin 3 => ready (F := F) (bwd c k)) ⊢ ready d := by
    intro d
    by_cases h : d = c
    · rw [h]
      iintro ⟨H, -⟩
      iapply (Start_ready inp K c); iexact H
    · obtain ⟨k, hk⟩ : ∃ k, d = bwd c k := by revert h; revert d c; decide
      rw [hk]
      iintro ⟨-, H⟩
      iapply (bigSep_out k (fun k : Fin 3 => ready (F := F) (bwd c k))); iexact H
  have one : ∀ p : Dev nD × PX, iprop(Start inp K c ∗ bigSep Finset.univ fun k : Fin 3 => ready (F := F) (bwd c k)) ⊢ reached ER (cell p.1 p.2) 0 := by
    rintro ⟨d, _ | y⟩
    · iintro ⟨H, -⟩
      iapply (Start_reached inp K c d); iexact H
    · refine (far d).trans ?_
      unfold ready
      exact bigSep_out y (fun y : Fin 4 × Fin 4 × Fin 3 => (reached ER (cell d (some y)) 0 : sProp 𝕄))
  have all := bigSep_in (F := F) (fun p : Dev nD × PX => (reached ER (cell p.1 p.2) 0 : sProp 𝕄)) one
  unfold Pers
  iintro ⟨#H, #R⟩
  isplitr
  · have h : Start inp K c ⊢ (bigSep Finset.univ fun p : Dev nD × PX => cellInv ER (sched inp) (K p) (cell p.1 p.2)) := by
      unfold Start
      iintro ⟨H, -⟩
      iexact H
    iapply h; iexact H
  isplitr
  · iapply all
    isplitr; · iexact H
    iexact R
  iapply (Start_lev inp K c); iexact H

theorem Pers_inv (K : Dev nD × PX → ℕ) (c : Dev nD) (x : PX) : Pers inp K ⊢ cellInv ER (sched inp) (K (c, x)) (cell c x) := by
  unfold Pers
  iintro ⟨H, -⟩
  iapply (bigSep_out (c, x) (fun p : Dev nD × PX => cellInv ER (sched inp) (K p) (cell p.1 p.2)))
  iexact H
theorem Pers_reached (K : Dev nD × PX → ℕ) (c : Dev nD) (x : PX) : Pers inp K ⊢ reached ER (cell c x) 0 := by
  unfold Pers
  iintro ⟨-, H, -⟩
  iapply (bigSep_out (c, x) (fun p : Dev nD × PX => (reached ER (cell p.1 p.2) 0 : sProp 𝕄)))
  iexact H
theorem Pers_lev (K : Dev nD × PX → ℕ) : Pers inp K ⊢ (levAts L lv : sProp 𝕄) := by
  unfold Pers
  iintro ⟨-, -, H⟩
  iexact H

/-- What the device owes, whatever it has waited on. -/
def owesE (c : Dev nD) (O : CellTallies nD τ sig Unit) : sProp 𝕄 := iprop(∃ W, owes (c : Thread nD τ) O W)

/-- What waiting on a cell takes. -/
def waitRes (c : Dev nD) (x : PX) (n : ℕ) : sProp 𝕄 := iprop(cred (tallyAt (cell c x) () n) ∗ atPos ER (cell c x) 0 ∅ 0)

theorem closeX (K : Dev nD × PX → ℕ) (c : Dev nD) (x : PX) :
    iprop(Pers inp K ∗ atPos ER (cell c x) (0 + 1) ∅ 0) ⊢ (|={Set.univ}=> semVal (cell c x) 0 : sProp 𝕄) := by
  iintro ⟨HP, Hat⟩
  iapply (Rounds.cell_close ER (sched inp) (Set.mem_univ (K (c, x))) id (duties_later inp (cell c x))) $$ [HP Hat]
  isplitl [HP]
  · iapply (Pers_inv inp K c x); iexact HP
  · iexact Hat

theorem closeS (K : Dev nD × PX → ℕ) (c : Dev nD) :
    iprop(Start inp K c ∗ atPos ER (cell c none) (0 + 1) ∅ 0) ⊢ (|={Set.univ}=> semVal (cell c none) 0 : sProp 𝕄) := by
  iintro ⟨HP, Hat⟩
  iapply (Rounds.cell_close ER (sched inp) (Set.mem_univ (K (c, none))) id (duties_later inp (cell c none))) $$ [HP Hat]
  isplitl [HP]
  · iapply (Start_inv inp K c c none); iexact HP
  · iexact Hat

section Steps

variable {α : Type}

/-! ## The barrier -/

theorem wp_bar_signal {Q : α → sProp 𝕄} (K : Dev nD × PX → ℕ) (c n : Dev nD) (k : Fin 3) (hn : n = fwd c k) {sm : Sem sig} (hs : sm = barS)
    {a : ℕ} (ha : a = 1) (t : ℕ) (ht : t < 27) (hob : ob c t = tallyAt (cell (fwd c k) none) () 1)
    {p : PUnit → Prog (TpuEff nD τ sig (Elt F) Λ₀ .tc) α} :
    iprop(Start inp K c ∗ owesE c (owed c t) ∗ dutyTok ER (cell (fwd c k) none) 0 k
        ∗ lands c k)
      ⊢ iprop((owesE c (owed c (t + 1)) -∗ Wp c (p ⟨⟩) Q) -∗ Wp c (.op (.semSignal (n : Thread nD τ) sm a) p) Q) := by
  subst hn hs ha
  unfold Wp owesE
  iintro ⟨#HP, ⟨%W, HO⟩, Ht, Hm⟩ Hk
  iapply (Rounds.wp_signal 𝒱₀ ER (sched inp) (c : Thread nD τ) none (dst := (fwd c k : Thread nD τ)) (κ := K (fwd c k, none)) (sem := barS) (r := 0) (d := k)
      (by rw [show ((fwd c k : Thread nD τ), SemLoc.reg barS) = cell (fwd c k) none from rfl, duties_cell]; exact Finset.mem_univ _)
      (amount_cell inp (fwd c k) none k) () (O₀ := owed c t) (owed c (t + 1)) (by rw [owed_step c t ht, hob]; rfl)) $$ [HO Ht Hm]
  · isplitr
    · iapply (Start_inv inp K c (fwd c k) none); iexact HP
    isplitl [HO]; · iexact HO
    isplitl [Ht]; · iexact Ht
    isplitl [Hm]
    · have h : iprop(ready c ∗ lands c k)
          ⊢ (sched inp).payload ((fwd c k : Thread nD τ), SemLoc.reg barS) 0 k := by
        rw [show ((fwd c k : Thread nD τ), SemLoc.reg barS) = cell (fwd c k) none from rfl, payload_cell, payX_bar]
        unfold barPay
        rw [bwd_fwd]
      iapply h
      isplitr
      · iapply (Start_ready inp K c); iexact HP
      · iexact Hm
    · iapply (Start_reached inp K c (fwd c k)); iexact HP
  iintro HO
  iapply Hk
  iexists W
  iexact HO

theorem wp_bar_wait {Q : α → sProp 𝕄} (K : Dev nD × PX → ℕ) (c : Dev nD) {sm : Sem sig} (hs : sm = barS) {a : ℕ} (ha : a = 3)
    {p : PUnit → Prog (TpuEff nD τ sig (Elt F) Λ₀ .tc) α} :
    iprop(Start inp K c ∗ owesE c (owed c 3) ∗ waitRes c none 3)
      ⊢ iprop(((owesE c (owed c 3) ∗ semVal (cell c none) 0 ∗ bigSep Finset.univ (barPay (F := F) c)) -∗ Wp c (p ⟨⟩) Q)
          -∗ Wp c (.op (.semWait sm a) p) Q) := by
  subst hs ha
  unfold Wp owesE waitRes
  iintro ⟨#HP, ⟨%W, HO⟩, Hc, Hat⟩ Hk
  iapply (Rounds.wp_wait_rest_token 𝒱₀ ER (sched inp) (c : Thread nD τ) none (κ := K (c, none)) (sm := SemLoc.reg barS) (k' := 3)
      (wpE_semWait_eq 𝒱₀ (c : Thread nD τ) none Set.univ) (Set.mem_univ _) () (O := owed c 3) (W := W) (R := 0) (m := 0) (T := ∅)
      (expect_bar inp c).symm) $$ [Hc HO Hat]
  · isplitr
    · iapply (Start_inv inp K c c none); iexact HP
    isplitl [Hc]; · iexact Hc
    isplitl [HO]; · iexact HO
    isplitr
    · iapply (mayWait_owed c (.reg barS) 3 (by decide)); iapply (Start_lev inp K c); iexact HP
    iexact Hat
  iintro ⟨HO, Hat, -, Hpay⟩
  imod (closeS inp K c) $$ [Hat] with Hv
  · isplitr; · iexact HP
    iexact Hat
  iapply Hk
  isplitl [HO]; · iexists _; iexact HO
  isplitl [Hv]; · iexact Hv
  have hr : (bigSep ((sched inp).duties ((c : Thread nD τ), SemLoc.reg barS) 0 \ ∅) fun d => (sched inp).payload ((c : Thread nD τ), SemLoc.reg barS) 0 d)
      ⊢ bigSep Finset.univ (barPay (F := F) c) := Entails.of_eq (rest_cell inp c none)
  ihave Hp := hr $$ Hpay
  iexact Hp

/-! ## Tiles -/

/-- A tile sent: its departure pays the sender's cell `x`, its arrival the receiver's cell `y`. -/
theorem wp_sendX {Q : α → sProp 𝕄} (K : Dev nD × PX → ℕ) (c n : Dev nD) (x y : Fin 4 × Fin 4 × Fin 3)
    {src dst : Memref sig .tc .vmem S160x1024 .bf16} {sS sem : DmaSem sig} (hsS : SemLoc.dma sS = semOf (some x)) (hsem' : SemLoc.dma sem = semOf (some y))
    (w : S160x1024.Idx → Elt F .bf16) (hN : dst.view.amount (.dma sem) = N)
    (hp1 : payX inp c (some x) 0 = Any c src.view) (hp2 : payX inp n (some y) 0 = Hd n dst.view w)
    (t : ℕ) (ht : t < 27) (hob : ob c t = tallyAt (cell n (some y)) () N)
    {hsc : (dst : Memref sig (Dev.tc n : Thread nD τ).2.kind .vmem S160x1024 .bf16).view.ref.isScScratch = false} {hsrc : src.view.WordExact} {hdst : dst.view.WordExact}
    {hsem : DmaTarget.Typed .vmem (.dma sem) (.remote (Dev.tc n : Thread nD τ) dst (.dma sS) hsc)}
    {p : PUnit → Prog (TpuEff nD τ sig (Elt F) Λ₀ .tc) α} :
    iprop(Pers inp K ∗ Hd c src.view w ∗ Any n dst.view ∗ owesE c (owed c t)
        ∗ dutyTok ER (cell c (some x)) 0 0 ∗ dutyTok ER (cell n (some y)) 0 0)
      ⊢ iprop(((cred (tallyAt (cell c (some x)) () N) ∗ owesE c (owed c (t + 1))) -∗ Wp c (p ⟨⟩) Q)
          -∗ Wp c (.op (.enqueueDma src (.remote (Dev.tc n : Thread nD τ) dst (.dma sS) hsc) (.dma sem) hsrc hdst hsem) p) Q) := by
  have e1 : ((c : Thread nD τ), SemLoc.dma sS) = cell c (some x) := by rw [hsS]
  have e2 : ((n : Thread nD τ), SemLoc.dma sem) = cell n (some y) := by rw [hsem']
  have i1 : Pers inp K ⊢ cellInv ER (sched inp) (K (c, some x)) ((c : Thread nD τ), SemLoc.dma sS) := by rw [e1]; exact Pers_inv inp K c (some x)
  have i2 : Pers inp K ⊢ cellInv ER (sched inp) (K (n, some y)) ((n : Thread nD τ), SemLoc.dma sem) := by rw [e2]; exact Pers_inv inp K n (some y)
  have r1 : Pers inp K ⊢ (reached ER ((c : Thread nD τ), SemLoc.dma sS) 0 : sProp 𝕄) := by rw [e1]; exact Pers_reached inp K c (some x)
  have r2 : Pers inp K ⊢ (reached ER ((n : Thread nD τ), SemLoc.dma sem) 0 : sProp 𝕄) := by rw [e2]; exact Pers_reached inp K n (some y)
  rw [← e1, ← e2]
  rw [← e2] at hob
  unfold Wp owesE
  rw [show Hd (F := F) c src.view w = iprop(∃ f : Buf (Elt F) (src.view.loc (c : Thread nD τ)), ⌜src.view.read (Elt F) f = w⌝
    ∗ (src.view.loc (c : Thread nD τ) ↦[src.view.set]{fullShare} f)) from rfl,
    show Any (F := F) n dst.view = iprop(∃ f : Buf (Elt F) (dst.view.loc (n : Thread nD τ)), dst.view.loc (n : Thread nD τ) ↦[dst.view.set]{fullShare} f) from rfl]
  iintro ⟨#HP, ⟨%f, %hf, Hs⟩, ⟨%g, Hd⟩, ⟨%W, HO⟩, Ht1, Ht2⟩ Hk
  subst hf
  iapply (Rounds.wp_send_pointsTo 𝒱₀ ER (sched inp) (c : Thread nD τ) none (κ₁ := K (c, some x)) (κ₂ := K (n, some y))
    (c' := (Dev.tc n : Thread nD τ)) (sS := .dma sS) (sem := .dma sem)
    (q := fullShare) (fs := f) (fd := g) (r₁ := 0) (r₂ := 0) (d₁ := (0 : Fin 3)) (d₂ := (0 : Fin 3))
    (by rw [e1, duties_cell]; exact Finset.mem_singleton_self _) (by rw [e2, duties_cell]; exact Finset.mem_singleton_self _)
    () () N hN (by rw [e1]; exact amount_cell inp c (some x) 0) (by rw [e2]; exact amount_cell inp n (some y) 0)
    (O₀ := owed c t) (owed c (t + 1)) (by rw [owed_step c t ht, hob]) (W := W)
    (by rw [e1, payload_cell, hp1]; unfold Any AnyS; iintro H; iexists f; iexact H)
    (by rw [e2, payload_cell, hp2]; exact HdS_intro n dst.view _ _ _ (View.read_write_univ _ _))) $$ [Hs Hd HO Ht1 Ht2]
  · isplitr
    · iapply i1; iexact HP
    isplitr
    · iapply i2; iexact HP
    isplitl [Hs]; · iexact Hs
    isplitl [Hd]; · iexact Hd
    isplitl [HO]; · iexact HO
    isplitl [Ht1]; · iexact Ht1
    isplitr
    · iapply r1; iexact HP
    isplitl [Ht2]; · iexact Ht2
    iapply r2; iexact HP
  iintro ⟨Hc, HO⟩
  iapply Hk
  isplitl [Hc]; · iexact Hc
  iexists W
  iexact HO

/-- The tokens of the tile for expert `j` of the device `k + 1` ahead: its two duties, the position on its departure cell,
    the window it lands in. -/
def dispRes (c : Dev nD) (j : Fin 4) (k : Fin 3) : sProp 𝕄 :=
  iprop(dutyTok ER (cell c (some (0, j, k))) 0 0 ∗ dutyTok ER (cell (fwd c k) (some (1, j, k))) 0 0
    ∗ atPos ER (cell c (some (0, j, k))) 0 ∅ 0 ∗ Any (F := F) (fwd c k) (recvM j k).view)
/-- The tokens of the tile returned `k + 1` devices behind. -/
def retRes (c : Dev nD) (j : Fin 4) (k : Fin 3) : sProp 𝕄 :=
  iprop(dutyTok ER (cell c (some (2, j, k))) 0 0 ∗ dutyTok ER (cell (bwd c k) (some (3, j, k))) 0 0
    ∗ atPos ER (cell c (some (2, j, k))) 0 ∅ 0 ∗ Any (F := F) (bwd c k) (rrM j k).view)

theorem wp_dispatch {Q : α → sProp 𝕄} (K : Dev nD × PX → ℕ) (c n : Dev nD) (j : Fin 4) (k : Fin 3) (t : ℕ) (hn : n = fwd c k)
    {src dst : Memref sig .tc .vmem S160x1024 .bf16} {sS sem : DmaSem sig} (h1 : src = xsM j k) (h2 : dst = recvM j k)
    (h3 : sS = dmaIx 0 j k) (h4 : sem = dmaIx 1 j k)
    (ht : t < 27) (hob : ob c t = tallyAt (cell (fwd c k) (some (1, j, k))) () N)
    {hsc : (dst : Memref sig (Dev.tc n : Thread nD τ).2.kind .vmem S160x1024 .bf16).view.ref.isScScratch = false} {hsrc : src.view.WordExact} {hdst : dst.view.WordExact}
    {hsem : DmaTarget.Typed .vmem (.dma sem) (.remote (Dev.tc n : Thread nD τ) dst (.dma sS) hsc)}
    {p : PUnit → Prog (TpuEff nD τ sig (Elt F) Λ₀ .tc) α} :
    iprop(Pers inp K ∗ Hd c (xsM j k).view (disp (inp c) j k) ∗ dispRes c j k ∗ owesE c (owed c t))
      ⊢ iprop(((waitRes c (some (0, j, k)) N ∗ owesE c (owed c (t + 1))) -∗ Wp c (p ⟨⟩) Q)
          -∗ Wp c (.op (.enqueueDma src (.remote (Dev.tc n : Thread nD τ) dst (.dma sS) hsc) (.dma sem) hsrc hdst hsem) p) Q) := by
  subst hn h1 h2 h3 h4
  unfold dispRes waitRes
  iintro ⟨HP, Hs, ⟨Ht1, Ht2, Hat, Hd⟩, HO⟩ Hk
  iapply (wp_sendX inp K c (fwd c k) (0, j, k) (1, j, k) rfl rfl (disp (inp c) j k) (credit_eq _) (payX_0 inp c j k 0) (by rw [payX_1, bwd_fwd]) t ht hob) $$ [HP Hs Ht1 Ht2 Hd HO]
  · isplitl [HP]; · iexact HP
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [Hc]; · iexact Hc
    iexact Hat
  iexact HO

theorem wp_return {Q : α → sProp 𝕄} (K : Dev nD × PX → ℕ) (c n : Dev nD) (j : Fin 4) (k : Fin 3) (t : ℕ) (hn : n = bwd c k)
    {src dst : Memref sig .tc .vmem S160x1024 .bf16} {sS sem : DmaSem sig} (h1 : src = rcM j k) (h2 : dst = rrM j k)
    (h3 : sS = dmaIx 2 j k) (h4 : sem = dmaIx 3 j k)
    (ht : t < 27) (hob : ob c t = tallyAt (cell (bwd c k) (some (3, j, k))) () N)
    {hsc : (dst : Memref sig (Dev.tc n : Thread nD τ).2.kind .vmem S160x1024 .bf16).view.ref.isScScratch = false} {hsrc : src.view.WordExact} {hdst : dst.view.WordExact}
    {hsem : DmaTarget.Typed .vmem (.dma sem) (.remote (Dev.tc n : Thread nD τ) dst (.dma sS) hsc)}
    {p : PUnit → Prog (TpuEff nD τ sig (Elt F) Λ₀ .tc) α} :
    iprop(Pers inp K ∗ Hd c (rcM j k).view (ret inp c j k) ∗ retRes c j k ∗ owesE c (owed c t))
      ⊢ iprop(((waitRes c (some (2, j, k)) N ∗ owesE c (owed c (t + 1))) -∗ Wp c (p ⟨⟩) Q)
          -∗ Wp c (.op (.enqueueDma src (.remote (Dev.tc n : Thread nD τ) dst (.dma sS) hsc) (.dma sem) hsrc hdst hsem) p) Q) := by
  subst hn h1 h2 h3 h4
  unfold retRes waitRes
  iintro ⟨HP, Hs, ⟨Ht1, Ht2, Hat, Hd⟩, HO⟩ Hk
  iapply (wp_sendX inp K c (bwd c k) (2, j, k) (3, j, k) rfl rfl (ret inp c j k) (credit_eq _) (payX_2 inp c j k 0) (by rw [payX_3, fwd_bwd]) t ht hob) $$ [HP Hs Ht1 Ht2 Hd HO]
  · isplitl [HP]; · iexact HP
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [Hc]; · iexact Hc
    iexact Hat
  iexact HO

/-- The wait on a cell of a tile: what the schedule pays there, and the cell closed. -/
theorem wp_waitX {Q : α → sProp 𝕄} (K : Dev nD × PX → ℕ) (c : Dev nD) (q j : Fin 4) (k : Fin 3) (t : ℕ)
    {src dst : Memref sig .tc .vmem S160x1024 .bf16} {sem : DmaSem sig} (h : sem = dmaIx q j k)
    (hl : ∀ i ∈ Finset.Ico t 27, levX (some (q, j, k)) < obLev i) {hsrc : src.view.WordExact} {hdst : dst.view.WordExact}
    {p : PUnit → Prog (TpuEff nD τ sig (Elt F) Λ₀ .tc) α} :
    iprop(Pers inp K ∗ waitRes c (some (q, j, k)) N ∗ owesE c (owed c t))
      ⊢ iprop(((payX inp c (some (q, j, k)) 0 ∗ semVal (cell c (some (q, j, k))) 0 ∗ owesE c (owed c t)) -∗ Wp c (p ⟨⟩) Q)
          -∗ Wp c (.op (.waitDma2 sem src dst hsrc hdst) p) Q) := by
  subst h
  unfold Wp owesE waitRes
  iintro ⟨#HP, ⟨Hc, Hat⟩, ⟨%W, HO⟩⟩ Hk
  have hN : dst.view.dmaCredit = N := credit_eq _
  iapply (Rounds.wp_wait_rest_token 𝒱₀ ER (sched inp) (c : Thread nD τ) none (κ := K (c, some (q, j, k))) (sm := SemLoc.dma (dmaIx q j k)) (k' := dst.view.dmaCredit)
      (wpE_waitDma2_eq 𝒱₀ (c : Thread nD τ) none Set.univ) (Set.mem_univ _) () (O := owed c t) (W := W) (R := 0) (m := 0) (T := ∅)
      (by rw [Nat.zero_add, hN]; exact (expect_some inp c (q, j, k)).symm)) $$ [Hc HO Hat]
  · isplitr
    · iapply (Pers_inv inp K c (some (q, j, k))); iexact HP
    isplitl [Hc]; · rw [hN]; iexact Hc
    isplitl [HO]; · iexact HO
    isplitr
    · iapply (mayWait_owed c (semOf (some (q, j, k))) t (by rw [levS_semOf]; exact hl)); iapply (Pers_lev inp K); iexact HP
    iexact Hat
  iintro ⟨HO, Hat, -, Hpay⟩
  imod (closeX inp K c (some (q, j, k))) $$ [Hat] with Hv
  · isplitr; · iexact HP
    iexact Hat
  iapply Hk
  have hr : (bigSep ((sched inp).duties ((c : Thread nD τ), SemLoc.dma (dmaIx q j k)) 0 \ ∅) fun d => (sched inp).payload ((c : Thread nD τ), SemLoc.dma (dmaIx q j k)) 0 d)
      ⊢ payX inp c (some (q, j, k)) 0 := Entails.of_eq (rest_some inp c (q, j, k))
  ihave Hp := hr $$ Hpay
  isplitl [Hp]; · iexact Hp
  isplitl [Hv]; · iexact Hv
  iexists _; iexact HO

/-- The wait on a transfer within the device. -/
theorem wp_waitLocal {Q : α → sProp 𝕄} (K : Dev nD × PX → ℕ) (c : Dev nD) (t : ℕ) {sp sp' : Space} {s s' : Shape} {e e' : EltTy}
    {src : Memref sig .tc sp' s' e'} {dst : Memref sig .tc sp s e} {sem : DmaSem sig} (N : ℕ) (hN : dst.view.dmaCredit = N) {D : sProp 𝕄}
    (hl : ∀ i ∈ Finset.Ico t 27, levS (.dma sem) < obLev i) {hsrc : src.view.WordExact} {hdst : dst.view.WordExact}
    {p : PUnit → Prog (TpuEff nD τ sig (Elt F) Λ₀ .tc) α} :
    iprop(Pers inp K ∗ Transfers.Flight EC (c : Thread nD τ) (.dma sem) () N D ∗ owesE c (owed c t))
      ⊢ iprop(((D ∗ semVal ((c : Thread nD τ), .dma sem) 0 ∗ owesE c (owed c t)) -∗ Wp c (p ⟨⟩) Q)
          -∗ Wp c (.op (.waitDma2 sem src dst hsrc hdst) p) Q) := by
  unfold Wp owesE
  iintro ⟨#HP, HF, ⟨%W, HO⟩⟩ Hk
  iapply (Transfers.wp_waitLocalO EC 𝒱₀ (c : Thread nD τ) none () hN (O := owed c t) (W := W)) $$ [HF HO]
  · isplitl [HF]; · iexact HF
    isplitl [HO]; · iexact HO
    iapply (mayWait_owed c (.dma sem) t hl); iapply (Pers_lev inp K); iexact HP
  iintro ⟨HD, Hv, HO⟩
  iapply Hk
  isplitl [HD]; · iexact HD
  isplitl [Hv]; · iexact Hv
  iexists _; iexact HO

end Steps

end Cert.KernelProof
-- ==== Proof.Tiles.lean ====
/-
  The buffers cut into windows: the rows of a send buffer, the box of arrived tiles, the results to return, the rows of
  results gathered. Each block of a buffer at a value is its windows at their parts of the value, and a block at any contents is
  its windows at any contents.
-/
module

public import proofs.«01_k».proof.Proof.Comm
public import Idealize.ShloMosaic.Lib.Ring.AtN

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section General
variable {sp : Space} {s s' : Shape} {e : EltTy}

/-- A window at any contents is the windows that tile it, at any contents. -/
theorem Any_slices {n : ℕ} (c : Dev nD) (v : View sig .tc sp s e) (R : Rect s) (Rs : Fin n → Rect s)
    (i₀ : ∀ i, (Rs i).shape.Idx → R.shape.Idx) (he : ∀ i x, (Rs i).emb x = R.emb (i₀ i x))
    (hcov : ∀ y, ∃ i x, i₀ i x = y) (hdis : ∀ i i' x x', i₀ i x = i₀ i' x' → i = i') :
    Any (F := F) c (v.slice R) = bigSep Finset.univ fun i => Any c (v.slice (Rs i)) := by
  classical
  have inj : ∀ i x x', i₀ i x = i₀ i x' → x = x' := fun i x x' h => (Rs i).emb.injective (by rw [he, he, h])
  suffices key : (Any (F := F) c (v.slice R) ⊢ bigSep Finset.univ fun i => Any c (v.slice (Rs i)))
      ∧ ((bigSep Finset.univ fun i => Any c (v.slice (Rs i))) ⊢ Any (F := F) c (v.slice R)) from BI.equiv_iff.mp ⟨key.1, key.2⟩
  constructor
  · refine (AnyS_some c (v.slice R) _).trans ?_
    iintro ⟨%w, H⟩
    have h := (Entails.of_eq (Hd_slices (F := F) c v R Rs i₀ he hcov hdis w)).trans
      (bigSep_mono (s := Finset.univ) fun i _ => HdS_any c (v.slice (Rs i)) _ (fun x => w (i₀ i x)))
    iapply h $$ H
  · refine (bigSep_mono (s := Finset.univ) fun i _ => AnyS_some c (v.slice (Rs i)) _).trans ?_
    refine (Idealize.SL.BI.bigSep_exists_pi Finset.univ
      (fun (i : Fin n) (w : (Rs i).shape.Idx → Elt F e) => Hd c (v.slice (Rs i)) w)).trans ?_
    iintro ⟨%ws, H⟩
    have hcov' := hcov
    choose a b hab using hcov
    let w : R.shape.Idx → Elt F e := fun y => ws (a y) (b y)
    have hp : ∀ i, (fun x => w (i₀ i x)) = ws i := by
      intro i; funext x
      have h1 : i₀ (a (i₀ i x)) (b (i₀ i x)) = i₀ i x := hab _
      have key : ∀ i' (x' : (Rs i').shape.Idx), i₀ i' x' = i₀ i x → ws i' x' = ws i x := by
        intro i' x' h
        obtain rfl := hdis _ _ _ _ h
        rw [inj _ _ _ h]
      exact key _ _ h1
    have h : (bigSep Finset.univ fun i => Hd c (v.slice (Rs i)) (ws i)) ⊢ Any (F := F) c (v.slice R) := by
      rw [show (fun i => Hd (F := F) c (v.slice (Rs i)) (ws i)) = fun i => Hd c (v.slice (Rs i)) (fun x => w (i₀ i x)) from
        funext fun i => by rw [hp i], ← Hd_slices (F := F) c v R Rs i₀ he hcov' hdis w]
      exact HdS_any c (v.slice R) _ w
    iapply h $$ H

end General

/-! ## Rows -/

theorem ix2_val {a b : ℕ} (x x' : (⟨2, ![a, b]⟩ : Shape).Idx) (h0 : (x 0).val = (x' 0).val) (h1 : (x 1).val = (x' 1).val) : x = x' := by
  funext i; apply Fin.ext
  match i with
  | 0 => exact h0
  | 1 => exact h1

theorem ix4_val {a b c d : ℕ} (x x' : (⟨4, ![a, b, c, d]⟩ : Shape).Idx) (h0 : (x 0).val = (x' 0).val) (h1 : (x 1).val = (x' 1).val)
    (h2 : (x 2).val = (x' 2).val) (h3 : (x 3).val = (x' 3).val) : x = x' := by
  funext i; apply Fin.ext
  match i with
  | 0 => exact h0
  | 1 => exact h1
  | 2 => exact h2
  | 3 => exact h3

theorem inb_blk (j : Fin 4) : ∀ a, (![640 * j.val, 0] : Fin 2 → ℕ) a + S640x1024.size a ≤ S2560x1024.size a := by
  have := j.isLt
  intro a; match a with
  | 0 => show 640 * j.val + 640 ≤ 2560; omega
  | 1 => show 0 + 1024 ≤ 1024; omega
theorem inb_row (j i : Fin 4) : ∀ a, (![640 * j.val + 160 * i.val, 0] : Fin 2 → ℕ) a + S160x1024.size a ≤ S2560x1024.size a := by
  have := j.isLt; have := i.isLt
  intro a; match a with
  | 0 => show 640 * j.val + 160 * i.val + 160 ≤ 2560; omega
  | 1 => show 0 + 1024 ≤ 1024; omega
theorem inb_all : ∀ a, (![0, 0] : Fin 2 → ℕ) a + S2560x1024.size a ≤ S2560x1024.size a := by
  intro a; match a with
  | 0 => show 0 + 2560 ≤ 2560; omega
  | 1 => show 0 + 1024 ≤ 1024; omega

abbrev blkR (j : Fin 4) : Rect S2560x1024 := Rect.unit (s := S2560x1024) ![640 * j.val, 0] S640x1024.size (inb_blk j)
abbrev rowR (j i : Fin 4) : Rect S2560x1024 := Rect.unit (s := S2560x1024) ![640 * j.val + 160 * i.val, 0] S160x1024.size (inb_row j i)
abbrev allR : Rect S2560x1024 := Rect.unit (s := S2560x1024) ![0, 0] S2560x1024.size inb_all

theorem row_emb (j i : Fin 4) (y : S160x1024.Idx) : (rowR j i).emb y = (blkR j).emb (blk i y) :=
  ix2_val _ _ (show 640 * j.val + 160 * i.val + 1 * (y 0).val = 640 * j.val + 1 * (160 * i.val + (y 0).val) by omega)
    (show 0 + 1 * (y 1).val = 0 + 1 * (y 1).val from rfl)
theorem blk_cov (z : S640x1024.Idx) : ∃ i y, blk i y = z := by
  have h0 : (z 0).val < 640 := (z 0).isLt
  refine ⟨⟨(z 0).val / 160, by omega⟩, ix2 (⟨(z 0).val % 160, by omega⟩ : Fin 160) (z 1), ix2_val _ _ ?_ rfl⟩
  show 160 * ((z 0).val / 160) + (z 0).val % 160 = (z 0).val
  omega
theorem blk_dis (i i' : Fin 4) (y y' : S160x1024.Idx) (h : blk i y = blk i' y') : i = i' := by
  have h0 : (y 0).val < 160 := (y 0).isLt
  have h0' : (y' 0).val < 160 := (y' 0).isLt
  have := congrArg (fun z : S640x1024.Idx => (z 0).val) h
  have : 160 * i.val + (y 0).val = 160 * i'.val + (y' 0).val := this
  exact Fin.ext (by omega)

/-- Row `r` of block `j` in the whole buffer. -/
def blkAll (j : Fin 4) (z : S640x1024.Idx) : S2560x1024.Idx :=
  ix2 (⟨640 * j.val + (z 0).val, by have h : (z 0).val < 640 := (z 0).isLt; have := j.isLt; omega⟩ : Fin 2560) (z 1)

theorem sep3_eq {A A' B B' C C' : sProp 𝕄} (hA : A = A') (hB : B = B') (hC : C = C') : iprop(A ∗ B ∗ C) = iprop(A' ∗ B' ∗ C') := by
  rw [hA, hB, hC]
theorem sep4_eq {A A' B B' C C' D D' : sProp 𝕄} (hA : A = A') (hB : B = B') (hC : C = C') (hD : D = D') :
    iprop(A ∗ B ∗ C ∗ D) = iprop(A' ∗ B' ∗ C' ∗ D') := by
  rw [hA, hB, hC, hD]

/-- A tile's index in the box it is squeezed from. -/
theorem squeeze_ix (h : S160x1024.numel = S1x1x160x1024.numel) (y : S160x1024.Idx) :
    Shape.reshapeEquiv h y = (ix4 (⟨0, Nat.one_pos⟩ : Fin 1) (⟨0, Nat.one_pos⟩ : Fin 1) (y 0) (y 1) : S1x1x160x1024.Idx) :=
  (congrArg (Shape.reshapeEquiv h) (eq_ix2 y)).trans (reshapeEquiv_ix2_11ab _ (y 0) (y 1))

section RowsM
variable (m : Memref sig .tc .vmem S2560x1024 .bf16) (c : Dev nD)

theorem rows_eq (j : Fin 4) (w : S640x1024.Idx → Elt F .bf16) : Hd (F := F) c (m.access (blkR j)) w
    = iprop(Hd c (m.access (rowR j 0)) (fun y => w (blk 0 y)) ∗ Hd c (m.access (rowR j 1)) (fun y => w (blk 1 y))
        ∗ Hd c (m.access (rowR j 2)) (fun y => w (blk 2 y)) ∗ Hd c (m.access (rowR j 3)) (fun y => w (blk 3 y))) :=
  (Hd_slices c m.view (blkR j) (rowR j) (fun i y => blk i y) (row_emb j) blk_cov blk_dis w).trans (Idealize.ShloMosaic.Ring.bigSep_fin4 _)
theorem rows_any (j : Fin 4) : Any (F := F) c (m.access (blkR j))
    = iprop(Any c (m.access (rowR j 0)) ∗ Any c (m.access (rowR j 1)) ∗ Any c (m.access (rowR j 2)) ∗ Any c (m.access (rowR j 3))) :=
  (Any_slices c m.view (blkR j) (rowR j) (fun i y => blk i y) (row_emb j) blk_cov blk_dis).trans (Idealize.ShloMosaic.Ring.bigSep_fin4 _)
theorem all_any : Any (F := F) c (m.access allR) = bigSep Finset.univ fun j => Any c (m.access (blkR j)) :=
  Any_slices c m.view allR blkR (fun j z => blkAll j z)
    (fun j z => ix2_val _ _ (show 640 * j.val + 1 * (z 0).val = 0 + 1 * (640 * j.val + (z 0).val) by omega) rfl)
    (fun z => by
      have h0 : (z 0).val < 2560 := (z 0).isLt
      refine ⟨⟨(z 0).val / 640, by omega⟩, ix2 (⟨(z 0).val % 640, by omega⟩ : Fin 640) (z 1), ix2_val _ _ ?_ rfl⟩
      show 640 * ((z 0).val / 640) + (z 0).val % 640 = (z 0).val
      omega)
    (fun j j' z z' h => by
      have h0 : (z 0).val < 640 := (z 0).isLt
      have h0' : (z' 0).val < 640 := (z' 0).isLt
      have := congrArg (fun z : S2560x1024.Idx => (z 0).val) h
      have : 640 * j.val + (z 0).val = 640 * j'.val + (z' 0).val := this
      exact Fin.ext (by omega))

end RowsM

theorem ix2_blk0 (y : S160x1024.Idx) (h : ((blk 0 y) 0).val < 160) : ix2 (⟨((blk 0 y) 0).val, h⟩ : Fin 160) ((blk 0 y) 1) = y :=
  ix2_val _ _ (show 160 * 0 + (y 0).val = (y 0).val by omega) rfl

/-- The rows of results, put together. -/
theorem gat_rows (inp : Dev nD → In F) (c : Dev nD) (j : Fin 4) :
    Hd (F := F) c ((Memref.whole cc0_scratch5).access (blkR j)) (gat inp c j)
      = iprop(Hd c ((Memref.whole cc0_scratch5).access (rowR j 0)) (keep inp c j) ∗ Hd c (rrM j 0).view (ret inp (fwd c 0) j 0)
        ∗ Hd c (rrM j 1).view (ret inp (fwd c 1) j 1) ∗ Hd c (rrM j 2).view (ret inp (fwd c 2) j 2)) := by
  have e0 : (fun y => gat inp c j (blk 0 y)) = keep inp c j := by
    funext y
    have h : ((blk 0 y) 0).val < 160 := by show 160 * 0 + (y 0).val < 160; have : (y 0).val < 160 := (y 0).isLt; omega
    unfold gat
    rw [dif_pos h]
    exact congrArg (keep inp c j) (ix2_blk0 y h)
  have ek : ∀ k : Fin 3, (fun y => gat inp c j (blk k.succ y)) = ret inp (fwd c k) j k := by
    intro k; funext y
    have hy : (y 0).val < 160 := (y 0).isLt
    have hk := k.isLt
    have hv : ((blk k.succ y) 0).val = 160 * (k.val + 1) + (y 0).val := rfl
    have h : ¬((blk k.succ y) 0).val < 160 := by rw [hv]; omega
    unfold gat
    rw [dif_neg h]
    have hk' : (⟨((blk k.succ y) 0).val / 160 - 1, by rw [hv]; omega⟩ : Fin 3) = k := Fin.ext (by show _ / 160 - 1 = _; rw [hv]; omega)
    rw [hk']
    congr 1
    exact ix2_val _ _ (by show ((blk k.succ y) 0).val % 160 = _; rw [hv]; omega) rfl
  exact (rows_eq _ c j (gat inp c j)).trans (sep4_eq (congrArg _ e0) (congrArg (Hd c (rrM j 0).view) (ek 0))
    (congrArg (Hd c (rrM j 1).view) (ek 1)) (congrArg (Hd c (rrM j 2).view) (ek 2)))

/-- The rows of tokens cut for experts `j ≥ 1`. -/
theorem disp_rows (inp : Dev nD → In F) (c : Dev nD) (j : Fin 4) (hj : j ≠ 0) :
    Hd (F := F) c ((Memref.whole cc0_scratch2).access (blkR j)) (big (inp c) j)
      ⊢ iprop(Any c ((Memref.whole cc0_scratch2).access (rowR j 0)) ∗ Hd c (xsM j 0).view (disp (inp c) j 0)
        ∗ Hd c (xsM j 1).view (disp (inp c) j 1) ∗ Hd c (xsM j 2).view (disp (inp c) j 2)) := by
  have ek : ∀ k : Fin 3, (fun y => big (inp c) j (blk k.succ y)) = disp (inp c) j k := by
    intro k; funext y
    match j, hj with
    | 1, _ => rfl
    | 2, _ => rfl
    | 3, _ => rfl
  refine (Entails.of_eq ((rows_eq _ c j (big (inp c) j)).trans (sep4_eq rfl (congrArg (Hd c (xsM j 0).view) (ek 0))
    (congrArg (Hd c (xsM j 1).view) (ek 1)) (congrArg (Hd c (xsM j 2).view) (ek 2))))).trans ?_
  iintro ⟨H0, H⟩
  isplitl [H0]
  · iapply (HdS_any c ((Memref.whole cc0_scratch2).access (rowR j 0))) $$ H0
  iexact H

/-! ## Arrived tiles -/

theorem inb_box (j : Fin 4) : ∀ a, (![j.val, 0, 0, 0] : Fin 4 → ℕ) a + S1x4x160x1024.size a ≤ S4x4x160x1024.size a := by
  have := j.isLt
  intro a; match a with
  | 0 => show j.val + 1 ≤ 4; omega
  | 1 => show 0 + 4 ≤ 4; omega
  | 2 => show 0 + 160 ≤ 160; omega
  | 3 => show 0 + 1024 ≤ 1024; omega
theorem inb_tile (j i : Fin 4) : ∀ a, (![j.val, i.val, 0, 0] : Fin 4 → ℕ) a + S1x1x160x1024.size a ≤ S4x4x160x1024.size a := by
  have := j.isLt; have := i.isLt
  intro a; match a with
  | 0 => show j.val + 1 ≤ 4; omega
  | 1 => show i.val + 1 ≤ 4; omega
  | 2 => show 0 + 160 ≤ 160; omega
  | 3 => show 0 + 1024 ≤ 1024; omega
theorem inb_boxes : ∀ a, (![0, 0, 0, 0] : Fin 4 → ℕ) a + S4x4x160x1024.size a ≤ S4x4x160x1024.size a := by
  intro a; match a with
  | 0 => show 0 + 4 ≤ 4; omega
  | 1 => show 0 + 4 ≤ 4; omega
  | 2 => show 0 + 160 ≤ 160; omega
  | 3 => show 0 + 1024 ≤ 1024; omega

abbrev boxR (j : Fin 4) : Rect S4x4x160x1024 := Rect.unit (s := S4x4x160x1024) ![j.val, 0, 0, 0] S1x4x160x1024.size (inb_box j)
abbrev tileR (j i : Fin 4) : Rect S4x4x160x1024 := Rect.unit (s := S4x4x160x1024) ![j.val, i.val, 0, 0] S1x1x160x1024.size (inb_tile j i)
abbrev boxesR : Rect S4x4x160x1024 := Rect.unit (s := S4x4x160x1024) ![0, 0, 0, 0] S4x4x160x1024.size inb_boxes

def tileIn (i : Fin 4) (y : S1x1x160x1024.Idx) : S1x4x160x1024.Idx := ix4 (0 : Fin 1) i (y 2) (y 3)
def boxIn (j : Fin 4) (y : S1x4x160x1024.Idx) : S4x4x160x1024.Idx := ix4 j (y 1) (y 2) (y 3)

theorem tile_emb (j i : Fin 4) (y : S1x1x160x1024.Idx) : (tileR j i).emb y = (boxR j).emb (tileIn i y) := by
  have h0 : (y 0).val < 1 := (y 0).isLt
  have h1 : (y 1).val < 1 := (y 1).isLt
  exact ix4_val _ _ (show j.val + 1 * (y 0).val = j.val + 1 * 0 by omega) (show i.val + 1 * (y 1).val = 0 + 1 * i.val by omega) rfl rfl
theorem tile_cov (z : S1x4x160x1024.Idx) : ∃ i y, tileIn i y = z := by
  have h0 : (z 0).val < 1 := (z 0).isLt
  exact ⟨z 1, ix4 (0 : Fin 1) (0 : Fin 1) (z 2) (z 3), ix4_val _ _ (show 0 = (z 0).val by omega) rfl rfl rfl⟩
theorem tile_dis (i i' : Fin 4) (y y' : S1x1x160x1024.Idx) (h : tileIn i y = tileIn i' y') : i = i' :=
  congrArg (fun z : S1x4x160x1024.Idx => z 1) h

theorem boxes_any (c : Dev nD) (m : Memref sig .tc .vmem S4x4x160x1024 .bf16) :
    Any (F := F) c (m.access boxesR) = bigSep Finset.univ fun j => Any c (m.access (boxR j)) :=
  Any_slices c m.view boxesR boxR (fun j z => boxIn j z)
    (fun j z => by
      have h0 : (z 0).val < 1 := (z 0).isLt
      exact ix4_val _ _ (show j.val + 1 * (z 0).val = 0 + 1 * j.val by omega) rfl rfl rfl)
    (fun z => ⟨z 0, ix4 (0 : Fin 1) (z 1) (z 2) (z 3), ix4_val _ _ rfl rfl rfl rfl⟩)
    (fun j j' z z' h => congrArg (fun z : S4x4x160x1024.Idx => z 0) h)

theorem Any_reshape {sp : Space} {s s' : Shape} {e : EltTy} (c : Dev nD) (v : View sig .tc sp s e) (h : s'.numel = s.numel) :
    Any (F := F) c (v.reshape s' h) = Any c v := by
  unfold Any
  rw [View.set_reshape]
  rfl

theorem box_any (c : Dev nD) (j : Fin 4) : Any (F := F) c ((Memref.whole cc0_scratch3).access (boxR j))
    = iprop(Any c ((Memref.whole cc0_scratch3).access (tileR j 0)) ∗ Any c (recvM j 0).view ∗ Any c (recvM j 1).view ∗ Any c (recvM j 2).view) := by
  refine (Any_slices c (Memref.whole cc0_scratch3).view (boxR j) (tileR j) (fun i y => tileIn i y) (tile_emb j) tile_cov tile_dis).trans ?_
  have e : ∀ k : Fin 3, Any (F := F) c (recvM j k).view = Any c ((Memref.whole cc0_scratch3).access (tileR j k.succ)) := fun k => Any_reshape c _ _
  rw [Idealize.ShloMosaic.Ring.bigSep_fin4, e 0, e 1, e 2]
  rfl

/-- The box of tiles an expert reads, put together. -/
theorem box_tiles (inp : Dev nD → In F) (c : Dev nD) (j : Fin 4) :
    Hd (F := F) c ((Memref.whole cc0_scratch3).access (boxR j)) (box inp c j)
      = iprop(Hd c ((Memref.whole cc0_scratch3).access (tileR j 0)) (own (inp c) j) ∗ Hd c (recvM j 0).view (disp (inp (bwd c 0)) j 0)
        ∗ Hd c (recvM j 1).view (disp (inp (bwd c 1)) j 1) ∗ Hd c (recvM j 2).view (disp (inp (bwd c 2)) j 2)) := by
  refine (Hd_slices c (Memref.whole cc0_scratch3).view (boxR j) (tileR j) (fun i y => tileIn i y) (tile_emb j) tile_cov tile_dis (box inp c j)).trans ?_
  have e0 : (fun y => box inp c j (tileIn 0 y)) = own (inp c) j := by
    funext y
    have h0 : (y 0).val < 1 := (y 0).isLt
    have h1 : (y 1).val < 1 := (y 1).isLt
    unfold box
    rw [dif_pos (show ((tileIn 0 y) 1).val = 0 from rfl)]
    congr 1
    exact ix4_val _ _ (show 0 = (y 0).val by omega) (show 0 = (y 1).val by omega) rfl rfl
  have e : ∀ k : Fin 3, Hd (F := F) c ((Memref.whole cc0_scratch3).access (tileR j k.succ)) (fun y => box inp c j (tileIn k.succ y))
      = Hd c (recvM j k).view (disp (inp (bwd c k)) j k) := by
    intro k
    refine (Hd_reshape c _ squeezes_S1x1x160x1024_S160x1024.numel_eq _).trans ?_
    congr 1
    funext y
    rw [squeeze_ix]
    unfold box
    rw [dif_neg (show ¬((tileIn k.succ (ix4 ⟨0, Nat.one_pos⟩ ⟨0, Nat.one_pos⟩ (y 0) (y 1))) 1).val = 0 from Nat.succ_ne_zero _)]
    exact congrArg (disp (inp (bwd c k)) j k) (eq_ix2 y).symm
  exact (Idealize.ShloMosaic.Ring.bigSep_fin4 _).trans (sep4_eq (congrArg _ e0) (e 0) (e 1) (e 2))

/-! ## Results to return -/

theorem inb_cmp (j : Fin 4) : ∀ a, (![j.val, 0, 0, 0] : Fin 4 → ℕ) a + S1x3x160x1024.size a ≤ S4x3x160x1024.size a := by
  have := j.isLt
  intro a; match a with
  | 0 => show j.val + 1 ≤ 4; omega
  | 1 => show 0 + 3 ≤ 3; omega
  | 2 => show 0 + 160 ≤ 160; omega
  | 3 => show 0 + 1024 ≤ 1024; omega
theorem inb_cmps : ∀ a, (![0, 0, 0, 0] : Fin 4 → ℕ) a + S4x3x160x1024.size a ≤ S4x3x160x1024.size a := by
  intro a; match a with
  | 0 => show 0 + 4 ≤ 4; omega
  | 1 => show 0 + 3 ≤ 3; omega
  | 2 => show 0 + 160 ≤ 160; omega
  | 3 => show 0 + 1024 ≤ 1024; omega

abbrev cmpR (j : Fin 4) : Rect S4x3x160x1024 := Rect.unit (s := S4x3x160x1024) ![j.val, 0, 0, 0] S1x3x160x1024.size (inb_cmp j)
abbrev rcR (j : Fin 4) (k : Fin 3) : Rect S4x3x160x1024 := Rect.unit (s := S4x3x160x1024) ![j.val, k.val, 0, 0] S1x1x160x1024.size (inb_comp j k)
abbrev cmpsR : Rect S4x3x160x1024 := Rect.unit (s := S4x3x160x1024) ![0, 0, 0, 0] S4x3x160x1024.size inb_cmps

def rcIn (k : Fin 3) (y : S1x1x160x1024.Idx) : S1x3x160x1024.Idx := ix4 (0 : Fin 1) k (y 2) (y 3)
def cmpIn (j : Fin 4) (y : S1x3x160x1024.Idx) : S4x3x160x1024.Idx := ix4 j (y 1) (y 2) (y 3)

theorem rc_emb (j : Fin 4) (k : Fin 3) (y : S1x1x160x1024.Idx) : (rcR j k).emb y = (cmpR j).emb (rcIn k y) := by
  have h0 : (y 0).val < 1 := (y 0).isLt
  have h1 : (y 1).val < 1 := (y 1).isLt
  exact ix4_val _ _ (show j.val + 1 * (y 0).val = j.val + 1 * 0 by omega) (show k.val + 1 * (y 1).val = 0 + 1 * k.val by omega) rfl rfl
theorem rc_cov (z : S1x3x160x1024.Idx) : ∃ i y, rcIn i y = z := by
  have h0 : (z 0).val < 1 := (z 0).isLt
  exact ⟨z 1, ix4 (0 : Fin 1) (0 : Fin 1) (z 2) (z 3), ix4_val _ _ (show 0 = (z 0).val by omega) rfl rfl rfl⟩
theorem rc_dis (i i' : Fin 3) (y y' : S1x1x160x1024.Idx) (h : rcIn i y = rcIn i' y') : i = i' :=
  congrArg (fun z : S1x3x160x1024.Idx => z 1) h

theorem cmps_any (c : Dev nD) (m : Memref sig .tc .vmem S4x3x160x1024 .bf16) :
    Any (F := F) c (m.access cmpsR) = bigSep Finset.univ fun j => Any c (m.access (cmpR j)) :=
  Any_slices c m.view cmpsR cmpR (fun j z => cmpIn j z)
    (fun j z => by
      have h0 : (z 0).val < 1 := (z 0).isLt
      exact ix4_val _ _ (show j.val + 1 * (z 0).val = 0 + 1 * j.val by omega) rfl rfl rfl)
    (fun z => ⟨z 0, ix4 (0 : Fin 1) (z 1) (z 2) (z 3), ix4_val _ _ rfl rfl rfl rfl⟩)
    (fun j j' z z' h => congrArg (fun z : S4x3x160x1024.Idx => z 0) h)

theorem cmp_any (c : Dev nD) (j : Fin 4) : Any (F := F) c ((Memref.whole cc0_scratch4).access (cmpR j))
    = iprop(Any c (rcM j 0).view ∗ Any c (rcM j 1).view ∗ Any c (rcM j 2).view) := by
  refine (Any_slices c (Memref.whole cc0_scratch4).view (cmpR j) (rcR j) (fun i y => rcIn i y) (rc_emb j) rc_cov rc_dis).trans ?_
  have e : ∀ k : Fin 3, Any (F := F) c (rcM j k).view = Any c ((Memref.whole cc0_scratch4).access (rcR j k)) := fun k => Any_reshape c _ _
  rw [Idealize.ShloMosaic.Ring.bigSep_fin3, e 0, e 1, e 2]

theorem cmp_tiles (inp : Dev nD → In F) (c : Dev nD) (j : Fin 4) :
    Hd (F := F) c ((Memref.whole cc0_scratch4).access (cmpR j)) (comp inp c j)
      = iprop(Hd c (rcM j 0).view (ret inp c j 0) ∗ Hd c (rcM j 1).view (ret inp c j 1) ∗ Hd c (rcM j 2).view (ret inp c j 2)) := by
  refine (Hd_slices c (Memref.whole cc0_scratch4).view (cmpR j) (rcR j) (fun i y => rcIn i y) (rc_emb j) rc_cov rc_dis (comp inp c j)).trans ?_
  have e : ∀ k : Fin 3, Hd (F := F) c ((Memref.whole cc0_scratch4).access (rcR j k)) (fun y => comp inp c j (rcIn k y))
      = Hd c (rcM j k).view (ret inp c j k) := by
    intro k
    refine (Hd_reshape c _ squeezes_S1x1x160x1024_S160x1024.numel_eq _).trans ?_
    congr 1
    funext y
    rw [squeeze_ix]
    rfl
  exact (Idealize.ShloMosaic.Ring.bigSep_fin3 _).trans (sep3_eq (e 0) (e 1) (e 2))

end Cert.KernelProof
-- ==== Proof.Rules.lean ====
/-
  The steps of the body as curried rules, each on the windows the protocol names: a load, a dead load followed by its
  store, a tile sent, a tile waited for, a weight block copied in.
-/
module

public import proofs.«01_k».proof.Proof.Tiles

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem curry1 {A C : sProp 𝕄} (h : A ⊢ C) : ⊢ iprop(A -∗ C) := by
  iintro HA
  iapply h
  iexact HA
theorem curry2 {A B C : sProp 𝕄} (h : iprop(A ∗ B) ⊢ C) : ⊢ iprop(A -∗ B -∗ C) := by
  iintro HA HB
  iapply h
  isplitl [HA]; · iexact HA
  iexact HB
theorem curry3 {A B C D : sProp 𝕄} (h : iprop(A ∗ B ∗ C) ⊢ D) : ⊢ iprop(A -∗ B -∗ C -∗ D) := by
  iintro HA HB HC
  iapply h
  isplitl [HA]; · iexact HA
  isplitl [HB]; · iexact HB
  iexact HC
theorem curry4 {A B C D E : sProp 𝕄} (h : iprop(A ∗ B ∗ C ∗ D) ⊢ E) : ⊢ iprop(A -∗ B -∗ C -∗ D -∗ E) := by
  iintro HA HB HC HD
  iapply h
  isplitl [HA]; · iexact HA
  isplitl [HB]; · iexact HB
  isplitl [HC]; · iexact HC
  iexact HD

/-! ## Whole buffers -/

section Whole

variable {sp : Space} {s : Shape} {e : EltTy}

/-- A rectangle of the whole shape reads what the view reads. -/
theorem HdS_full (c : Dev nD) (v : View sig .tc sp s e) {off : Fin s.rank → ℕ} (h0 : ∀ a, off a = 0)
    (inb : ∀ a, off a + s.size a ≤ s.size a) (S : Finset v.ty.Idx) (w : s.Idx → Elt F e) :
    HdS (F := F) c (v.slice (Rect.unit (s := s) off s.size inb)) S w = HdS c v S w := by
  have he : ∀ x : s.Idx, (Rect.unit (s := s) off s.size inb).emb x = x := by
    intro x; funext a; apply Fin.ext
    rw [Rect.emb_apply]
    show off a + 1 * (x a).val = (x a).val
    rw [h0]; omega
  have hr : ∀ f : v.ty.Contents (Elt F), (v.slice (Rect.unit (s := s) off s.size inb)).read (Elt F) f = v.read (Elt F) f := by
    intro f; funext x
    show v.read (Elt F) f ((Rect.unit (s := s) off s.size inb).emb x) = v.read (Elt F) f x
    rw [he]
  unfold HdS
  congr 1; funext f
  have : ((v.slice (Rect.unit (s := s) off s.size inb)).read (Elt F) f = w) = (v.read (Elt F) f = w) := by rw [hr]
  rw [this]

/-- A whole buffer at any contents. -/
abbrev AnyB (c : Dev nD) (m : Memref sig .tc sp s e) : sProp 𝕄 := AnyS c m.view Finset.univ
/-- A whole buffer at a value. -/
abbrev HdB (c : Dev nD) (m : Memref sig .tc sp s e) (w : s.Idx → Elt F e) : sProp 𝕄 := HdS c m.view Finset.univ w

end Whole

/-! ## Loads and stores -/

section Mem

variable {cs : CoreSpace} {s : Shape} {e : EltTy} {α : Type}

theorem ldV {Q : α → sProp 𝕄} (c : Dev nD) {m : Memref sig .tc cs s e} {r : Rect s} {v : View sig .tc cs r.shape e} (hv : m.access r = v)
    {hl : m.view.LoadsAt r.toLoadRect} {w : r.shape.Idx → Elt F e}
    {k : (r.shape.Idx → Elt F e) → Prog (TpuEff nD τ sig (Elt F) Λ₀ .tc) α} :
    ⊢ iprop(Hd c v w -∗ (Hd c v w -∗ Wp c (k w) Q) -∗ Wp c (.op (.load m r.toLoadRect hl) k) Q) := by
  subst hv
  exact curry1 (wp_loadH c (Finset.Subset.refl _))

theorem ldFull {Q : α → sProp 𝕄} (c : Dev nD) {m : Memref sig .tc cs s e} {off : Fin s.rank → ℕ} (h0 : ∀ a, off a = 0)
    {inb : ∀ a, off a + s.size a ≤ s.size a}
    {hl : m.view.LoadsAt (Rect.unit (s := s) off s.size inb).toLoadRect} {w : s.Idx → Elt F e}
    {k : (s.Idx → Elt F e) → Prog (TpuEff nD τ sig (Elt F) Λ₀ .tc) α} :
    ⊢ iprop(HdB c m w -∗ (HdB c m w -∗ Wp c (k w) Q) -∗ Wp c (.op (.load m (Rect.unit (s := s) off s.size inb).toLoadRect hl) k) Q) := by
  have h := wp_loadH (F := F) (Q := Q) (m := m) (r := Rect.unit (s := s) off s.size inb) (hl := hl) (w := w) (k := k) c (S := Finset.univ) (Finset.subset_univ _)
  have e := HdS_full (F := F) c m.view h0 inb Finset.univ w
  rw [show HdS (F := F) c (m.access (Rect.unit (s := s) off s.size inb)) Finset.univ w = HdB c m w from e] at h
  exact curry1 h

/-- A load from part of a whole buffer held at that part's value. -/
theorem ldB {Q : α → sProp 𝕄} (c : Dev nD) {m : Memref sig .tc cs s e} {r : Rect s}
    {hl : m.view.LoadsAt r.toLoadRect} {w : r.shape.Idx → Elt F e}
    {k : (r.shape.Idx → Elt F e) → Prog (TpuEff nD τ sig (Elt F) Λ₀ .tc) α} :
    ⊢ iprop(HdS c (m.access r) Finset.univ w -∗ (HdS c (m.access r) Finset.univ w -∗ Wp c (k w) Q) -∗ Wp c (.op (.load m r.toLoadRect hl) k) Q) :=
  curry1 (wp_loadH c (Finset.subset_univ _))

theorem partB (c : Dev nD) {m : Memref sig .tc cs s e} {r : Rect s} {w : r.shape.Idx → Elt F e} :
    HdS (F := F) c (m.access r) Finset.univ w ⊢ AnyB c m := HdS_any c (m.access r) Finset.univ w

/-- A load whose result is not used. -/
theorem ldDead {Q : α → sProp 𝕄} (c : Dev nD) {m : Memref sig .tc cs s e} {r : Rect s}
    {hl : m.view.LoadsAt r.toLoadRect} {k : Prog (TpuEff nD τ sig (Elt F) Λ₀ .tc) α} :
    ⊢ iprop(AnyB c m -∗ (AnyB c m -∗ Wp c k Q) -∗ Wp c (.op (.load m r.toLoadRect hl) (fun _ => k)) Q) := by
  have h : AnyB (F := F) c m ⊢ iprop((∀ w : r.shape.Idx → Elt F e, AnyB c m -∗ Wp c k Q) -∗ Wp c (.op (.load m r.toLoadRect hl) (fun _ => k)) Q) :=
    wp_loadAny (F := F) (Q := Q) (m := m) (r := r) (hl := hl) (k := fun _ => k) c (S := Finset.univ) (Finset.subset_univ _)
  iintro H Hk
  iapply h $$ H
  iintro %w H
  iapply Hk $$ H

theorem stB {Q : α → sProp 𝕄} (c : Dev nD) {m : Memref sig .tc cs s e} {r : Rect s} {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ .tc) α} :
    ⊢ iprop(AnyB c m -∗ (HdS c (m.access r) Finset.univ w -∗ Wp c (k ⟨⟩) Q) -∗ Wp c (.op (.store m r w Finset.univ hx hm) k) Q) := by
  have h : AnyB (F := F) c m ⊢ iprop((HdS c (m.access r) Finset.univ w -∗ Wp c (k ⟨⟩) Q) -∗ Wp c (.op (.store m r w Finset.univ hx hm) k) Q) :=
    wp_storeH (F := F) (Q := Q) (m := m) (r := r) (w := w) (hx := hx) (hm := hm) (k := k) c (S := Finset.univ) (Finset.subset_univ _)
  exact curry1 h

/-- The dead load before a store, and the store, of part of a whole buffer. -/
theorem ldstB {Q : α → sProp 𝕄} (c : Dev nD) {m : Memref sig .tc cs s e} {r : Rect s} {hl : m.view.LoadsAt r.toLoadRect}
    {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ .tc) α} :
    ⊢ iprop(AnyB c m -∗ (HdS c (m.access r) Finset.univ w -∗ Wp c (k ⟨⟩) Q)
      -∗ Wp c (.op (.load m r.toLoadRect hl) (fun _ => .op (.store m r w Finset.univ hx hm) k)) Q) := by
  iintro H Hk
  iapply (ldDead c) $$ H
  iintro H
  iapply (stB c) $$ H Hk

/-- The dead load before a store, and the store, of a window. -/
theorem ldstV {Q : α → sProp 𝕄} (c : Dev nD) {m : Memref sig .tc cs s e} {r : Rect s} {v : View sig .tc cs r.shape e} (hv : m.access r = v)
    {hl : m.view.LoadsAt r.toLoadRect} {w w' : r.shape.Idx → Elt F e} (hw : w = w') {hx : (m.access r).Stores Finset.univ}
    {hm : (Finset.univ : Finset r.shape.Idx) = Finset.univ ∨ ∀ a, r.stride a = 1} {k : PUnit → Prog (TpuEff nD τ sig (Elt F) Λ₀ .tc) α} :
    ⊢ iprop(Any c v -∗ (Hd c v w' -∗ Wp c (k ⟨⟩) Q)
      -∗ Wp c (.op (.load m r.toLoadRect hl) (fun _ => .op (.store m r w Finset.univ hx hm) k)) Q) := by
  subst hv hw
  have h := wp_loadAny (F := F) (Q := Q) (m := m) (r := r) (hl := hl) (k := fun _ => .op (.store m r w Finset.univ hx hm) k) c (Finset.Subset.refl _)
  have h' := wp_storeH (F := F) (Q := Q) (m := m) (r := r) (w := w) (hx := hx) (hm := hm) (k := k) c (Finset.Subset.refl _)
  iintro H Hk
  iapply h $$ H
  iintro %w' H
  iapply h' $$ H Hk

/-- The dead load before a store, and the store, of a whole buffer. -/
theorem ldstFull {Q : α → sProp 𝕄} (c : Dev nD) {m : Memref sig .tc cs s e} {off : Fin s.rank → ℕ} (h0 : ∀ a, off a = 0)
    {inb : ∀ a, off a + s.size a ≤ s.size a} {hl : m.view.LoadsAt (Rect.unit (s := s) off s.size inb).toLoadRect}
    {w w' : s.Idx → Elt F e} (hw : w = w') {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} :
    ⊢ iprop(AnyB c m -∗ (HdB c m w' -∗ Wp c (k ⟨⟩) Q)
      -∗ Wp c (.op (.load m (Rect.unit (s := s) off s.size inb).toLoadRect hl)
        (fun _ => .op (.store m (Rect.unit (s := s) off s.size inb) w Finset.univ hx hm) k)) Q) := by
  subst hw
  have h := ldstB (F := F) (Q := Q) (m := m) (r := Rect.unit (s := s) off s.size inb) (hl := hl) (w := w) (hx := hx) (hm := hm) (k := k) c
  have e := HdS_full (F := F) c m.view h0 inb Finset.univ w
  rw [show HdS (F := F) c (m.access (Rect.unit (s := s) off s.size inb)) Finset.univ w = HdB c m w from e] at h
  exact h

/-- A program that has returned. -/
theorem fin {Q : α → sProp 𝕄} (c : Dev nD) {a : α} : ⊢ iprop(Q a -∗ Wp (F := F) c (.ret a) Q) := by
  unfold Wp
  rw [wp_ret]
  iintro H
  iexact H

end Mem

/-! ## The protocol's steps -/

section Steps

variable (inp : Dev nD → In F) {α : Type}

theorem signal {Q : α → sProp 𝕄} (K : Dev nD × PX → ℕ) (c n : Dev nD) (k : Fin 3) (hn : n = fwd c k) {sm : Sem sig} (hs : sm = barS)
    {a : ℕ} (ha : a = 1) (t : ℕ) (ht : t < 27) (hob : ob c t = tallyAt (cell (fwd c k) none) () 1)
    {p : PUnit → Prog (TpuEff nD τ sig (Elt F) Λ₀ .tc) α} :
    ⊢ iprop(Start inp K c -∗ owesE c (owed c t) -∗ dutyTok ER (cell (fwd c k) none) 0 k
        -∗ lands c k
      -∗ (owesE c (owed c (t + 1)) -∗ Wp c (p ⟨⟩) Q) -∗ Wp c (.op (.semSignal (n : Thread nD τ) sm a) p) Q) :=
  curry4 (wp_bar_signal inp K c n k hn hs ha t ht hob)

theorem await {Q : α → sProp 𝕄} (K : Dev nD × PX → ℕ) (c : Dev nD) {sm : Sem sig} (hs : sm = barS) {a : ℕ} (ha : a = 3)
    {p : PUnit → Prog (TpuEff nD τ sig (Elt F) Λ₀ .tc) α} :
    ⊢ iprop(Start inp K c -∗ owesE c (owed c 3) -∗ waitRes c none 3
      -∗ ((owesE c (owed c 3) ∗ semVal (cell c none) 0 ∗ bigSep Finset.univ (barPay (F := F) c)) -∗ Wp c (p ⟨⟩) Q)
          -∗ Wp c (.op (.semWait sm a) p) Q) :=
  curry3 (wp_bar_wait inp K c hs ha)

theorem dispatch {Q : α → sProp 𝕄} (K : Dev nD × PX → ℕ) (c n : Dev nD) (j : Fin 4) (k : Fin 3) (t : ℕ) (hn : n = fwd c k)
    {src dst : Memref sig .tc .vmem S160x1024 .bf16} {sS sem : DmaSem sig} (h1 : src = xsM j k) (h2 : dst = recvM j k)
    (h3 : sS = dmaIx 0 j k) (h4 : sem = dmaIx 1 j k)
    (ht : t < 27) (hob : ob c t = tallyAt (cell (fwd c k) (some (1, j, k))) () N)
    {hsc : (dst : Memref sig (Dev.tc n : Thread nD τ).2.kind .vmem S160x1024 .bf16).view.ref.isScScratch = false} {hsrc : src.view.WordExact} {hdst : dst.view.WordExact}
    {hsem : DmaTarget.Typed .vmem (.dma sem) (.remote (Dev.tc n : Thread nD τ) dst (.dma sS) hsc)}
    {p : PUnit → Prog (TpuEff nD τ sig (Elt F) Λ₀ .tc) α} :
    ⊢ iprop(Pers inp K -∗ Hd c (xsM j k).view (disp (inp c) j k) -∗ dispRes c j k -∗ owesE c (owed c t)
      -∗ ((waitRes c (some (0, j, k)) N ∗ owesE c (owed c (t + 1))) -∗ Wp c (p ⟨⟩) Q)
          -∗ Wp c (.op (.enqueueDma src (.remote (Dev.tc n : Thread nD τ) dst (.dma sS) hsc) (.dma sem) hsrc hdst hsem) p) Q) :=
  curry4 (wp_dispatch inp K c n j k t hn h1 h2 h3 h4 ht hob)

theorem giveBack {Q : α → sProp 𝕄} (K : Dev nD × PX → ℕ) (c n : Dev nD) (j : Fin 4) (k : Fin 3) (t : ℕ) (hn : n = bwd c k)
    {src dst : Memref sig .tc .vmem S160x1024 .bf16} {sS sem : DmaSem sig} (h1 : src = rcM j k) (h2 : dst = rrM j k)
    (h3 : sS = dmaIx 2 j k) (h4 : sem = dmaIx 3 j k)
    (ht : t < 27) (hob : ob c t = tallyAt (cell (bwd c k) (some (3, j, k))) () N)
    {hsc : (dst : Memref sig (Dev.tc n : Thread nD τ).2.kind .vmem S160x1024 .bf16).view.ref.isScScratch = false} {hsrc : src.view.WordExact} {hdst : dst.view.WordExact}
    {hsem : DmaTarget.Typed .vmem (.dma sem) (.remote (Dev.tc n : Thread nD τ) dst (.dma sS) hsc)}
    {p : PUnit → Prog (TpuEff nD τ sig (Elt F) Λ₀ .tc) α} :
    ⊢ iprop(Pers inp K -∗ Hd c (rcM j k).view (ret inp c j k) -∗ retRes c j k -∗ owesE c (owed c t)
      -∗ ((waitRes c (some (2, j, k)) N ∗ owesE c (owed c (t + 1))) -∗ Wp c (p ⟨⟩) Q)
          -∗ Wp c (.op (.enqueueDma src (.remote (Dev.tc n : Thread nD τ) dst (.dma sS) hsc) (.dma sem) hsrc hdst hsem) p) Q) :=
  curry4 (wp_return inp K c n j k t hn h1 h2 h3 h4 ht hob)

/-- What a departure wait gives: the window, and its counter at rest. -/
def left (q : Fin 4) (c : Dev nD) (j : Fin 4) (k : Fin 3) : sProp 𝕄 :=
  iprop((if q = 0 then Any (F := F) c (xsM j k).view else Any c (rcM j k).view) ∗ semVal (cell c (some (q, j, k))) 0)

theorem sent {Q : α → sProp 𝕄} (K : Dev nD × PX → ℕ) (c : Dev nD) (j : Fin 4) (k : Fin 3)
    {src dst : Memref sig .tc .vmem S160x1024 .bf16} {sem : DmaSem sig} (h : sem = dmaIx 0 j k)
    {hsrc : src.view.WordExact} {hdst : dst.view.WordExact} {p : PUnit → Prog (TpuEff nD τ sig (Elt F) Λ₀ .tc) α} :
    ⊢ iprop(Pers inp K -∗ waitRes c (some (0, j, k)) N -∗ owesE c (owed c 27)
      -∗ ((left 0 c j k ∗ owesE c (owed c 27)) -∗ Wp c (p ⟨⟩) Q)
          -∗ Wp c (.op (.waitDma2 sem src dst hsrc hdst) p) Q) := by
  iintro HP Hw HO Hk
  iapply (curry3 (wp_waitX inp K c 0 j k 27 h (by simp))) $$ HP Hw HO
  rw [payX_0]
  iintro ⟨Hp, Hv, HO⟩
  iapply Hk
  isplitr [HO]
  · unfold left
    rw [if_pos rfl]
    isplitl [Hp]; · iexact Hp
    iexact Hv
  iexact HO

theorem returned {Q : α → sProp 𝕄} (K : Dev nD × PX → ℕ) (c : Dev nD) (j : Fin 4) (k : Fin 3)
    {src dst : Memref sig .tc .vmem S160x1024 .bf16} {sem : DmaSem sig} (h : sem = dmaIx 2 j k)
    {hsrc : src.view.WordExact} {hdst : dst.view.WordExact} {p : PUnit → Prog (TpuEff nD τ sig (Elt F) Λ₀ .tc) α} :
    ⊢ iprop(Pers inp K -∗ waitRes c (some (2, j, k)) N -∗ owesE c (owed c 27)
      -∗ ((left 2 c j k ∗ owesE c (owed c 27)) -∗ Wp c (p ⟨⟩) Q)
          -∗ Wp c (.op (.waitDma2 sem src dst hsrc hdst) p) Q) := by
  iintro HP Hw HO Hk
  iapply (curry3 (wp_waitX inp K c 2 j k 27 h (by simp))) $$ HP Hw HO
  rw [payX_2]
  iintro ⟨Hp, Hv, HO⟩
  iapply Hk
  isplitr [HO]
  · unfold left
    rw [if_neg (by decide)]
    isplitl [Hp]; · iexact Hp
    iexact Hv
  iexact HO

/-- A token tile arrived, and its counter at rest. -/
def got1 (c : Dev nD) (j : Fin 4) (k : Fin 3) : sProp 𝕄 :=
  iprop(Hd c (recvM j k).view (disp (inp (bwd c k)) j k) ∗ semVal (cell c (some (1, j, k))) 0)
/-- A result tile arrived, and its counter at rest. -/
def got3 (c : Dev nD) (j : Fin 4) (k : Fin 3) : sProp 𝕄 :=
  iprop(Hd c (rrM j k).view (ret inp (fwd c k) j k) ∗ semVal (cell c (some (3, j, k))) 0)

theorem arrive {Q : α → sProp 𝕄} (K : Dev nD × PX → ℕ) (c : Dev nD) (j : Fin 4) (k : Fin 3) (t : ℕ)
    {src dst : Memref sig .tc .vmem S160x1024 .bf16} {sem : DmaSem sig} (h : sem = dmaIx 1 j k)
    (hl : ∀ i ∈ Finset.Ico t 27, levX (some (1, j, k)) < obLev i)
    {hsrc : src.view.WordExact} {hdst : dst.view.WordExact} {p : PUnit → Prog (TpuEff nD τ sig (Elt F) Λ₀ .tc) α} :
    ⊢ iprop(Pers inp K -∗ waitRes c (some (1, j, k)) N -∗ owesE c (owed c t)
      -∗ ((got1 inp c j k ∗ owesE c (owed c t)) -∗ Wp c (p ⟨⟩) Q)
          -∗ Wp c (.op (.waitDma2 sem src dst hsrc hdst) p) Q) := by
  iintro HP Hw HO Hk
  iapply (curry3 (wp_waitX inp K c 1 j k t h hl)) $$ HP Hw HO
  rw [payX_1]
  iintro ⟨Hp, Hv, HO⟩
  iapply Hk
  isplitr [HO]
  · unfold got1
    isplitl [Hp]; · iexact Hp
    iexact Hv
  iexact HO

theorem comeBack {Q : α → sProp 𝕄} (K : Dev nD × PX → ℕ) (c : Dev nD) (j : Fin 4) (k : Fin 3) (t : ℕ)
    {src dst : Memref sig .tc .vmem S160x1024 .bf16} {sem : DmaSem sig} (h : sem = dmaIx 3 j k)
    (hl : ∀ i ∈ Finset.Ico t 27, levX (some (3, j, k)) < obLev i)
    {hsrc : src.view.WordExact} {hdst : dst.view.WordExact} {p : PUnit → Prog (TpuEff nD τ sig (Elt F) Λ₀ .tc) α} :
    ⊢ iprop(Pers inp K -∗ waitRes c (some (3, j, k)) N -∗ owesE c (owed c t)
      -∗ ((got3 inp c j k ∗ owesE c (owed c t)) -∗ Wp c (p ⟨⟩) Q)
          -∗ Wp c (.op (.waitDma2 sem src dst hsrc hdst) p) Q) := by
  iintro HP Hw HO Hk
  iapply (curry3 (wp_waitX inp K c 3 j k t h hl)) $$ HP Hw HO
  rw [payX_3]
  iintro ⟨Hp, Hv, HO⟩
  iapply Hk
  isplitr [HO]
  · unfold got3
    isplitl [Hp]; · iexact Hp
    iexact Hv
  iexact HO

end Steps

/-! ## Tiles joined and cut -/

section Join

variable (inp : Dev nD → In F)

/-- Three counters of an expert at rest. -/
def sv (q : Fin 4) (c : Dev nD) (j : Fin 4) : sProp 𝕄 :=
  iprop(semVal (cell c (some (q, j, 0))) 0 ∗ semVal (cell c (some (q, j, 1))) 0 ∗ semVal (cell c (some (q, j, 2))) 0)

theorem box_join (c : Dev nD) (j : Fin 4) :
    ⊢ iprop(Hd c ((Memref.whole cc0_scratch3).access (tileR j 0)) (own (inp c) j) -∗ got1 inp c j 0 -∗ got1 inp c j 1 -∗ got1 inp c j 2
      -∗ (Hd c ((Memref.whole cc0_scratch3).access (boxR j)) (box inp c j) ∗ sv 1 c j)) := by
  unfold got1 sv
  iintro H0 ⟨H1, S1⟩ ⟨H2, S2⟩ ⟨H3, S3⟩
  isplitl [H0 H1 H2 H3]
  · iapply (Entails.of_eq (box_tiles inp c j).symm)
    isplitl [H0]; · iexact H0
    isplitl [H1]; · iexact H1
    isplitl [H2]; · iexact H2
    iexact H3
  isplitl [S1]; · iexact S1
  isplitl [S2]; · iexact S2
  iexact S3

theorem gat_join (c : Dev nD) (j : Fin 4) :
    ⊢ iprop(Hd c ((Memref.whole cc0_scratch5).access (rowR j 0)) (keep inp c j) -∗ got3 inp c j 0 -∗ got3 inp c j 1 -∗ got3 inp c j 2
      -∗ (Hd c ((Memref.whole cc0_scratch5).access (blkR j)) (gat inp c j) ∗ sv 3 c j)) := by
  unfold got3 sv
  iintro H0 ⟨H1, S1⟩ ⟨H2, S2⟩ ⟨H3, S3⟩
  isplitl [H0 H1 H2 H3]
  · iapply (Entails.of_eq (gat_rows inp c j).symm)
    isplitl [H0]; · iexact H0
    isplitl [H1]; · iexact H1
    isplitl [H2]; · iexact H2
    iexact H3
  isplitl [S1]; · iexact S1
  isplitl [S2]; · iexact S2
  iexact S3

end Join

/-! ## The weights -/

section Weights

variable (inp : Dev nD → In F) {α : Type}

abbrev m1 : Memref sig .tc .vmem S1024x2048 .f32 := Memref.whole cc0_scratch6
abbrev m2 : Memref sig .tc .vmem S2048x1024 .f32 := Memref.whole cc0_scratch7

theorem inb_w1 (j : Fin 4) : ∀ a, (![j.val, 0, 0] : Fin 3 → ℕ) a + S1x1024x2048.size a ≤ S4x1024x2048.size a := by
  have := j.isLt
  intro a; match a with
  | 0 => show j.val + 1 ≤ 4; omega
  | 1 => show 0 + 1024 ≤ 1024; omega
  | 2 => show 0 + 2048 ≤ 2048; omega
theorem inb_w2 (j : Fin 4) : ∀ a, (![j.val, 0, 0] : Fin 3 → ℕ) a + S1x2048x1024.size a ≤ S4x2048x1024.size a := by
  have := j.isLt
  intro a; match a with
  | 0 => show j.val + 1 ≤ 4; omega
  | 1 => show 0 + 2048 ≤ 2048; omega
  | 2 => show 0 + 1024 ≤ 1024; omega

abbrev w1R (j : Fin 4) : Rect S4x1024x2048 := Rect.unit (s := S4x1024x2048) ![j.val, 0, 0] S1x1024x2048.size (inb_w1 j)
abbrev w2R (j : Fin 4) : Rect S4x2048x1024 := Rect.unit (s := S4x2048x1024) ![j.val, 0, 0] S1x2048x1024.size (inb_w2 j)
abbrev w1M (j : Fin 4) : Memref sig .tc .hbm S1024x2048 .f32 :=
  ((Memref.whole main_arg2).slice (w1R j) (fun _ => rfl)).squeeze S1024x2048 squeezes_S1x1024x2048_S1024x2048
abbrev w2M (j : Fin 4) : Memref sig .tc .hbm S2048x1024 .f32 :=
  ((Memref.whole main_arg3).slice (w2R j) (fun _ => rfl)).squeeze S2048x1024 squeezes_S1x2048x1024_S2048x1024

/-- The two weight counters. -/
def ws (i : Fin 2) : DmaSem sig := ⟨68 + i.val, by have := i.isLt; show 68 + i.val < 70; omega⟩

def N1 : ℕ := m1.view.dmaCredit
def N2 : ℕ := m2.view.dmaCredit
theorem N1_pos : 0 < N1 := by unfold N1; decide
theorem N2_pos : 0 < N2 := by unfold N2; decide

/-- Expert `j`'s first weight block on its way in. -/
def Fl1 (c : Dev nD) (j : Fin 4) : sProp 𝕄 :=
  Transfers.Flight EC (c : Thread nD τ) (.dma (ws 0)) () N1 iprop(Hd c m1.view (wt1 (inp c) j) ∗ Hd c (w1M j).view (wt1 (inp c) j))
def Fl2 (c : Dev nD) (j : Fin 4) : sProp 𝕄 :=
  Transfers.Flight EC (c : Thread nD τ) (.dma (ws 1)) () N2 iprop(Hd c m2.view (wt2 (inp c) j) ∗ Hd c (w2M j).view (wt2 (inp c) j))
/-- Expert `j`'s first weight block in HBM. -/
def Wh1 (c : Dev nD) (j : Fin 4) : sProp 𝕄 := Hd c (w1M j).view (wt1 (inp c) j)
def Wh2 (c : Dev nD) (j : Fin 4) : sProp 𝕄 := Hd c (w2M j).view (wt2 (inp c) j)
/-- A weight counter at rest. -/
def wv (c : Dev nD) (i : Fin 2) : sProp 𝕄 := semVal ((c : Thread nD τ), SemLoc.dma (ws i)) 0

theorem copy1 {Q : α → sProp 𝕄} (c : Dev nD) (j : Fin 4) {src : Memref sig .tc .hbm S1024x2048 .f32} {dst : Memref sig .tc .vmem S1024x2048 .f32}
    {sm : DmaSem sig} (h1 : src = w1M j) (h2 : dst = m1) (h3 : sm = ws 0) {hsrc : src.view.WordExact}
    {hdst : dst.view.WordExact} {hsem : DmaTarget.Typed (nD := nD) (τ := τ) (p := Proc.tc) .hbm (.dma sm) (.here dst)}
    {k : PUnit → Prog (TpuEff nD τ sig (Elt F) Λ₀ .tc) α} :
    ⊢ iprop(Wh1 inp c j -∗ AnyB c m1 -∗ wv c 0 -∗ (Fl1 inp c j -∗ Wp c (k ⟨⟩) Q)
          -∗ Wp c (.op (.enqueueDma src (.here dst) (.dma sm) hsrc hdst hsem) k) Q) := by
  subst h1 h2 h3
  refine curry3 ?_
  have h := wp_copyH (F := F) (Q := Q) (src := w1M j) (dst := m1) (sm := .dma (ws 0)) (hsrc := hsrc) (hdst := hdst) (hsem := hsem) (w := wt1 (inp c) j) (k := k) c N1 rfl N1_pos
  rw [show Any (F := F) c m1.view = AnyB c m1 from by unfold Any AnyB; rw [View.set_whole]] at h
  exact h

theorem copy2 {Q : α → sProp 𝕄} (c : Dev nD) (j : Fin 4) {src : Memref sig .tc .hbm S2048x1024 .f32} {dst : Memref sig .tc .vmem S2048x1024 .f32}
    {sm : DmaSem sig} (h1 : src = w2M j) (h2 : dst = m2) (h3 : sm = ws 1) {hsrc : src.view.WordExact}
    {hdst : dst.view.WordExact} {hsem : DmaTarget.Typed (nD := nD) (τ := τ) (p := Proc.tc) .hbm (.dma sm) (.here dst)}
    {k : PUnit → Prog (TpuEff nD τ sig (Elt F) Λ₀ .tc) α} :
    ⊢ iprop(Wh2 inp c j -∗ AnyB c m2 -∗ wv c 1 -∗ (Fl2 inp c j -∗ Wp c (k ⟨⟩) Q)
          -∗ Wp c (.op (.enqueueDma src (.here dst) (.dma sm) hsrc hdst hsem) k) Q) := by
  subst h1 h2 h3
  refine curry3 ?_
  have h := wp_copyH (F := F) (Q := Q) (src := w2M j) (dst := m2) (sm := .dma (ws 1)) (hsrc := hsrc) (hdst := hdst) (hsem := hsem) (w := wt2 (inp c) j) (k := k) c N2 rfl N2_pos
  rw [show Any (F := F) c m2.view = AnyB c m2 from by unfold Any AnyB; rw [View.set_whole]] at h
  exact h

theorem wait1 {Q : α → sProp 𝕄} (K : Dev nD × PX → ℕ) (c : Dev nD) (j : Fin 4) (t : ℕ) {src : Memref sig .tc .hbm S1024x2048 .f32} {dst : Memref sig .tc .vmem S1024x2048 .f32}
    {sm : DmaSem sig} (h2 : dst = m1) (h3 : sm = ws 0) (hl : ∀ i ∈ Finset.Ico t 27, levS (.dma (ws 0)) < obLev i)
    {hsrc : src.view.WordExact} {hdst : dst.view.WordExact} {p : PUnit → Prog (TpuEff nD τ sig (Elt F) Λ₀ .tc) α} :
    ⊢ iprop(Pers inp K -∗ Fl1 inp c j -∗ owesE c (owed c t)
      -∗ ((HdB c m1 (wt1 (inp c) j) ∗ Wh1 inp c j ∗ wv c 0 ∗ owesE c (owed c t)) -∗ Wp c (p ⟨⟩) Q)
          -∗ Wp c (.op (.waitDma2 sm src dst hsrc hdst) p) Q) := by
  subst h2 h3
  unfold Fl1 Wh1 wv
  iintro HP Hw HO Hk
  iapply (curry3 (wp_waitLocal inp K c t N1 rfl hl)) $$ HP Hw HO
  rw [show Hd (F := F) c m1.view (wt1 (inp c) j) = HdB c m1 (wt1 (inp c) j) from by unfold Hd HdB; rw [View.set_whole]]
  iintro ⟨⟨HD, Hs⟩, Hv, HO⟩
  iapply Hk
  isplitl [HD]; · iexact HD
  isplitl [Hs]; · iexact Hs
  isplitl [Hv]; · iexact Hv
  iexact HO

theorem wait2 {Q : α → sProp 𝕄} (K : Dev nD × PX → ℕ) (c : Dev nD) (j : Fin 4) (t : ℕ) {src : Memref sig .tc .hbm S2048x1024 .f32} {dst : Memref sig .tc .vmem S2048x1024 .f32}
    {sm : DmaSem sig} (h2 : dst = m2) (h3 : sm = ws 1) (hl : ∀ i ∈ Finset.Ico t 27, levS (.dma (ws 1)) < obLev i)
    {hsrc : src.view.WordExact} {hdst : dst.view.WordExact} {p : PUnit → Prog (TpuEff nD τ sig (Elt F) Λ₀ .tc) α} :
    ⊢ iprop(Pers inp K -∗ Fl2 inp c j -∗ owesE c (owed c t)
      -∗ ((HdB c m2 (wt2 (inp c) j) ∗ Wh2 inp c j ∗ wv c 1 ∗ owesE c (owed c t)) -∗ Wp c (p ⟨⟩) Q)
          -∗ Wp c (.op (.waitDma2 sm src dst hsrc hdst) p) Q) := by
  subst h2 h3
  unfold Fl2 Wh2 wv
  iintro HP Hw HO Hk
  iapply (curry3 (wp_waitLocal inp K c t N2 rfl hl)) $$ HP Hw HO
  rw [show Hd (F := F) c m2.view (wt2 (inp c) j) = HdB c m2 (wt2 (inp c) j) from by unfold Hd HdB; rw [View.set_whole]]
  iintro ⟨⟨HD, Hs⟩, Hv, HO⟩
  iapply Hk
  isplitl [HD]; · iexact HD
  isplitl [Hs]; · iexact Hs
  isplitl [Hv]; · iexact Hv
  iexact HO

end Weights

end Cert.KernelProof
-- ==== Proof.Names.lean ====
/-
  Names for what the body holds, and for a part of the body on the buffers the call passes it.
-/
module

public import proofs.«01_k».proof.Proof.Rules

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the body on the buffers of the call. -/
abbrev onBufs {β : Type 1} (f : (arg0 : Memref sig .tc .vmem S2048x1024 .bf16) → (harg0 : arg0.IsWhole) → (arg1 : Memref sig .tc .vmem S1x2048 .i32) → (harg1 : arg1.IsWhole) → (arg2 : Memref sig .tc .vmem S2048x1 .i32) → (harg2 : arg2.IsWhole) → (arg3 : Memref sig .tc .hbm S4x1024x2048 .f32) → (harg3 : arg3.IsWhole) → (arg4 : Memref sig .tc .hbm S4x2048x1024 .f32) → (harg4 : arg4.IsWhole) → (arg5 : Memref sig .tc .vmem S2048x1024 .f32) → (harg5 : arg5.IsWhole) → (arg6 : Memref sig .tc .vmem S640x2048 .bf16) → (harg6 : arg6.IsWhole) → (arg7 : Memref sig .tc .vmem S2048x640 .bf16) → (harg7 : arg7.IsWhole) → (arg8 : Memref sig .tc .vmem S2560x1024 .bf16) → (harg8 : arg8.IsWhole) → (arg9 : Memref sig .tc .vmem S4x4x160x1024 .bf16) → (harg9 : arg9.IsWhole) → (arg10 : Memref sig .tc .vmem S4x3x160x1024 .bf16) → (harg10 : arg10.IsWhole) → (arg11 : Memref sig .tc .vmem S2560x1024 .bf16) → (harg11 : arg11.IsWhole) → (arg12 : Memref sig .tc .vmem S1024x2048 .f32) → (harg12 : arg12.IsWhole) → (arg13 : Memref sig .tc .vmem S2048x1024 .f32) → (harg13 : arg13.IsWhole) → (arg14 : Memref sig .tc .vmem S640x2048 .f32) → (harg14 : arg14.IsWhole) → (arg15 : DmaSems sig S4x4) → (arg16 : DmaSems sig S4x4) → (arg17 : DmaSems sig S4x4) → (arg18 : DmaSems sig S4x4) → (arg19 : DmaSems sig S2) → β) : β :=
  f (Memref.whole cc0_stg0_0) (Memref.isWhole_whole _) (Memref.whole cc0_stg1_0) (Memref.isWhole_whole _) (Memref.whole cc0_stg2_0) (Memref.isWhole_whole _) (Memref.whole main_arg2) (Memref.isWhole_whole _) (Memref.whole main_arg3) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13

variable (inp : Dev nD → In F)

/-! ## Names for what the body holds -/

/-- The device's staged operands, its staged result, and the scratch buffers held whole. -/
abbrev mX : Memref sig .tc .vmem S2048x1024 .bf16 := Memref.whole cc0_stg0_0
abbrev mS : Memref sig .tc .vmem S1x2048 .i32 := Memref.whole cc0_stg1_0
abbrev mT : Memref sig .tc .vmem S2048x1 .i32 := Memref.whole cc0_stg2_0
abbrev mO : Memref sig .tc .vmem S2048x1024 .f32 := Memref.whole cc0_stg3_0
abbrev mP : Memref sig .tc .vmem S640x2048 .bf16 := Memref.whole cc0_scratch0
abbrev mC : Memref sig .tc .vmem S2048x640 .bf16 := Memref.whole cc0_scratch1
abbrev mH : Memref sig .tc .vmem S640x2048 .f32 := Memref.whole cc0_scratch8

/-- What signalling the device `k + 1` ahead takes. -/
abbrev sigRes (c : Dev nD) (k : Fin 3) : sProp 𝕄 :=
  iprop(dutyTok ER (cell (fwd c k) none) 0 k ∗ lands (F := F) c k)

/-- The tiles for the other devices' first experts, as the body computes them. -/
theorem disp_00 (i : In F) : k0_pay2 (k0_pay1 i.sl) i.x = disp i 0 0 := rfl
theorem disp_01 (i : In F) : k0_pay5 (k0_pay4 row160 (k0_pay3 i.sl)) i.x = disp i 0 1 := rfl
theorem disp_02 (i : In F) : k0_pay7 (k0_pay6 row160 i.sl) i.x = disp i 0 2 := rfl

end Cert.KernelProof
-- ==== Proof.PartsA.lean ====
/-
  The body part by part, each from what it takes to what it leaves: the barrier, and the tiles for the first experts.
-/
module

public import proofs.«01_k».proof.Proof.Names

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

theorem part1 {Q : _ → sProp 𝕄} (K : Dev nD × PX → ℕ) (c : Dev nD) :
    ⊢ iprop(Start inp K c -∗ owesE c (owed c 0) -∗ sigRes c 0 -∗ sigRes c 1
      -∗ (∀ x y z, owesE c (owed c 2) -∗ Q ⟨c, x, SemArray.scalar (sig.barrier 0 rfl), y, 4#32, z⟩)
      -∗ Wp c ((onBufs (k0_part1 (F := F)))) Q) := by
  unfold onBufs Wp
  rw [k0_part1_eq_skeleton]
  unfold k0_part1_skel
  simp only [semSignalWord, semWaitWord, Prog.lift, Prog.bind_op, Prog.bind_ret, Prog.pure_eq_ret, wp_deviceId]
  iintro #HP HO s0 s1 Hk
  icases s0 with ⟨Ht, Hm⟩
  iapply (signal inp K c _ 0 (by revert c; decide) rfl rfl 0 (by decide) rfl) $$ HP HO Ht Hm
  iintro HO
  icases s1 with ⟨Ht, Hm⟩
  iapply (signal inp K c _ 1 (by revert c; decide) rfl rfl 1 (by decide) rfl) $$ HP HO Ht Hm
  iintro HO
  iapply (fin c)
  iapply Hk $$ HO

theorem part2 {Q : _ → sProp 𝕄} (K : Dev nD × PX → ℕ) (c : Dev nD) (a a1 a2) :
    ⊢ iprop(Start inp K c -∗ owesE c (owed c 2) -∗ sigRes c 2 -∗ waitRes c none 3 -∗ Wh1 inp c 0 -∗ Wh2 inp c 0 -∗ AnyB c m1 -∗ AnyB c m2 -∗ wv c 0 -∗ wv c 1 -∗ HdB c mS (inp c).sl -∗ AnyB c mP
      -∗ (Fl1 inp c 0 -∗ Fl2 inp c 0 -∗ HdB c mS (inp c).sl -∗ (bigSep Finset.univ (barPay (F := F) c)) -∗ semVal (cell c none) 0 -∗ owesE c (owed c 3) -∗ HdS c (mP.access (Rect.unit (s := S640x2048) ![0, 0] S160x2048.size inb_S640x2048_S160x2048_0_0)) Finset.univ (k0_pay1 (inp c).sl) -∗ Q ⟨row160, row640⟩)
      -∗ Wp c ((onBufs (k0_part2 (F := F))) c (SemArray.scalar (sig.barrier 0 rfl)) a a1 a2) Q) := by
  unfold onBufs Wp
  rw [k0_part2_eq_skeleton]
  unfold k0_part2_skel
  simp only [semSignalWord, semWaitWord, Prog.lift, Prog.bind_op, Prog.bind_ret, Prog.pure_eq_ret, wp_deviceId]
  iintro #HP HO s2 Hw W10 W20 M1 M2 Hv1 Hv2 HS PJ Hk
  icases s2 with ⟨Ht, Hm⟩
  iapply (signal inp K c _ 2 (by revert c; decide) rfl rfl 2 (by decide) rfl) $$ HP HO Ht Hm
  iintro HO
  iapply (await inp K c rfl rfl) $$ HP HO Hw
  iintro ⟨HO, Hbv, Hbar⟩
  iapply (copy1 inp c 0 rfl rfl rfl) $$ W10 M1 Hv1
  iintro F10
  iapply (copy2 inp c 0 rfl rfl rfl) $$ W20 M2 Hv2
  iintro F20
  iapply (ldFull c (by decide)) $$ HS
  iintro HS
  iapply (ldstB c) $$ PJ
  iintro PJ1
  iapply (fin c)
  iapply Hk $$ F10 F20 HS Hbar Hbv HO PJ1

theorem part3 {Q : _ → sProp 𝕄} (K : Dev nD × PX → ℕ) (c : Dev nD) (a) :
    ⊢ iprop(Pers inp K -∗ owesE c (owed c 3) -∗ HdS c (mP.access (Rect.unit (s := S640x2048) ![0, 0] S160x2048.size inb_S640x2048_S160x2048_0_0)) Finset.univ (k0_pay1 (inp c).sl) -∗ HdB c mX (inp c).x -∗ HdB c mS (inp c).sl -∗ Any c (xsM 0 0).view -∗ dispRes c 0 0
      -∗ (HdB c mS (inp c).sl -∗ HdB c mX (inp c).x -∗ owesE c (owed c 4) -∗ AnyB c mP -∗ waitRes c (some (0, 0, 0)) N -∗ Q (k0_pay3 (inp c).sl))
      -∗ Wp c ((onBufs (k0_part3 (F := F))) c a) Q) := by
  unfold onBufs Wp
  rw [k0_part3_eq_skeleton]
  unfold k0_part3_skel
  simp only [semSignalWord, semWaitWord, Prog.lift, Prog.bind_op, Prog.bind_ret, Prog.pure_eq_ret, wp_deviceId]
  iintro #HP HO PJ1 HX HS X00a D00 Hk
  iapply (ldB c) $$ PJ1
  iintro PJ
  ihave PJ := (partB c) $$ PJ
  iapply (ldFull c (by decide)) $$ HX
  iintro HX
  iapply (ldstV c (v := (xsM 0 0).view) rfl (disp_00 (inp c))) $$ X00a
  iintro X00
  iapply (dispatch inp K c _ 0 0 3 (by revert c; decide) rfl rfl rfl rfl (by decide) rfl) $$ HP X00 D00 HO
  iintro ⟨S00, HO⟩
  iapply (ldFull c (by decide)) $$ HS
  iintro HS
  iapply (fin c)
  iapply Hk $$ HS HX HO PJ S00

theorem part4 {Q : _ → sProp 𝕄} (K : Dev nD × PX → ℕ) (c : Dev nD) (a) :
    ⊢ iprop(Pers inp K -∗ AnyB c mP -∗ HdB c mX (inp c).x -∗ Any c (xsM 0 1).view
      -∗ (HdB c mX (inp c).x -∗ AnyB c mP -∗ Hd c (xsM 0 1).view (disp (inp c) 0 1) -∗ Q ⟨⟩)
      -∗ Wp c ((onBufs (k0_part4 (F := F))) a row160 (k0_pay3 (inp c).sl)) Q) := by
  unfold onBufs Wp
  rw [k0_part4_eq_skeleton]
  unfold k0_part4_skel
  simp only [semSignalWord, semWaitWord, Prog.lift, Prog.bind_op, Prog.bind_ret, Prog.pure_eq_ret, wp_deviceId]
  iintro #HP PJ HX X01a Hk
  iapply (ldstB c) $$ PJ
  iintro PJ
  iapply (ldB c) $$ PJ
  iintro PJ
  ihave PJ := (partB c) $$ PJ
  iapply (ldFull c (by decide)) $$ HX
  iintro HX
  iapply (ldstV c (v := (xsM 0 1).view) rfl (disp_01 (inp c))) $$ X01a
  iintro X01
  iapply (fin c)
  iapply Hk $$ HX PJ X01

theorem part5 {Q : _ → sProp 𝕄} (K : Dev nD × PX → ℕ) (c : Dev nD) (a) :
    ⊢ iprop(Pers inp K -∗ owesE c (owed c 4) -∗ Hd c (xsM 0 1).view (disp (inp c) 0 1) -∗ dispRes c 0 1 -∗ HdB c mS (inp c).sl -∗ AnyB c mP -∗ HdB c mX (inp c).x -∗ Any c (xsM 0 2).view
      -∗ (∀ x y z, HdB c mS (inp c).sl -∗ HdB c mX (inp c).x -∗ owesE c (owed c 5) -∗ AnyB c mP -∗ waitRes c (some (0, 0, 1)) N -∗ Hd c (xsM 0 2).view (disp (inp c) 0 2) -∗ Q ⟨x, y, z⟩)
      -∗ Wp c ((onBufs (k0_part5 (F := F))) c a row160) Q) := by
  unfold onBufs Wp
  rw [k0_part5_eq_skeleton]
  unfold k0_part5_skel
  simp only [semSignalWord, semWaitWord, Prog.lift, Prog.bind_op, Prog.bind_ret, Prog.pure_eq_ret, wp_deviceId]
  iintro #HP HO X01 D01 HS PJ HX X02a Hk
  iapply (dispatch inp K c _ 0 1 4 (by revert c; decide) rfl rfl rfl rfl (by decide) rfl) $$ HP X01 D01 HO
  iintro ⟨S01, HO⟩
  iapply (ldFull c (by decide)) $$ HS
  iintro HS
  iapply (ldstB c) $$ PJ
  iintro PJ
  iapply (ldB c) $$ PJ
  iintro PJ
  ihave PJ := (partB c) $$ PJ
  iapply (ldFull c (by decide)) $$ HX
  iintro HX
  iapply (ldstV c (v := (xsM 0 2).view) rfl (disp_02 (inp c))) $$ X02a
  iintro X02
  iapply (fin c)
  iapply Hk $$ HS HX HO PJ S01 X02

theorem part6 {Q : _ → sProp 𝕄} (K : Dev nD × PX → ℕ) (c : Dev nD) (a a1 a2) :
    ⊢ iprop(Pers inp K -∗ owesE c (owed c 5) -∗ Hd c (xsM 0 2).view (disp (inp c) 0 2) -∗ dispRes c 0 2 -∗ HdB c mS (inp c).sl -∗ AnyB c mP -∗ HdB c mX (inp c).x -∗ Any c ((Memref.whole cc0_scratch3).access (tileR 0 0))
      -∗ (HdB c mS (inp c).sl -∗ HdB c mX (inp c).x -∗ owesE c (owed c 6) -∗ AnyB c mP -∗ Hd c ((Memref.whole cc0_scratch3).access (tileR 0 0)) (own (inp c) 0) -∗ waitRes c (some (0, 0, 2)) N -∗ Q ⟨⟩)
      -∗ Wp c ((onBufs (k0_part6 (F := F))) c row160 a a1 a2) Q) := by
  unfold onBufs Wp
  rw [k0_part6_eq_skeleton]
  unfold k0_part6_skel
  simp only [semSignalWord, semWaitWord, Prog.lift, Prog.bind_op, Prog.bind_ret, Prog.pure_eq_ret, wp_deviceId]
  iintro #HP HO X02 D02 HS PJ HX R0a Hk
  iapply (dispatch inp K c _ 0 2 5 (by revert c; decide) rfl rfl rfl rfl (by decide) rfl) $$ HP X02 D02 HO
  iintro ⟨S02, HO⟩
  iapply (ldFull c (by decide)) $$ HS
  iintro HS
  iapply (ldstB c) $$ PJ
  iintro PJ
  iapply (ldB c) $$ PJ
  iintro PJ
  ihave PJ := (partB c) $$ PJ
  iapply (ldFull c (by decide)) $$ HX
  iintro HX
  iapply (ldstV c (v := (Memref.whole cc0_scratch3).access (tileR 0 0)) (w' := own (inp c) 0) rfl rfl) $$ R0a
  iintro R0
  iapply (fin c)
  iapply Hk $$ HS HX HO PJ R0 S02

theorem part7 {Q : _ → sProp 𝕄} (K : Dev nD × PX → ℕ) (c : Dev nD) (a) :
    ⊢ iprop(Pers inp K -∗ HdB c mS (inp c).sl -∗ AnyB c mP -∗ HdB c mX (inp c).x -∗ Any c ((Memref.whole cc0_scratch2).access (blkR 1)) -∗ Any c ((Memref.whole cc0_scratch3).access (tileR 1 0))
      -∗ (∀ x y z, HdB c mS (inp c).sl -∗ HdB c mX (inp c).x -∗ AnyB c mP -∗ Hd c ((Memref.whole cc0_scratch3).access (tileR 1 0)) (own (inp c) 1) -∗ Hd c (xsM 1 0).view (disp (inp c) 1 0) -∗ Hd c (xsM 1 1).view (disp (inp c) 1 1) -∗ Hd c (xsM 1 2).view (disp (inp c) 1 2) -∗ Any c ((Memref.whole cc0_scratch2).access (rowR 1 0)) -∗ Q ⟨x, y, z⟩)
      -∗ Wp c ((onBufs (k0_part7 (F := F))) a row640) Q) := by
  unfold onBufs Wp
  rw [k0_part7_eq_skeleton]
  unfold k0_part7_skel
  simp only [semSignalWord, semWaitWord, Prog.lift, Prog.bind_op, Prog.bind_ret, Prog.pure_eq_ret, wp_deviceId]
  iintro #HP HS PJ HX B1 R1a Hk
  iapply (ldFull c (by decide)) $$ HS
  iintro HS
  iapply (ldstB c) $$ PJ
  iintro PJ
  iapply (ldB c) $$ PJ
  iintro PJ
  ihave PJ := (partB c) $$ PJ
  iapply (ldFull c (by decide)) $$ HX
  iintro HX
  iapply (ldstV c (v := (Memref.whole cc0_scratch2).access (blkR 1)) (w' := big (inp c) 1) rfl rfl) $$ B1
  iintro B1
  ihave B1 := (disp_rows inp c 1 (by decide)) $$ B1
  icases B1 with ⟨Z1, X10, X11, X12⟩
  iapply (ldstV c (v := (Memref.whole cc0_scratch3).access (tileR 1 0)) (w' := own (inp c) 1) rfl rfl) $$ R1a
  iintro R1
  iapply (fin c)
  iapply Hk $$ HS HX PJ R1 X10 X11 X12 Z1

theorem part8 {Q : _ → sProp 𝕄} (K : Dev nD × PX → ℕ) (c : Dev nD) (a a1 a2 a3) :
    ⊢ iprop(Pers inp K -∗ owesE c (owed c 6) -∗ Hd c (xsM 1 0).view (disp (inp c) 1 0) -∗ dispRes c 1 0
      -∗ (owesE c (owed c 7) -∗ waitRes c (some (0, 1, 0)) N -∗ Q ⟨⟩)
      -∗ Wp c ((onBufs (k0_part8 (F := F))) c a a1 a2 a3) Q) := by
  unfold onBufs Wp
  rw [k0_part8_eq_skeleton]
  unfold k0_part8_skel
  simp only [semSignalWord, semWaitWord, Prog.lift, Prog.bind_op, Prog.bind_ret, Prog.pure_eq_ret, wp_deviceId]
  iintro #HP HO X10 D10 Hk
  iapply (dispatch inp K c _ 1 0 6 (by revert c; decide) rfl rfl rfl rfl (by decide) rfl) $$ HP X10 D10 HO
  iintro ⟨S10, HO⟩
  iapply (fin c)
  iapply Hk $$ HO S10

end Cert.KernelProof
-- ==== Proof.PartsB.lean ====
/-
  The body part by part: the other tiles, and the first expert.
-/
module

public import proofs.«01_k».proof.Proof.Names

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

theorem part9 {Q : _ → sProp 𝕄} (K : Dev nD × PX → ℕ) (c : Dev nD) (a) :
    ⊢ iprop(Pers inp K -∗ owesE c (owed c 7) -∗ Hd c (xsM 1 1).view (disp (inp c) 1 1) -∗ dispRes c 1 1 -∗ Hd c (xsM 1 2).view (disp (inp c) 1 2) -∗ dispRes c 1 2 -∗ HdB c mS (inp c).sl -∗ AnyB c mP
      -∗ (HdB c mS (inp c).sl -∗ owesE c (owed c 9) -∗ AnyB c mP -∗ waitRes c (some (0, 1, 1)) N -∗ waitRes c (some (0, 1, 2)) N -∗ Q (k0_pay14 row640 (inp c).sl))
      -∗ Wp c ((onBufs (k0_part9 (F := F))) c a row640) Q) := by
  unfold onBufs Wp
  rw [k0_part9_eq_skeleton]
  unfold k0_part9_skel
  simp only [semSignalWord, semWaitWord, Prog.lift, Prog.bind_op, Prog.bind_ret, Prog.pure_eq_ret, wp_deviceId]
  iintro #HP HO X11 D11 X12 D12 HS PJ Hk
  iapply (dispatch inp K c _ 1 1 7 (by revert c; decide) rfl rfl rfl rfl (by decide) rfl) $$ HP X11 D11 HO
  iintro ⟨S11, HO⟩
  iapply (dispatch inp K c _ 1 2 8 (by revert c; decide) rfl rfl rfl rfl (by decide) rfl) $$ HP X12 D12 HO
  iintro ⟨S12, HO⟩
  iapply (ldFull c (by decide)) $$ HS
  iintro HS
  iapply (ldDead c) $$ PJ
  iintro PJ
  iapply (fin c)
  iapply Hk $$ HS HO PJ S11 S12

theorem part10 {Q : _ → sProp 𝕄} (K : Dev nD × PX → ℕ) (c : Dev nD) (a) :
    ⊢ iprop(Pers inp K -∗ AnyB c mP -∗ HdB c mX (inp c).x -∗ Any c ((Memref.whole cc0_scratch2).access (blkR 2)) -∗ Any c ((Memref.whole cc0_scratch3).access (tileR 2 0))
      -∗ (HdB c mX (inp c).x -∗ AnyB c mP -∗ Hd c ((Memref.whole cc0_scratch3).access (tileR 2 0)) (own (inp c) 2) -∗ Hd c (xsM 2 0).view (disp (inp c) 2 0) -∗ Hd c (xsM 2 1).view (disp (inp c) 2 1) -∗ Hd c (xsM 2 2).view (disp (inp c) 2 2) -∗ Any c ((Memref.whole cc0_scratch2).access (rowR 2 0)) -∗ Q ⟨⟩)
      -∗ Wp c ((onBufs (k0_part10 (F := F))) a (k0_pay14 row640 (inp c).sl)) Q) := by
  unfold onBufs Wp
  rw [k0_part10_eq_skeleton]
  unfold k0_part10_skel
  simp only [semSignalWord, semWaitWord, Prog.lift, Prog.bind_op, Prog.bind_ret, Prog.pure_eq_ret, wp_deviceId]
  iintro #HP PJ HX B2 R2a Hk
  iapply (stB c) $$ PJ
  iintro PJ
  iapply (ldB c) $$ PJ
  iintro PJ
  ihave PJ := (partB c) $$ PJ
  iapply (ldFull c (by decide)) $$ HX
  iintro HX
  iapply (ldstV c (v := (Memref.whole cc0_scratch2).access (blkR 2)) (w' := big (inp c) 2) rfl rfl) $$ B2
  iintro B2
  ihave B2 := (disp_rows inp c 2 (by decide)) $$ B2
  icases B2 with ⟨Z2, X20, X21, X22⟩
  iapply (ldstV c (v := (Memref.whole cc0_scratch3).access (tileR 2 0)) (w' := own (inp c) 2) rfl rfl) $$ R2a
  iintro R2
  iapply (fin c)
  iapply Hk $$ HX PJ R2 X20 X21 X22 Z2

theorem part11 {Q : _ → sProp 𝕄} (K : Dev nD × PX → ℕ) (c : Dev nD) (a) :
    ⊢ iprop(Pers inp K -∗ owesE c (owed c 9) -∗ Hd c (xsM 2 0).view (disp (inp c) 2 0) -∗ dispRes c 2 0 -∗ Hd c (xsM 2 1).view (disp (inp c) 2 1) -∗ dispRes c 2 1
      -∗ (∀ x y z p q, owesE c (owed c 11) -∗ waitRes c (some (0, 2, 0)) N -∗ waitRes c (some (0, 2, 1)) N -∗ Q ⟨x, y, z, p, q⟩)
      -∗ Wp c ((onBufs (k0_part11 (F := F))) c a) Q) := by
  unfold onBufs Wp
  rw [k0_part11_eq_skeleton]
  unfold k0_part11_skel
  simp only [semSignalWord, semWaitWord, Prog.lift, Prog.bind_op, Prog.bind_ret, Prog.pure_eq_ret, wp_deviceId]
  iintro #HP HO X20 D20 X21 D21 Hk
  iapply (dispatch inp K c _ 2 0 9 (by revert c; decide) rfl rfl rfl rfl (by decide) rfl) $$ HP X20 D20 HO
  iintro ⟨S20, HO⟩
  iapply (dispatch inp K c _ 2 1 10 (by revert c; decide) rfl rfl rfl rfl (by decide) rfl) $$ HP X21 D21 HO
  iintro ⟨S21, HO⟩
  iapply (fin c)
  iapply Hk $$ HO S20 S21

theorem part12 {Q : _ → sProp 𝕄} (K : Dev nD × PX → ℕ) (c : Dev nD) (a a1 a2 a3 a4) :
    ⊢ iprop(Pers inp K -∗ owesE c (owed c 11) -∗ Hd c (xsM 2 2).view (disp (inp c) 2 2) -∗ dispRes c 2 2 -∗ HdB c mS (inp c).sl -∗ AnyB c mP -∗ HdB c mX (inp c).x -∗ Any c ((Memref.whole cc0_scratch2).access (blkR 3))
      -∗ (HdB c mS (inp c).sl -∗ HdB c mX (inp c).x -∗ owesE c (owed c 12) -∗ AnyB c mP -∗ waitRes c (some (0, 2, 2)) N -∗ Hd c (xsM 3 0).view (disp (inp c) 3 0) -∗ Hd c (xsM 3 1).view (disp (inp c) 3 1) -∗ Hd c (xsM 3 2).view (disp (inp c) 3 2) -∗ Any c ((Memref.whole cc0_scratch2).access (rowR 3 0)) -∗ Q (k0_pay19 (k0_pay18 row640 (inp c).sl) (inp c).x))
      -∗ Wp c ((onBufs (k0_part12 (F := F))) c row640 a a1 a2 a3 a4) Q) := by
  unfold onBufs Wp
  rw [k0_part12_eq_skeleton]
  unfold k0_part12_skel
  simp only [semSignalWord, semWaitWord, Prog.lift, Prog.bind_op, Prog.bind_ret, Prog.pure_eq_ret, wp_deviceId]
  iintro #HP HO X22 D22 HS PJ HX B3 Hk
  iapply (dispatch inp K c _ 2 2 11 (by revert c; decide) rfl rfl rfl rfl (by decide) rfl) $$ HP X22 D22 HO
  iintro ⟨S22, HO⟩
  iapply (ldFull c (by decide)) $$ HS
  iintro HS
  iapply (ldstB c) $$ PJ
  iintro PJ
  iapply (ldB c) $$ PJ
  iintro PJ
  ihave PJ := (partB c) $$ PJ
  iapply (ldFull c (by decide)) $$ HX
  iintro HX
  iapply (ldstV c (v := (Memref.whole cc0_scratch2).access (blkR 3)) (w' := big (inp c) 3) rfl rfl) $$ B3
  iintro B3
  ihave B3 := (disp_rows inp c 3 (by decide)) $$ B3
  icases B3 with ⟨Z3, X30, X31, X32⟩
  iapply (fin c)
  iapply Hk $$ HS HX HO PJ S22 X30 X31 X32 Z3

theorem part13 {Q : _ → sProp 𝕄} (K : Dev nD × PX → ℕ) (c : Dev nD) (a) :
    ⊢ iprop(Pers inp K -∗ owesE c (owed c 12) -∗ Any c ((Memref.whole cc0_scratch3).access (tileR 3 0)) -∗ Hd c (xsM 3 0).view (disp (inp c) 3 0) -∗ dispRes c 3 0
      -∗ (∀ x y z p, owesE c (owed c 13) -∗ Hd c ((Memref.whole cc0_scratch3).access (tileR 3 0)) (own (inp c) 3) -∗ waitRes c (some (0, 3, 0)) N -∗ Q ⟨x, y, z, p⟩)
      -∗ Wp c ((onBufs (k0_part13 (F := F))) c a (k0_pay19 (k0_pay18 row640 (inp c).sl) (inp c).x)) Q) := by
  unfold onBufs Wp
  rw [k0_part13_eq_skeleton]
  unfold k0_part13_skel
  simp only [semSignalWord, semWaitWord, Prog.lift, Prog.bind_op, Prog.bind_ret, Prog.pure_eq_ret, wp_deviceId]
  iintro #HP HO R3a X30 D30 Hk
  iapply (ldstV c (v := (Memref.whole cc0_scratch3).access (tileR 3 0)) (w' := own (inp c) 3) rfl rfl) $$ R3a
  iintro R3
  iapply (dispatch inp K c _ 3 0 12 (by revert c; decide) rfl rfl rfl rfl (by decide) rfl) $$ HP X30 D30 HO
  iintro ⟨S30, HO⟩
  iapply (fin c)
  iapply Hk $$ HO R3 S30

theorem part14 {Q : _ → sProp 𝕄} (K : Dev nD × PX → ℕ) (c : Dev nD) (a a1 a2 a3 a4) :
    ⊢ iprop(Pers inp K -∗ owesE c (owed c 13) -∗ Hd c (xsM 3 1).view (disp (inp c) 3 1) -∗ dispRes c 3 1
      -∗ (owesE c (owed c 14) -∗ waitRes c (some (0, 3, 1)) N -∗ Q ⟨⟩)
      -∗ Wp c ((onBufs (k0_part14 (F := F))) c a a1 a2 a3 a4) Q) := by
  unfold onBufs Wp
  rw [k0_part14_eq_skeleton]
  unfold k0_part14_skel
  simp only [semSignalWord, semWaitWord, Prog.lift, Prog.bind_op, Prog.bind_ret, Prog.pure_eq_ret, wp_deviceId]
  iintro #HP HO X31 D31 Hk
  iapply (dispatch inp K c _ 3 1 13 (by revert c; decide) rfl rfl rfl rfl (by decide) rfl) $$ HP X31 D31 HO
  iintro ⟨S31, HO⟩
  iapply (fin c)
  iapply Hk $$ HO S31

theorem part15 {Q : _ → sProp 𝕄} (K : Dev nD × PX → ℕ) (c : Dev nD) (a) :
    ⊢ iprop(Pers inp K -∗ owesE c (owed c 14) -∗ Hd c (xsM 3 2).view (disp (inp c) 3 2) -∗ dispRes c 3 2 -∗ Fl1 inp c 0 -∗ Fl2 inp c 0
      -∗ (wv c 0 -∗ wv c 1 -∗ owesE c (owed c 15) -∗ waitRes c (some (0, 3, 2)) N -∗ Wh1 inp c 0 -∗ Wh2 inp c 0 -∗ HdB c m1 (wt1 (inp c) 0) -∗ HdB c m2 (wt2 (inp c) 0) -∗ Q col640)
      -∗ Wp c ((onBufs (k0_part15 (F := F))) c a) Q) := by
  unfold onBufs Wp
  rw [k0_part15_eq_skeleton]
  unfold k0_part15_skel
  simp only [semSignalWord, semWaitWord, Prog.lift, Prog.bind_op, Prog.bind_ret, Prog.pure_eq_ret, wp_deviceId]
  iintro #HP HO X32 D32 F10 F20 Hk
  iapply (dispatch inp K c _ 3 2 14 (by revert c; decide) rfl rfl rfl rfl (by decide) rfl) $$ HP X32 D32 HO
  iintro ⟨S32, HO⟩
  iapply (wait1 inp K c 0 15 rfl rfl (by decide)) $$ HP F10 HO
  iintro ⟨m10, W10, Hv1, HO⟩
  iapply (wait2 inp K c 0 15 rfl rfl (by decide)) $$ HP F20 HO
  iintro ⟨m20, W20, Hv2, HO⟩
  iapply (fin c)
  iapply Hk $$ Hv1 Hv2 HO S32 W10 W20 m10 m20

theorem part16 {Q : _ → sProp 𝕄} (K : Dev nD × PX → ℕ) (c : Dev nD) (a) :
    ⊢ iprop(Pers inp K -∗ owesE c (owed c 15) -∗ waitRes c (some (1, 0, 0)) N -∗ waitRes c (some (1, 0, 1)) N
      -∗ (∀ x y z, got1 inp c 0 0 -∗ got1 inp c 0 1 -∗ owesE c (owed c 15) -∗ Q ⟨x, y, z⟩)
      -∗ Wp c ((onBufs (k0_part16 (F := F))) a) Q) := by
  unfold onBufs Wp
  rw [k0_part16_eq_skeleton]
  unfold k0_part16_skel
  simp only [semSignalWord, semWaitWord, Prog.lift, Prog.bind_op, Prog.bind_ret, Prog.pure_eq_ret, wp_deviceId]
  iintro #HP HO A00 A01 Hk
  iapply (arrive inp K c 0 0 15 rfl (by decide)) $$ HP A00 HO
  iintro ⟨G00, HO⟩
  iapply (arrive inp K c 0 1 15 rfl (by decide)) $$ HP A01 HO
  iintro ⟨G01, HO⟩
  iapply (fin c)
  iapply Hk $$ G00 G01 HO

theorem part17 {Q : _ → sProp 𝕄} (K : Dev nD × PX → ℕ) (c : Dev nD) (a a1 a2) :
    ⊢ iprop(Pers inp K -∗ owesE c (owed c 15) -∗ waitRes c (some (1, 0, 2)) N -∗ Hd c ((Memref.whole cc0_scratch3).access (tileR 0 0)) (own (inp c) 0) -∗ got1 inp c 0 0 -∗ got1 inp c 0 1 -∗ HdB c m1 (wt1 (inp c) 0) -∗ HdB c m2 (wt2 (inp c) 0) -∗ AnyB c mH -∗ Any c ((Memref.whole cc0_scratch5).access (rowR 0 0))
      -∗ (Hd c ((Memref.whole cc0_scratch5).access (rowR 0 0)) (keep inp c 0) -∗ AnyB c mH -∗ owesE c (owed c 15) -∗ Hd c ((Memref.whole cc0_scratch3).access (boxR 0)) (box inp c 0) -∗ HdB c m1 (wt1 (inp c) 0) -∗ HdB c m2 (wt2 (inp c) 0) -∗ sv 1 c 0 -∗ Q (k0_pay23 (hid inp c 0) (wt2 (inp c) 0)))
      -∗ Wp c ((onBufs (k0_part17 (F := F))) a a1 a2) Q) := by
  unfold onBufs Wp
  rw [k0_part17_eq_skeleton]
  unfold k0_part17_skel
  simp only [semSignalWord, semWaitWord, Prog.lift, Prog.bind_op, Prog.bind_ret, Prog.pure_eq_ret, wp_deviceId]
  iintro #HP HO A02 R0 G00 G01 m10 m20 MH K0a Hk
  iapply (arrive inp K c 0 2 15 rfl (by decide)) $$ HP A02 HO
  iintro ⟨G02, HO⟩
  ihave Q0 := (box_join inp c 0) $$ R0 G00 G01 G02
  icases Q0 with ⟨Q0, q0⟩
  iapply (ldV c (v := (Memref.whole cc0_scratch3).access (boxR 0)) (w := box inp c 0) rfl) $$ Q0
  iintro Q0
  iapply (ldFull c (by decide)) $$ m10
  iintro m10
  iapply (ldstFull c (by decide) (w' := hid inp c 0) rfl) $$ MH
  iintro MH
  iapply (ldFull c (by decide)) $$ MH
  iintro MH
  ihave MH := (HdS_any c mH.view Finset.univ _) $$ MH
  iapply (ldFull c (by decide)) $$ m20
  iintro m20
  iapply (ldstV c (v := (Memref.whole cc0_scratch5).access (rowR 0 0)) (w' := keep inp c 0) rfl rfl) $$ K0a
  iintro K0
  iapply (fin c)
  iapply Hk $$ K0 MH HO Q0 m10 m20 q0

theorem part18 {Q : _ → sProp 𝕄} (K : Dev nD × PX → ℕ) (c : Dev nD) (a) :
    ⊢ iprop(Pers inp K -∗ owesE c (owed c 15) -∗ Any c ((Memref.whole cc0_scratch4).access (cmpR 0)) -∗ retRes c 0 0
      -∗ (∀ x y z, owesE c (owed c 16) -∗ waitRes c (some (2, 0, 0)) N -∗ Hd c (rcM 0 1).view (ret inp c 0 1) -∗ Hd c (rcM 0 2).view (ret inp c 0 2) -∗ Q ⟨x, y, z⟩)
      -∗ Wp c ((onBufs (k0_part18 (F := F))) c a (k0_pay23 (hid inp c 0) (wt2 (inp c) 0))) Q) := by
  unfold onBufs Wp
  rw [k0_part18_eq_skeleton]
  unfold k0_part18_skel
  simp only [semSignalWord, semWaitWord, Prog.lift, Prog.bind_op, Prog.bind_ret, Prog.pure_eq_ret, wp_deviceId]
  iintro #HP HO C0 E00 Hk
  iapply (ldstV c (v := (Memref.whole cc0_scratch4).access (cmpR 0)) (w' := comp inp c 0) rfl rfl) $$ C0
  iintro C0
  ihave C0 := (Entails.of_eq (cmp_tiles inp c 0)) $$ C0
  icases C0 with ⟨Y00, Y01, Y02⟩
  iapply (giveBack inp K c _ 0 0 15 (by revert c; decide) rfl rfl rfl rfl (by decide) rfl) $$ HP Y00 E00 HO
  iintro ⟨T00, HO⟩
  iapply (fin c)
  iapply Hk $$ HO T00 Y01 Y02

theorem part19 {Q : _ → sProp 𝕄} (K : Dev nD × PX → ℕ) (c : Dev nD) (a a1 a2 a3) :
    ⊢ iprop(Pers inp K -∗ owesE c (owed c 16) -∗ Hd c (rcM 0 1).view (ret inp c 0 1) -∗ retRes c 0 1
      -∗ (owesE c (owed c 17) -∗ waitRes c (some (2, 0, 1)) N -∗ Q ⟨⟩)
      -∗ Wp c ((onBufs (k0_part19 (F := F))) c a a1 a2 a3) Q) := by
  unfold onBufs Wp
  rw [k0_part19_eq_skeleton]
  unfold k0_part19_skel
  simp only [semSignalWord, semWaitWord, Prog.lift, Prog.bind_op, Prog.bind_ret, Prog.pure_eq_ret, wp_deviceId]
  iintro #HP HO Y01 E01 Hk
  iapply (giveBack inp K c _ 0 1 16 (by revert c; decide) rfl rfl rfl rfl (by decide) rfl) $$ HP Y01 E01 HO
  iintro ⟨T01, HO⟩
  iapply (fin c)
  iapply Hk $$ HO T01

theorem part20 {Q : _ → sProp 𝕄} (K : Dev nD × PX → ℕ) (c : Dev nD) (a) :
    ⊢ iprop(Pers inp K -∗ owesE c (owed c 17) -∗ Hd c (rcM 0 2).view (ret inp c 0 2) -∗ retRes c 0 2 -∗ HdB c m1 (wt1 (inp c) 0) -∗ HdB c m2 (wt2 (inp c) 0) -∗ Wh1 inp c 1 -∗ Wh2 inp c 1 -∗ wv c 0 -∗ wv c 1
      -∗ (∀ x y z p q, wv c 0 -∗ wv c 1 -∗ owesE c (owed c 18) -∗ waitRes c (some (2, 0, 2)) N -∗ Wh1 inp c 1 -∗ Wh2 inp c 1 -∗ HdB c m1 (wt1 (inp c) 1) -∗ HdB c m2 (wt2 (inp c) 1) -∗ Q ⟨x, y, z, p, q⟩)
      -∗ Wp c ((onBufs (k0_part20 (F := F))) c a) Q) := by
  unfold onBufs Wp
  rw [k0_part20_eq_skeleton]
  unfold k0_part20_skel
  simp only [semSignalWord, semWaitWord, Prog.lift, Prog.bind_op, Prog.bind_ret, Prog.pure_eq_ret, wp_deviceId]
  iintro #HP HO Y02 E02 m10 m20 W11 W21 Hv1 Hv2 Hk
  iapply (giveBack inp K c _ 0 2 17 (by revert c; decide) rfl rfl rfl rfl (by decide) rfl) $$ HP Y02 E02 HO
  iintro ⟨T02, HO⟩
  ihave M1 := (HdS_any c m1.view Finset.univ _) $$ m10
  ihave M2 := (HdS_any c m2.view Finset.univ _) $$ m20
  iapply (copy1 inp c 1 rfl rfl rfl) $$ W11 M1 Hv1
  iintro F11
  iapply (copy2 inp c 1 rfl rfl rfl) $$ W21 M2 Hv2
  iintro F21
  iapply (wait1 inp K c 1 18 rfl rfl (by decide)) $$ HP F11 HO
  iintro ⟨m11, W11, Hv1, HO⟩
  iapply (wait2 inp K c 1 18 rfl rfl (by decide)) $$ HP F21 HO
  iintro ⟨m21, W21, Hv2, HO⟩
  iapply (fin c)
  iapply Hk $$ Hv1 Hv2 HO T02 W11 W21 m11 m21

end Cert.KernelProof
-- ==== Proof.PartsC.lean ====
/-
  The body part by part: the second and third experts, and the first sums.
-/
module

public import proofs.«01_k».proof.Proof.Names

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

theorem part21 {Q : _ → sProp 𝕄} (K : Dev nD × PX → ℕ) (c : Dev nD) (a a1 a2 a3 a4 a5) :
    ⊢ iprop(Pers inp K -∗ owesE c (owed c 18) -∗ waitRes c (some (1, 1, 0)) N
      -∗ (got1 inp c 1 0 -∗ owesE c (owed c 18) -∗ Q ⟨⟩)
      -∗ Wp c ((onBufs (k0_part21 (F := F))) a a1 a2 a3 a4 a5) Q) := by
  unfold onBufs Wp
  rw [k0_part21_eq_skeleton]
  unfold k0_part21_skel
  simp only [semSignalWord, semWaitWord, Prog.lift, Prog.bind_op, Prog.bind_ret, Prog.pure_eq_ret, wp_deviceId]
  iintro #HP HO A10 Hk
  iapply (arrive inp K c 1 0 18 rfl (by decide)) $$ HP A10 HO
  iintro ⟨G10, HO⟩
  iapply (fin c)
  iapply Hk $$ G10 HO

theorem part22 {Q : _ → sProp 𝕄} (K : Dev nD × PX → ℕ) (c : Dev nD) (a) :
    ⊢ iprop(Pers inp K -∗ owesE c (owed c 18) -∗ waitRes c (some (1, 1, 1)) N -∗ waitRes c (some (1, 1, 2)) N -∗ Hd c ((Memref.whole cc0_scratch3).access (tileR 1 0)) (own (inp c) 1) -∗ got1 inp c 1 0 -∗ HdB c m1 (wt1 (inp c) 1) -∗ AnyB c mH
      -∗ (AnyB c mH -∗ owesE c (owed c 18) -∗ Hd c ((Memref.whole cc0_scratch3).access (boxR 1)) (box inp c 1) -∗ HdB c m1 (wt1 (inp c) 1) -∗ sv 1 c 1 -∗ Q (k0_pay26 (box inp c 1) (wt1 (inp c) 1)))
      -∗ Wp c ((onBufs (k0_part22 (F := F))) a) Q) := by
  unfold onBufs Wp
  rw [k0_part22_eq_skeleton]
  unfold k0_part22_skel
  simp only [semSignalWord, semWaitWord, Prog.lift, Prog.bind_op, Prog.bind_ret, Prog.pure_eq_ret, wp_deviceId]
  iintro #HP HO A11 A12 R1 G10 m11 MH Hk
  iapply (arrive inp K c 1 1 18 rfl (by decide)) $$ HP A11 HO
  iintro ⟨G11, HO⟩
  iapply (arrive inp K c 1 2 18 rfl (by decide)) $$ HP A12 HO
  iintro ⟨G12, HO⟩
  ihave Q1 := (box_join inp c 1) $$ R1 G10 G11 G12
  icases Q1 with ⟨Q1, q1⟩
  iapply (ldV c (v := (Memref.whole cc0_scratch3).access (boxR 1)) (w := box inp c 1) rfl) $$ Q1
  iintro Q1
  iapply (ldFull c (by decide)) $$ m11
  iintro m11
  iapply (ldDead c) $$ MH
  iintro MH
  iapply (fin c)
  iapply Hk $$ MH HO Q1 m11 q1

theorem part23 {Q : _ → sProp 𝕄} (K : Dev nD × PX → ℕ) (c : Dev nD) (a) :
    ⊢ iprop(Pers inp K -∗ AnyB c mH -∗ HdB c m2 (wt2 (inp c) 1) -∗ Any c ((Memref.whole cc0_scratch5).access (rowR 1 0)) -∗ Any c ((Memref.whole cc0_scratch4).access (cmpR 1))
      -∗ (Hd c ((Memref.whole cc0_scratch5).access (rowR 1 0)) (keep inp c 1) -∗ AnyB c mH -∗ Hd c (rcM 1 0).view (ret inp c 1 0) -∗ Hd c (rcM 1 1).view (ret inp c 1 1) -∗ Hd c (rcM 1 2).view (ret inp c 1 2) -∗ HdB c m2 (wt2 (inp c) 1) -∗ Q ⟨⟩)
      -∗ Wp c ((onBufs (k0_part23 (F := F))) a (k0_pay26 (box inp c 1) (wt1 (inp c) 1))) Q) := by
  unfold onBufs Wp
  rw [k0_part23_eq_skeleton]
  unfold k0_part23_skel
  simp only [semSignalWord, semWaitWord, Prog.lift, Prog.bind_op, Prog.bind_ret, Prog.pure_eq_ret, wp_deviceId]
  iintro #HP MH m21 K1a C1 Hk
  iapply (stB c) $$ MH
  iintro MH
  iapply (ldB c) $$ MH
  iintro MH
  ihave MH := (partB c) $$ MH
  iapply (ldFull c (by decide)) $$ m21
  iintro m21
  iapply (ldstV c (v := (Memref.whole cc0_scratch5).access (rowR 1 0)) (w' := keep inp c 1) rfl rfl) $$ K1a
  iintro K1
  iapply (ldstV c (v := (Memref.whole cc0_scratch4).access (cmpR 1)) (w' := comp inp c 1) rfl rfl) $$ C1
  iintro C1
  ihave C1 := (Entails.of_eq (cmp_tiles inp c 1)) $$ C1
  icases C1 with ⟨Y10, Y11, Y12⟩
  iapply (fin c)
  iapply Hk $$ K1 MH Y10 Y11 Y12 m21

theorem part24 {Q : _ → sProp 𝕄} (K : Dev nD × PX → ℕ) (c : Dev nD) (a) :
    ⊢ iprop(Pers inp K -∗ owesE c (owed c 18) -∗ Hd c (rcM 1 0).view (ret inp c 1 0) -∗ retRes c 1 0 -∗ Hd c (rcM 1 1).view (ret inp c 1 1) -∗ retRes c 1 1
      -∗ (∀ x y z p, owesE c (owed c 20) -∗ waitRes c (some (2, 1, 0)) N -∗ waitRes c (some (2, 1, 1)) N -∗ Q ⟨x, y, z, p⟩)
      -∗ Wp c ((onBufs (k0_part24 (F := F))) c a) Q) := by
  unfold onBufs Wp
  rw [k0_part24_eq_skeleton]
  unfold k0_part24_skel
  simp only [semSignalWord, semWaitWord, Prog.lift, Prog.bind_op, Prog.bind_ret, Prog.pure_eq_ret, wp_deviceId]
  iintro #HP HO Y10 E10 Y11 E11 Hk
  iapply (giveBack inp K c _ 1 0 18 (by revert c; decide) rfl rfl rfl rfl (by decide) rfl) $$ HP Y10 E10 HO
  iintro ⟨T10, HO⟩
  iapply (giveBack inp K c _ 1 1 19 (by revert c; decide) rfl rfl rfl rfl (by decide) rfl) $$ HP Y11 E11 HO
  iintro ⟨T11, HO⟩
  iapply (fin c)
  iapply Hk $$ HO T10 T11

theorem part25 {Q : _ → sProp 𝕄} (K : Dev nD × PX → ℕ) (c : Dev nD) (a a1 a2 a3 a4) :
    ⊢ iprop(Pers inp K -∗ owesE c (owed c 20) -∗ Hd c (rcM 1 2).view (ret inp c 1 2) -∗ retRes c 1 2 -∗ HdB c m1 (wt1 (inp c) 1) -∗ HdB c m2 (wt2 (inp c) 1) -∗ Wh1 inp c 2 -∗ Wh2 inp c 2 -∗ wv c 0 -∗ wv c 1
      -∗ (∀ x y z p q, Fl1 inp c 2 -∗ Fl2 inp c 2 -∗ owesE c (owed c 21) -∗ waitRes c (some (2, 1, 2)) N -∗ Q ⟨x, y, z, p, q⟩)
      -∗ Wp c ((onBufs (k0_part25 (F := F))) c a a1 a2 a3 a4) Q) := by
  unfold onBufs Wp
  rw [k0_part25_eq_skeleton]
  unfold k0_part25_skel
  simp only [semSignalWord, semWaitWord, Prog.lift, Prog.bind_op, Prog.bind_ret, Prog.pure_eq_ret, wp_deviceId]
  iintro #HP HO Y12 E12 m11 m21 W12 W22 Hv1 Hv2 Hk
  iapply (giveBack inp K c _ 1 2 20 (by revert c; decide) rfl rfl rfl rfl (by decide) rfl) $$ HP Y12 E12 HO
  iintro ⟨T12, HO⟩
  ihave M1 := (HdS_any c m1.view Finset.univ _) $$ m11
  ihave M2 := (HdS_any c m2.view Finset.univ _) $$ m21
  iapply (copy1 inp c 2 rfl rfl rfl) $$ W12 M1 Hv1
  iintro F12
  iapply (copy2 inp c 2 rfl rfl rfl) $$ W22 M2 Hv2
  iintro F22
  iapply (fin c)
  iapply Hk $$ F12 F22 HO T12

theorem part26 {Q : _ → sProp 𝕄} (K : Dev nD × PX → ℕ) (c : Dev nD) (a a1 a2 a3 a4 a5) :
    ⊢ iprop(Pers inp K -∗ owesE c (owed c 21) -∗ waitRes c (some (3, 0, 0)) N
      -∗ (owesE c (owed c 21) -∗ got3 inp c 0 0 -∗ Q ⟨⟩)
      -∗ Wp c ((onBufs (k0_part26 (F := F))) a a1 a2 a3 a4 a5) Q) := by
  unfold onBufs Wp
  rw [k0_part26_eq_skeleton]
  unfold k0_part26_skel
  simp only [semSignalWord, semWaitWord, Prog.lift, Prog.bind_op, Prog.bind_ret, Prog.pure_eq_ret, wp_deviceId]
  iintro #HP HO U00 Hk
  iapply (comeBack inp K c 0 0 21 rfl (by decide)) $$ HP U00 HO
  iintro ⟨V00, HO⟩
  iapply (fin c)
  iapply Hk $$ HO V00

theorem part27 {Q : _ → sProp 𝕄} (K : Dev nD × PX → ℕ) (c : Dev nD) (a) :
    ⊢ iprop(Pers inp K -∗ owesE c (owed c 21) -∗ waitRes c (some (3, 0, 1)) N -∗ waitRes c (some (3, 0, 2)) N -∗ HdB c mT (inp c).st -∗ AnyB c mC
      -∗ (HdB c mT (inp c).st -∗ HdB c mC (k0_pay31 col640 (inp c).st) -∗ owesE c (owed c 21) -∗ got3 inp c 0 1 -∗ got3 inp c 0 2 -∗ Q ⟨⟩)
      -∗ Wp c ((onBufs (k0_part27 (F := F))) a col640) Q) := by
  unfold onBufs Wp
  rw [k0_part27_eq_skeleton]
  unfold k0_part27_skel
  simp only [semSignalWord, semWaitWord, Prog.lift, Prog.bind_op, Prog.bind_ret, Prog.pure_eq_ret, wp_deviceId]
  iintro #HP HO U01 U02 HT MC Hk
  iapply (comeBack inp K c 0 1 21 rfl (by decide)) $$ HP U01 HO
  iintro ⟨V01, HO⟩
  iapply (comeBack inp K c 0 2 21 rfl (by decide)) $$ HP U02 HO
  iintro ⟨V02, HO⟩
  iapply (ldFull c (by decide)) $$ HT
  iintro HT
  iapply (ldstFull c (m := mC) (by decide) (w' := k0_pay31 col640 (inp c).st) rfl) $$ MC
  iintro MCf
  iapply (fin c)
  iapply Hk $$ HT MCf HO V01 V02

theorem part28 {Q : _ → sProp 𝕄} (K : Dev nD × PX → ℕ) (c : Dev nD) (a) :
    ⊢ iprop(Pers inp K -∗ owesE c (owed c 21) -∗ HdB c mC (k0_pay31 col640 (inp c).st) -∗ Hd c ((Memref.whole cc0_scratch5).access (rowR 0 0)) (keep inp c 0) -∗ got3 inp c 0 0 -∗ got3 inp c 0 1 -∗ got3 inp c 0 2 -∗ AnyB c mO -∗ Fl1 inp c 2 -∗ Fl2 inp c 2
      -∗ (wv c 0 -∗ wv c 1 -∗ Hd c ((Memref.whole cc0_scratch5).access (blkR 0)) (gat inp c 0) -∗ AnyB c mC -∗ HdB c mO (out0 inp c) -∗ owesE c (owed c 21) -∗ Wh1 inp c 2 -∗ Wh2 inp c 2 -∗ HdB c m1 (wt1 (inp c) 2) -∗ HdB c m2 (wt2 (inp c) 2) -∗ sv 3 c 0 -∗ Q ⟨⟩)
      -∗ Wp c ((onBufs (k0_part28 (F := F))) a) Q) := by
  unfold onBufs Wp
  rw [k0_part28_eq_skeleton]
  unfold k0_part28_skel
  simp only [semSignalWord, semWaitWord, Prog.lift, Prog.bind_op, Prog.bind_ret, Prog.pure_eq_ret, wp_deviceId]
  iintro #HP HO MCf K0 V00 V01 V02 MO F12 F22 Hk
  iapply (ldFull c (by decide)) $$ MCf
  iintro MC
  ihave MC := (HdS_any c mC.view Finset.univ _) $$ MC
  ihave J0 := (gat_join inp c 0) $$ K0 V00 V01 V02
  icases J0 with ⟨J0, v0⟩
  iapply (ldV c (v := (Memref.whole cc0_scratch5).access (blkR 0)) (w := gat inp c 0) rfl) $$ J0
  iintro J0
  iapply (ldstFull c (by decide) (w' := out0 inp c) rfl) $$ MO
  iintro O0
  iapply (wait1 inp K c 2 21 rfl rfl (by decide)) $$ HP F12 HO
  iintro ⟨m12, W12, Hv1, HO⟩
  iapply (wait2 inp K c 2 21 rfl rfl (by decide)) $$ HP F22 HO
  iintro ⟨m22, W22, Hv2, HO⟩
  iapply (fin c)
  iapply Hk $$ Hv1 Hv2 J0 MC O0 HO W12 W22 m12 m22 v0

theorem part29 {Q : _ → sProp 𝕄} (K : Dev nD × PX → ℕ) (c : Dev nD) (a) :
    ⊢ iprop(Pers inp K -∗ owesE c (owed c 21) -∗ waitRes c (some (1, 2, 0)) N -∗ waitRes c (some (1, 2, 1)) N
      -∗ (∀ x y z, got1 inp c 2 0 -∗ got1 inp c 2 1 -∗ owesE c (owed c 21) -∗ Q ⟨x, y, z⟩)
      -∗ Wp c ((onBufs (k0_part29 (F := F))) a) Q) := by
  unfold onBufs Wp
  rw [k0_part29_eq_skeleton]
  unfold k0_part29_skel
  simp only [semSignalWord, semWaitWord, Prog.lift, Prog.bind_op, Prog.bind_ret, Prog.pure_eq_ret, wp_deviceId]
  iintro #HP HO A20 A21 Hk
  iapply (arrive inp K c 2 0 21 rfl (by decide)) $$ HP A20 HO
  iintro ⟨G20, HO⟩
  iapply (arrive inp K c 2 1 21 rfl (by decide)) $$ HP A21 HO
  iintro ⟨G21, HO⟩
  iapply (fin c)
  iapply Hk $$ G20 G21 HO

theorem part30 {Q : _ → sProp 𝕄} (K : Dev nD × PX → ℕ) (c : Dev nD) (a a1 a2) :
    ⊢ iprop(Pers inp K -∗ owesE c (owed c 21) -∗ waitRes c (some (1, 2, 2)) N -∗ Hd c ((Memref.whole cc0_scratch3).access (tileR 2 0)) (own (inp c) 2) -∗ got1 inp c 2 0 -∗ got1 inp c 2 1 -∗ HdB c m1 (wt1 (inp c) 2) -∗ HdB c m2 (wt2 (inp c) 2) -∗ AnyB c mH -∗ Any c ((Memref.whole cc0_scratch5).access (rowR 2 0))
      -∗ (Hd c ((Memref.whole cc0_scratch5).access (rowR 2 0)) (keep inp c 2) -∗ AnyB c mH -∗ owesE c (owed c 21) -∗ Hd c ((Memref.whole cc0_scratch3).access (boxR 2)) (box inp c 2) -∗ HdB c m1 (wt1 (inp c) 2) -∗ HdB c m2 (wt2 (inp c) 2) -∗ sv 1 c 2 -∗ Q (k0_pay34 (hid inp c 2) (wt2 (inp c) 2)))
      -∗ Wp c ((onBufs (k0_part30 (F := F))) a a1 a2) Q) := by
  unfold onBufs Wp
  rw [k0_part30_eq_skeleton]
  unfold k0_part30_skel
  simp only [semSignalWord, semWaitWord, Prog.lift, Prog.bind_op, Prog.bind_ret, Prog.pure_eq_ret, wp_deviceId]
  iintro #HP HO A22 R2 G20 G21 m12 m22 MH K2a Hk
  iapply (arrive inp K c 2 2 21 rfl (by decide)) $$ HP A22 HO
  iintro ⟨G22, HO⟩
  ihave Q2 := (box_join inp c 2) $$ R2 G20 G21 G22
  icases Q2 with ⟨Q2, q2⟩
  iapply (ldV c (v := (Memref.whole cc0_scratch3).access (boxR 2)) (w := box inp c 2) rfl) $$ Q2
  iintro Q2
  iapply (ldFull c (by decide)) $$ m12
  iintro m12
  iapply (ldstFull c (by decide) (w' := hid inp c 2) rfl) $$ MH
  iintro MH
  iapply (ldFull c (by decide)) $$ MH
  iintro MH
  ihave MH := (HdS_any c mH.view Finset.univ _) $$ MH
  iapply (ldFull c (by decide)) $$ m22
  iintro m22
  iapply (ldstV c (v := (Memref.whole cc0_scratch5).access (rowR 2 0)) (w' := keep inp c 2) rfl rfl) $$ K2a
  iintro K2
  iapply (fin c)
  iapply Hk $$ K2 MH HO Q2 m12 m22 q2

theorem part31 {Q : _ → sProp 𝕄} (K : Dev nD × PX → ℕ) (c : Dev nD) (a) :
    ⊢ iprop(Pers inp K -∗ owesE c (owed c 21) -∗ Any c ((Memref.whole cc0_scratch4).access (cmpR 2)) -∗ retRes c 2 0
      -∗ (∀ x y z, owesE c (owed c 22) -∗ waitRes c (some (2, 2, 0)) N -∗ Hd c (rcM 2 1).view (ret inp c 2 1) -∗ Hd c (rcM 2 2).view (ret inp c 2 2) -∗ Q ⟨x, y, z⟩)
      -∗ Wp c ((onBufs (k0_part31 (F := F))) c a (k0_pay34 (hid inp c 2) (wt2 (inp c) 2))) Q) := by
  unfold onBufs Wp
  rw [k0_part31_eq_skeleton]
  unfold k0_part31_skel
  simp only [semSignalWord, semWaitWord, Prog.lift, Prog.bind_op, Prog.bind_ret, Prog.pure_eq_ret, wp_deviceId]
  iintro #HP HO C2 E20 Hk
  iapply (ldstV c (v := (Memref.whole cc0_scratch4).access (cmpR 2)) (w' := comp inp c 2) rfl rfl) $$ C2
  iintro C2
  ihave C2 := (Entails.of_eq (cmp_tiles inp c 2)) $$ C2
  icases C2 with ⟨Y20, Y21, Y22⟩
  iapply (giveBack inp K c _ 2 0 21 (by revert c; decide) rfl rfl rfl rfl (by decide) rfl) $$ HP Y20 E20 HO
  iintro ⟨T20, HO⟩
  iapply (fin c)
  iapply Hk $$ HO T20 Y21 Y22

theorem part32 {Q : _ → sProp 𝕄} (K : Dev nD × PX → ℕ) (c : Dev nD) (a a1 a2 a3) :
    ⊢ iprop(Pers inp K -∗ owesE c (owed c 22) -∗ Hd c (rcM 2 1).view (ret inp c 2 1) -∗ retRes c 2 1
      -∗ (owesE c (owed c 23) -∗ waitRes c (some (2, 2, 1)) N -∗ Q ⟨⟩)
      -∗ Wp c ((onBufs (k0_part32 (F := F))) c a a1 a2 a3) Q) := by
  unfold onBufs Wp
  rw [k0_part32_eq_skeleton]
  unfold k0_part32_skel
  simp only [semSignalWord, semWaitWord, Prog.lift, Prog.bind_op, Prog.bind_ret, Prog.pure_eq_ret, wp_deviceId]
  iintro #HP HO Y21 E21 Hk
  iapply (giveBack inp K c _ 2 1 22 (by revert c; decide) rfl rfl rfl rfl (by decide) rfl) $$ HP Y21 E21 HO
  iintro ⟨T21, HO⟩
  iapply (fin c)
  iapply Hk $$ HO T21

theorem part33 {Q : _ → sProp 𝕄} (K : Dev nD × PX → ℕ) (c : Dev nD) (a) :
    ⊢ iprop(Pers inp K -∗ owesE c (owed c 23) -∗ Hd c (rcM 2 2).view (ret inp c 2 2) -∗ retRes c 2 2 -∗ HdB c m1 (wt1 (inp c) 2) -∗ HdB c m2 (wt2 (inp c) 2) -∗ Wh1 inp c 3 -∗ Wh2 inp c 3 -∗ wv c 0 -∗ wv c 1
      -∗ (Fl1 inp c 3 -∗ Fl2 inp c 3 -∗ owesE c (owed c 24) -∗ waitRes c (some (2, 2, 2)) N -∗ Q ⟨⟩)
      -∗ Wp c ((onBufs (k0_part33 (F := F))) c a) Q) := by
  unfold onBufs Wp
  rw [k0_part33_eq_skeleton]
  unfold k0_part33_skel
  simp only [semSignalWord, semWaitWord, Prog.lift, Prog.bind_op, Prog.bind_ret, Prog.pure_eq_ret, wp_deviceId]
  iintro #HP HO Y22 E22 m12 m22 W13 W23 Hv1 Hv2 Hk
  iapply (giveBack inp K c _ 2 2 23 (by revert c; decide) rfl rfl rfl rfl (by decide) rfl) $$ HP Y22 E22 HO
  iintro ⟨T22, HO⟩
  ihave M1 := (HdS_any c m1.view Finset.univ _) $$ m12
  ihave M2 := (HdS_any c m2.view Finset.univ _) $$ m22
  iapply (copy1 inp c 3 rfl rfl rfl) $$ W13 M1 Hv1
  iintro F13
  iapply (copy2 inp c 3 rfl rfl rfl) $$ W23 M2 Hv2
  iintro F23
  iapply (fin c)
  iapply Hk $$ F13 F23 HO T22

theorem part34 {Q : _ → sProp 𝕄} (K : Dev nD × PX → ℕ) (c : Dev nD) (a) :
    ⊢ iprop(Pers inp K -∗ owesE c (owed c 24) -∗ waitRes c (some (3, 1, 0)) N -∗ waitRes c (some (3, 1, 1)) N
      -∗ (∀ x y z, owesE c (owed c 24) -∗ got3 inp c 1 0 -∗ got3 inp c 1 1 -∗ Q ⟨x, y, z⟩)
      -∗ Wp c ((onBufs (k0_part34 (F := F))) a) Q) := by
  unfold onBufs Wp
  rw [k0_part34_eq_skeleton]
  unfold k0_part34_skel
  simp only [semSignalWord, semWaitWord, Prog.lift, Prog.bind_op, Prog.bind_ret, Prog.pure_eq_ret, wp_deviceId]
  iintro #HP HO U10 U11 Hk
  iapply (comeBack inp K c 1 0 24 rfl (by decide)) $$ HP U10 HO
  iintro ⟨V10, HO⟩
  iapply (comeBack inp K c 1 1 24 rfl (by decide)) $$ HP U11 HO
  iintro ⟨V11, HO⟩
  iapply (fin c)
  iapply Hk $$ HO V10 V11

theorem part35 {Q : _ → sProp 𝕄} (K : Dev nD × PX → ℕ) (c : Dev nD) (a a1 a2) :
    ⊢ iprop(Pers inp K -∗ owesE c (owed c 24) -∗ waitRes c (some (3, 1, 2)) N -∗ Hd c ((Memref.whole cc0_scratch5).access (rowR 1 0)) (keep inp c 1) -∗ got3 inp c 1 0 -∗ got3 inp c 1 1 -∗ HdB c mT (inp c).st -∗ AnyB c mC -∗ HdB c mO (out0 inp c)
      -∗ (HdB c mT (inp c).st -∗ Hd c ((Memref.whole cc0_scratch5).access (blkR 1)) (gat inp c 1) -∗ AnyB c mC -∗ HdB c mO (out1 inp c) -∗ owesE c (owed c 24) -∗ sv 3 c 1 -∗ Q ⟨⟩)
      -∗ Wp c ((onBufs (k0_part35 (F := F))) col640 a a1 a2) Q) := by
  unfold onBufs Wp
  rw [k0_part35_eq_skeleton]
  unfold k0_part35_skel
  simp only [semSignalWord, semWaitWord, Prog.lift, Prog.bind_op, Prog.bind_ret, Prog.pure_eq_ret, wp_deviceId]
  iintro #HP HO U12 K1 V10 V11 HT MC O0 Hk
  iapply (comeBack inp K c 1 2 24 rfl (by decide)) $$ HP U12 HO
  iintro ⟨V12, HO⟩
  iapply (ldFull c (by decide)) $$ HT
  iintro HT
  iapply (ldstFull c (m := mC) (by decide) (w' := k0_pay37 col640 (inp c).st) rfl) $$ MC
  iintro MC
  iapply (ldFull c (by decide)) $$ MC
  iintro MC
  ihave MC := (HdS_any c mC.view Finset.univ _) $$ MC
  ihave J1 := (gat_join inp c 1) $$ K1 V10 V11 V12
  icases J1 with ⟨J1, v1⟩
  iapply (ldV c (v := (Memref.whole cc0_scratch5).access (blkR 1)) (w := gat inp c 1) rfl) $$ J1
  iintro J1
  iapply (ldFull c (by decide)) $$ O0
  iintro MO
  ihave MO := (HdS_any c mO.view Finset.univ _) $$ MO
  iapply (ldstFull c (by decide) (w' := out1 inp c) rfl) $$ MO
  iintro O1
  iapply (fin c)
  iapply Hk $$ HT J1 MC O1 HO v1

end Cert.KernelProof
-- ==== Proof.PartsD.lean ====
/-
  The body part by part: the last expert, the last sums, and the departures waited for.
-/
module

public import proofs.«01_k».proof.Proof.Names

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

theorem part36 {Q : _ → sProp 𝕄} (K : Dev nD × PX → ℕ) (c : Dev nD) (a) :
    ⊢ iprop(Pers inp K -∗ owesE c (owed c 24) -∗ Fl1 inp c 3 -∗ Fl2 inp c 3 -∗ waitRes c (some (1, 3, 0)) N
      -∗ (∀ x y, got1 inp c 3 0 -∗ wv c 0 -∗ wv c 1 -∗ owesE c (owed c 24) -∗ Wh1 inp c 3 -∗ Wh2 inp c 3 -∗ HdB c m1 (wt1 (inp c) 3) -∗ HdB c m2 (wt2 (inp c) 3) -∗ Q ⟨x, y⟩)
      -∗ Wp c ((onBufs (k0_part36 (F := F))) a) Q) := by
  unfold onBufs Wp
  rw [k0_part36_eq_skeleton]
  unfold k0_part36_skel
  simp only [semSignalWord, semWaitWord, Prog.lift, Prog.bind_op, Prog.bind_ret, Prog.pure_eq_ret, wp_deviceId]
  iintro #HP HO F13 F23 A30 Hk
  iapply (wait1 inp K c 3 24 rfl rfl (by decide)) $$ HP F13 HO
  iintro ⟨m13, W13, Hv1, HO⟩
  iapply (wait2 inp K c 3 24 rfl rfl (by decide)) $$ HP F23 HO
  iintro ⟨m23, W23, Hv2, HO⟩
  iapply (arrive inp K c 3 0 24 rfl (by decide)) $$ HP A30 HO
  iintro ⟨G30, HO⟩
  iapply (fin c)
  iapply Hk $$ G30 Hv1 Hv2 HO W13 W23 m13 m23

theorem part37 {Q : _ → sProp 𝕄} (K : Dev nD × PX → ℕ) (c : Dev nD) (a a1 a2) :
    ⊢ iprop(Pers inp K -∗ owesE c (owed c 24) -∗ waitRes c (some (1, 3, 1)) N
      -∗ (got1 inp c 3 1 -∗ owesE c (owed c 24) -∗ Q ⟨⟩)
      -∗ Wp c ((onBufs (k0_part37 (F := F))) a a1 a2) Q) := by
  unfold onBufs Wp
  rw [k0_part37_eq_skeleton]
  unfold k0_part37_skel
  simp only [semSignalWord, semWaitWord, Prog.lift, Prog.bind_op, Prog.bind_ret, Prog.pure_eq_ret, wp_deviceId]
  iintro #HP HO A31 Hk
  iapply (arrive inp K c 3 1 24 rfl (by decide)) $$ HP A31 HO
  iintro ⟨G31, HO⟩
  iapply (fin c)
  iapply Hk $$ G31 HO

theorem part38 {Q : _ → sProp 𝕄} (K : Dev nD × PX → ℕ) (c : Dev nD) (a) :
    ⊢ iprop(Pers inp K -∗ owesE c (owed c 24) -∗ waitRes c (some (1, 3, 2)) N -∗ Hd c ((Memref.whole cc0_scratch3).access (tileR 3 0)) (own (inp c) 3) -∗ got1 inp c 3 0 -∗ got1 inp c 3 1 -∗ HdB c m1 (wt1 (inp c) 3) -∗ HdB c m2 (wt2 (inp c) 3) -∗ AnyB c mH -∗ Any c ((Memref.whole cc0_scratch5).access (rowR 3 0)) -∗ Any c ((Memref.whole cc0_scratch4).access (cmpR 3))
      -∗ (∀ x y, Hd c ((Memref.whole cc0_scratch5).access (rowR 3 0)) (keep inp c 3) -∗ AnyB c mH -∗ owesE c (owed c 24) -∗ Hd c ((Memref.whole cc0_scratch3).access (boxR 3)) (box inp c 3) -∗ Hd c (rcM 3 0).view (ret inp c 3 0) -∗ Hd c (rcM 3 1).view (ret inp c 3 1) -∗ Hd c (rcM 3 2).view (ret inp c 3 2) -∗ HdB c m1 (wt1 (inp c) 3) -∗ HdB c m2 (wt2 (inp c) 3) -∗ sv 1 c 3 -∗ Q ⟨x, y⟩)
      -∗ Wp c ((onBufs (k0_part38 (F := F))) a) Q) := by
  unfold onBufs Wp
  rw [k0_part38_eq_skeleton]
  unfold k0_part38_skel
  simp only [semSignalWord, semWaitWord, Prog.lift, Prog.bind_op, Prog.bind_ret, Prog.pure_eq_ret, wp_deviceId]
  iintro #HP HO A32 R3 G30 G31 m13 m23 MH K3a C3 Hk
  iapply (arrive inp K c 3 2 24 rfl (by decide)) $$ HP A32 HO
  iintro ⟨G32, HO⟩
  ihave Q3 := (box_join inp c 3) $$ R3 G30 G31 G32
  icases Q3 with ⟨Q3, q3⟩
  iapply (ldV c (v := (Memref.whole cc0_scratch3).access (boxR 3)) (w := box inp c 3) rfl) $$ Q3
  iintro Q3
  iapply (ldFull c (by decide)) $$ m13
  iintro m13
  iapply (ldstFull c (by decide) (w' := hid inp c 3) rfl) $$ MH
  iintro MH
  iapply (ldFull c (by decide)) $$ MH
  iintro MH
  ihave MH := (HdS_any c mH.view Finset.univ _) $$ MH
  iapply (ldFull c (by decide)) $$ m23
  iintro m23
  iapply (ldstV c (v := (Memref.whole cc0_scratch5).access (rowR 3 0)) (w' := keep inp c 3) rfl rfl) $$ K3a
  iintro K3
  iapply (ldstV c (v := (Memref.whole cc0_scratch4).access (cmpR 3)) (w' := comp inp c 3) rfl rfl) $$ C3
  iintro C3
  ihave C3 := (Entails.of_eq (cmp_tiles inp c 3)) $$ C3
  icases C3 with ⟨Y30, Y31, Y32⟩
  iapply (fin c)
  iapply Hk $$ K3 MH HO Q3 Y30 Y31 Y32 m13 m23 q3

theorem part39 {Q : _ → sProp 𝕄} (K : Dev nD × PX → ℕ) (c : Dev nD) (a a1 a2) :
    ⊢ iprop(Pers inp K -∗ owesE c (owed c 24) -∗ Hd c (rcM 3 0).view (ret inp c 3 0) -∗ retRes c 3 0
      -∗ (∀ x, owesE c (owed c 25) -∗ waitRes c (some (2, 3, 0)) N -∗ Q x)
      -∗ Wp c ((onBufs (k0_part39 (F := F))) c a a1 a2) Q) := by
  unfold onBufs Wp
  rw [k0_part39_eq_skeleton]
  unfold k0_part39_skel
  simp only [semSignalWord, semWaitWord, Prog.lift, Prog.bind_op, Prog.bind_ret, Prog.pure_eq_ret, wp_deviceId]
  iintro #HP HO Y30 E30 Hk
  iapply (giveBack inp K c _ 3 0 24 (by revert c; decide) rfl rfl rfl rfl (by decide) rfl) $$ HP Y30 E30 HO
  iintro ⟨T30, HO⟩
  iapply (fin c)
  iapply Hk $$ HO T30

theorem part40 {Q : _ → sProp 𝕄} (K : Dev nD × PX → ℕ) (c : Dev nD) (a a1) :
    ⊢ iprop(Pers inp K -∗ owesE c (owed c 25) -∗ Hd c (rcM 3 1).view (ret inp c 3 1) -∗ retRes c 3 1 -∗ Hd c (rcM 3 2).view (ret inp c 3 2) -∗ retRes c 3 2
      -∗ (∀ x y, owesE c (owed c 27) -∗ waitRes c (some (2, 3, 1)) N -∗ waitRes c (some (2, 3, 2)) N -∗ Q ⟨x, y⟩)
      -∗ Wp c ((onBufs (k0_part40 (F := F))) c a a1) Q) := by
  unfold onBufs Wp
  rw [k0_part40_eq_skeleton]
  unfold k0_part40_skel
  simp only [semSignalWord, semWaitWord, Prog.lift, Prog.bind_op, Prog.bind_ret, Prog.pure_eq_ret, wp_deviceId]
  iintro #HP HO Y31 E31 Y32 E32 Hk
  iapply (giveBack inp K c _ 3 1 25 (by revert c; decide) rfl rfl rfl rfl (by decide) rfl) $$ HP Y31 E31 HO
  iintro ⟨T31, HO⟩
  iapply (giveBack inp K c _ 3 2 26 (by revert c; decide) rfl rfl rfl rfl (by decide) rfl) $$ HP Y32 E32 HO
  iintro ⟨T32, HO⟩
  iapply (fin c)
  iapply Hk $$ HO T31 T32

theorem part41 {Q : _ → sProp 𝕄} (K : Dev nD × PX → ℕ) (c : Dev nD) (a a1 a2) :
    ⊢ iprop(Pers inp K -∗ owesE c (owed c 27) -∗ waitRes c (some (3, 2, 0)) N
      -∗ (∀ x y, owesE c (owed c 27) -∗ got3 inp c 2 0 -∗ Q ⟨x, y⟩)
      -∗ Wp c ((onBufs (k0_part41 (F := F))) a a1 a2) Q) := by
  unfold onBufs Wp
  rw [k0_part41_eq_skeleton]
  unfold k0_part41_skel
  simp only [semSignalWord, semWaitWord, Prog.lift, Prog.bind_op, Prog.bind_ret, Prog.pure_eq_ret, wp_deviceId]
  iintro #HP HO U20 Hk
  iapply (comeBack inp K c 2 0 27 rfl (by decide)) $$ HP U20 HO
  iintro ⟨V20, HO⟩
  iapply (fin c)
  iapply Hk $$ HO V20

theorem part42 {Q : _ → sProp 𝕄} (K : Dev nD × PX → ℕ) (c : Dev nD) (a a1 a2) :
    ⊢ iprop(Pers inp K -∗ owesE c (owed c 27) -∗ waitRes c (some (3, 2, 1)) N -∗ waitRes c (some (3, 2, 2)) N -∗ HdB c mT (inp c).st
      -∗ (HdB c mT (inp c).st -∗ owesE c (owed c 27) -∗ got3 inp c 2 1 -∗ got3 inp c 2 2 -∗ Q (k0_pay43 col640 (inp c).st))
      -∗ Wp c ((onBufs (k0_part42 (F := F))) a col640 a1 a2) Q) := by
  unfold onBufs Wp
  rw [k0_part42_eq_skeleton]
  unfold k0_part42_skel
  simp only [semSignalWord, semWaitWord, Prog.lift, Prog.bind_op, Prog.bind_ret, Prog.pure_eq_ret, wp_deviceId]
  iintro #HP HO U21 U22 HT Hk
  iapply (comeBack inp K c 2 1 27 rfl (by decide)) $$ HP U21 HO
  iintro ⟨V21, HO⟩
  iapply (comeBack inp K c 2 2 27 rfl (by decide)) $$ HP U22 HO
  iintro ⟨V22, HO⟩
  iapply (ldFull c (by decide)) $$ HT
  iintro HT
  iapply (fin c)
  iapply Hk $$ HT HO V21 V22

theorem part43 {Q : _ → sProp 𝕄} (K : Dev nD × PX → ℕ) (c : Dev nD) (a) :
    ⊢ iprop(Pers inp K -∗ Hd c ((Memref.whole cc0_scratch5).access (rowR 2 0)) (keep inp c 2) -∗ got3 inp c 2 0 -∗ got3 inp c 2 1 -∗ got3 inp c 2 2 -∗ AnyB c mC -∗ HdB c mO (out1 inp c)
      -∗ (Hd c ((Memref.whole cc0_scratch5).access (blkR 2)) (gat inp c 2) -∗ AnyB c mC -∗ HdB c mO (out2 inp c) -∗ sv 3 c 2 -∗ Q ⟨⟩)
      -∗ Wp c ((onBufs (k0_part43 (F := F))) a (k0_pay43 col640 (inp c).st)) Q) := by
  unfold onBufs Wp
  rw [k0_part43_eq_skeleton]
  unfold k0_part43_skel
  simp only [semSignalWord, semWaitWord, Prog.lift, Prog.bind_op, Prog.bind_ret, Prog.pure_eq_ret, wp_deviceId]
  iintro #HP K2 V20 V21 V22 MC O1 Hk
  iapply (ldstFull c (m := mC) (by decide) (w' := k0_pay44 (k0_pay43 col640 (inp c).st)) rfl) $$ MC
  iintro MC
  iapply (ldFull c (by decide)) $$ MC
  iintro MC
  ihave MC := (HdS_any c mC.view Finset.univ _) $$ MC
  ihave J2 := (gat_join inp c 2) $$ K2 V20 V21 V22
  icases J2 with ⟨J2, v2⟩
  iapply (ldV c (v := (Memref.whole cc0_scratch5).access (blkR 2)) (w := gat inp c 2) rfl) $$ J2
  iintro J2
  iapply (ldFull c (by decide)) $$ O1
  iintro MO
  ihave MO := (HdS_any c mO.view Finset.univ _) $$ MO
  iapply (ldstFull c (by decide) (w' := out2 inp c) rfl) $$ MO
  iintro O2
  iapply (fin c)
  iapply Hk $$ J2 MC O2 v2

theorem part44 {Q : _ → sProp 𝕄} (K : Dev nD × PX → ℕ) (c : Dev nD) (a) :
    ⊢ iprop(Pers inp K -∗ owesE c (owed c 27) -∗ waitRes c (some (3, 3, 0)) N -∗ waitRes c (some (3, 3, 1)) N
      -∗ (∀ x, owesE c (owed c 27) -∗ got3 inp c 3 0 -∗ got3 inp c 3 1 -∗ Q x)
      -∗ Wp c ((onBufs (k0_part44 (F := F))) a) Q) := by
  unfold onBufs Wp
  rw [k0_part44_eq_skeleton]
  unfold k0_part44_skel
  simp only [semSignalWord, semWaitWord, Prog.lift, Prog.bind_op, Prog.bind_ret, Prog.pure_eq_ret, wp_deviceId]
  iintro #HP HO U30 U31 Hk
  iapply (comeBack inp K c 3 0 27 rfl (by decide)) $$ HP U30 HO
  iintro ⟨V30, HO⟩
  iapply (comeBack inp K c 3 1 27 rfl (by decide)) $$ HP U31 HO
  iintro ⟨V31, HO⟩
  iapply (fin c)
  iapply Hk $$ HO V30 V31

theorem part45 {Q : _ → sProp 𝕄} (K : Dev nD × PX → ℕ) (c : Dev nD) (a a1) :
    ⊢ iprop(Pers inp K -∗ owesE c (owed c 27) -∗ waitRes c (some (3, 3, 2)) N -∗ Hd c ((Memref.whole cc0_scratch5).access (rowR 3 0)) (keep inp c 3) -∗ got3 inp c 3 0 -∗ got3 inp c 3 1 -∗ HdB c mT (inp c).st -∗ AnyB c mC -∗ HdB c mO (out2 inp c)
      -∗ (∀ x y z, HdB c mT (inp c).st -∗ Hd c ((Memref.whole cc0_scratch5).access (blkR 3)) (gat inp c 3) -∗ AnyB c mC -∗ HdB c mO (out3 inp c) -∗ owesE c (owed c 27) -∗ sv 3 c 3 -∗ Q ⟨x, y, z⟩)
      -∗ Wp c ((onBufs (k0_part45 (F := F))) a col640 a1) Q) := by
  unfold onBufs Wp
  rw [k0_part45_eq_skeleton]
  unfold k0_part45_skel
  simp only [semSignalWord, semWaitWord, Prog.lift, Prog.bind_op, Prog.bind_ret, Prog.pure_eq_ret, wp_deviceId]
  iintro #HP HO U32 K3 V30 V31 HT MC O2 Hk
  iapply (comeBack inp K c 3 2 27 rfl (by decide)) $$ HP U32 HO
  iintro ⟨V32, HO⟩
  iapply (ldFull c (by decide)) $$ HT
  iintro HT
  iapply (ldstFull c (m := mC) (by decide) (w' := k0_pay46 col640 (inp c).st) rfl) $$ MC
  iintro MC
  iapply (ldFull c (by decide)) $$ MC
  iintro MC
  ihave MC := (HdS_any c mC.view Finset.univ _) $$ MC
  ihave J3 := (gat_join inp c 3) $$ K3 V30 V31 V32
  icases J3 with ⟨J3, v3⟩
  iapply (ldV c (v := (Memref.whole cc0_scratch5).access (blkR 3)) (w := gat inp c 3) rfl) $$ J3
  iintro J3
  iapply (ldFull c (by decide)) $$ O2
  iintro MO
  ihave MO := (HdS_any c mO.view Finset.univ _) $$ MO
  iapply (ldstFull c (by decide) (w' := out3 inp c) rfl) $$ MO
  iintro O3
  iapply (fin c)
  iapply Hk $$ HT J3 MC O3 HO v3

theorem part46 {Q : _ → sProp 𝕄} (K : Dev nD × PX → ℕ) (c : Dev nD) (a a1 a2 a3) :
    ⊢ iprop(Pers inp K -∗ owesE c (owed c 27) -∗ waitRes c (some (0, 0, 0)) N
      -∗ (left 0 c 0 0 -∗ owesE c (owed c 27) -∗ Q ⟨⟩)
      -∗ Wp c ((onBufs (k0_part46 (F := F))) a a1 a2 a3) Q) := by
  unfold onBufs Wp
  rw [k0_part46_eq_skeleton]
  unfold k0_part46_skel
  simp only [semSignalWord, semWaitWord, Prog.lift, Prog.bind_op, Prog.bind_ret, Prog.pure_eq_ret, wp_deviceId]
  iintro #HP HO S00 Hk
  iapply (sent inp K c 0 0 rfl) $$ HP S00 HO
  iintro ⟨L00, HO⟩
  iapply (fin c)
  iapply Hk $$ L00 HO

theorem part47 {Q : _ → sProp 𝕄} (K : Dev nD × PX → ℕ) (c : Dev nD) (a) :
    ⊢ iprop(Pers inp K -∗ owesE c (owed c 27) -∗ waitRes c (some (2, 0, 0)) N -∗ waitRes c (some (0, 0, 1)) N
      -∗ (left 0 c 0 1 -∗ left 2 c 0 0 -∗ owesE c (owed c 27) -∗ Q ⟨⟩)
      -∗ Wp c ((onBufs (k0_part47 (F := F))) a) Q) := by
  unfold onBufs Wp
  rw [k0_part47_eq_skeleton]
  unfold k0_part47_skel
  simp only [semSignalWord, semWaitWord, Prog.lift, Prog.bind_op, Prog.bind_ret, Prog.pure_eq_ret, wp_deviceId]
  iintro #HP HO T00 S01 Hk
  iapply (returned inp K c 0 0 rfl) $$ HP T00 HO
  iintro ⟨M00, HO⟩
  iapply (sent inp K c 0 1 rfl) $$ HP S01 HO
  iintro ⟨L01, HO⟩
  iapply (fin c)
  iapply Hk $$ L01 M00 HO

theorem part48 {Q : _ → sProp 𝕄} (K : Dev nD × PX → ℕ) (c : Dev nD) (a) :
    ⊢ iprop(Pers inp K -∗ owesE c (owed c 27) -∗ waitRes c (some (2, 0, 1)) N -∗ waitRes c (some (0, 0, 2)) N
      -∗ (∀ x y z, left 0 c 0 2 -∗ left 2 c 0 1 -∗ owesE c (owed c 27) -∗ Q ⟨x, y, z⟩)
      -∗ Wp c ((onBufs (k0_part48 (F := F))) a) Q) := by
  unfold onBufs Wp
  rw [k0_part48_eq_skeleton]
  unfold k0_part48_skel
  simp only [semSignalWord, semWaitWord, Prog.lift, Prog.bind_op, Prog.bind_ret, Prog.pure_eq_ret, wp_deviceId]
  iintro #HP HO T01 S02 Hk
  iapply (returned inp K c 0 1 rfl) $$ HP T01 HO
  iintro ⟨M01, HO⟩
  iapply (sent inp K c 0 2 rfl) $$ HP S02 HO
  iintro ⟨L02, HO⟩
  iapply (fin c)
  iapply Hk $$ L02 M01 HO

theorem part49 {Q : _ → sProp 𝕄} (K : Dev nD × PX → ℕ) (c : Dev nD) (a a1 a2 a3) :
    ⊢ iprop(Pers inp K -∗ owesE c (owed c 27) -∗ waitRes c (some (2, 0, 2)) N -∗ waitRes c (some (0, 1, 0)) N
      -∗ (left 0 c 1 0 -∗ left 2 c 0 2 -∗ owesE c (owed c 27) -∗ Q ⟨⟩)
      -∗ Wp c ((onBufs (k0_part49 (F := F))) a a1 a2 a3) Q) := by
  unfold onBufs Wp
  rw [k0_part49_eq_skeleton]
  unfold k0_part49_skel
  simp only [semSignalWord, semWaitWord, Prog.lift, Prog.bind_op, Prog.bind_ret, Prog.pure_eq_ret, wp_deviceId]
  iintro #HP HO T02 S10 Hk
  iapply (returned inp K c 0 2 rfl) $$ HP T02 HO
  iintro ⟨M02, HO⟩
  iapply (sent inp K c 1 0 rfl) $$ HP S10 HO
  iintro ⟨L10, HO⟩
  iapply (fin c)
  iapply Hk $$ L10 M02 HO

theorem part50 {Q : _ → sProp 𝕄} (K : Dev nD × PX → ℕ) (c : Dev nD) (a) :
    ⊢ iprop(Pers inp K -∗ owesE c (owed c 27) -∗ waitRes c (some (2, 1, 0)) N
      -∗ (left 2 c 1 0 -∗ owesE c (owed c 27) -∗ Q ⟨⟩)
      -∗ Wp c ((onBufs (k0_part50 (F := F))) a) Q) := by
  unfold onBufs Wp
  rw [k0_part50_eq_skeleton]
  unfold k0_part50_skel
  simp only [semSignalWord, semWaitWord, Prog.lift, Prog.bind_op, Prog.bind_ret, Prog.pure_eq_ret, wp_deviceId]
  iintro #HP HO T10 Hk
  iapply (returned inp K c 1 0 rfl) $$ HP T10 HO
  iintro ⟨M10, HO⟩
  iapply (fin c)
  iapply Hk $$ M10 HO

theorem part51 {Q : _ → sProp 𝕄} (K : Dev nD × PX → ℕ) (c : Dev nD) (a) :
    ⊢ iprop(Pers inp K -∗ owesE c (owed c 27) -∗ waitRes c (some (0, 1, 1)) N -∗ waitRes c (some (2, 1, 1)) N
      -∗ (∀ x y z p, left 0 c 1 1 -∗ left 2 c 1 1 -∗ owesE c (owed c 27) -∗ Q ⟨x, y, z, p⟩)
      -∗ Wp c ((onBufs (k0_part51 (F := F))) a) Q) := by
  unfold onBufs Wp
  rw [k0_part51_eq_skeleton]
  unfold k0_part51_skel
  simp only [semSignalWord, semWaitWord, Prog.lift, Prog.bind_op, Prog.bind_ret, Prog.pure_eq_ret, wp_deviceId]
  iintro #HP HO S11 T11 Hk
  iapply (sent inp K c 1 1 rfl) $$ HP S11 HO
  iintro ⟨L11, HO⟩
  iapply (returned inp K c 1 1 rfl) $$ HP T11 HO
  iintro ⟨M11, HO⟩
  iapply (fin c)
  iapply Hk $$ L11 M11 HO

theorem part52 {Q : _ → sProp 𝕄} (K : Dev nD × PX → ℕ) (c : Dev nD) (a a1 a2 a3 a4) :
    ⊢ iprop(Pers inp K -∗ owesE c (owed c 27) -∗ waitRes c (some (0, 1, 2)) N -∗ waitRes c (some (2, 1, 2)) N
      -∗ (∀ x y z, left 0 c 1 2 -∗ left 2 c 1 2 -∗ owesE c (owed c 27) -∗ Q ⟨x, y, z⟩)
      -∗ Wp c ((onBufs (k0_part52 (F := F))) a a1 a2 a3 a4) Q) := by
  unfold onBufs Wp
  rw [k0_part52_eq_skeleton]
  unfold k0_part52_skel
  simp only [semSignalWord, semWaitWord, Prog.lift, Prog.bind_op, Prog.bind_ret, Prog.pure_eq_ret, wp_deviceId]
  iintro #HP HO S12 T12 Hk
  iapply (sent inp K c 1 2 rfl) $$ HP S12 HO
  iintro ⟨L12, HO⟩
  iapply (returned inp K c 1 2 rfl) $$ HP T12 HO
  iintro ⟨M12, HO⟩
  iapply (fin c)
  iapply Hk $$ L12 M12 HO

theorem part53 {Q : _ → sProp 𝕄} (K : Dev nD × PX → ℕ) (c : Dev nD) (a a1 a2 a3) :
    ⊢ iprop(Pers inp K -∗ owesE c (owed c 27) -∗ waitRes c (some (0, 2, 0)) N
      -∗ (left 0 c 2 0 -∗ owesE c (owed c 27) -∗ Q ⟨⟩)
      -∗ Wp c ((onBufs (k0_part53 (F := F))) a a1 a2 a3) Q) := by
  unfold onBufs Wp
  rw [k0_part53_eq_skeleton]
  unfold k0_part53_skel
  simp only [semSignalWord, semWaitWord, Prog.lift, Prog.bind_op, Prog.bind_ret, Prog.pure_eq_ret, wp_deviceId]
  iintro #HP HO S20 Hk
  iapply (sent inp K c 2 0 rfl) $$ HP S20 HO
  iintro ⟨L20, HO⟩
  iapply (fin c)
  iapply Hk $$ L20 HO

theorem part54 {Q : _ → sProp 𝕄} (K : Dev nD × PX → ℕ) (c : Dev nD) (a) :
    ⊢ iprop(Pers inp K -∗ owesE c (owed c 27) -∗ waitRes c (some (2, 2, 0)) N -∗ waitRes c (some (0, 2, 1)) N
      -∗ (left 0 c 2 1 -∗ left 2 c 2 0 -∗ owesE c (owed c 27) -∗ Q ⟨⟩)
      -∗ Wp c ((onBufs (k0_part54 (F := F))) a) Q) := by
  unfold onBufs Wp
  rw [k0_part54_eq_skeleton]
  unfold k0_part54_skel
  simp only [semSignalWord, semWaitWord, Prog.lift, Prog.bind_op, Prog.bind_ret, Prog.pure_eq_ret, wp_deviceId]
  iintro #HP HO T20 S21 Hk
  iapply (returned inp K c 2 0 rfl) $$ HP T20 HO
  iintro ⟨M20, HO⟩
  iapply (sent inp K c 2 1 rfl) $$ HP S21 HO
  iintro ⟨L21, HO⟩
  iapply (fin c)
  iapply Hk $$ L21 M20 HO

theorem part55 {Q : _ → sProp 𝕄} (K : Dev nD × PX → ℕ) (c : Dev nD) (a) :
    ⊢ iprop(Pers inp K -∗ owesE c (owed c 27) -∗ waitRes c (some (2, 2, 1)) N -∗ waitRes c (some (0, 2, 2)) N
      -∗ (∀ x y z, left 0 c 2 2 -∗ left 2 c 2 1 -∗ owesE c (owed c 27) -∗ Q ⟨x, y, z⟩)
      -∗ Wp c ((onBufs (k0_part55 (F := F))) a) Q) := by
  unfold onBufs Wp
  rw [k0_part55_eq_skeleton]
  unfold k0_part55_skel
  simp only [semSignalWord, semWaitWord, Prog.lift, Prog.bind_op, Prog.bind_ret, Prog.pure_eq_ret, wp_deviceId]
  iintro #HP HO T21 S22 Hk
  iapply (returned inp K c 2 1 rfl) $$ HP T21 HO
  iintro ⟨M21, HO⟩
  iapply (sent inp K c 2 2 rfl) $$ HP S22 HO
  iintro ⟨L22, HO⟩
  iapply (fin c)
  iapply Hk $$ L22 M21 HO

theorem part56 {Q : _ → sProp 𝕄} (K : Dev nD × PX → ℕ) (c : Dev nD) (a a1 a2 a3) :
    ⊢ iprop(Pers inp K -∗ owesE c (owed c 27) -∗ waitRes c (some (2, 2, 2)) N -∗ waitRes c (some (0, 3, 0)) N
      -∗ (left 0 c 3 0 -∗ left 2 c 2 2 -∗ owesE c (owed c 27) -∗ Q ⟨⟩)
      -∗ Wp c ((onBufs (k0_part56 (F := F))) a a1 a2 a3) Q) := by
  unfold onBufs Wp
  rw [k0_part56_eq_skeleton]
  unfold k0_part56_skel
  simp only [semSignalWord, semWaitWord, Prog.lift, Prog.bind_op, Prog.bind_ret, Prog.pure_eq_ret, wp_deviceId]
  iintro #HP HO T22 S30 Hk
  iapply (returned inp K c 2 2 rfl) $$ HP T22 HO
  iintro ⟨M22, HO⟩
  iapply (sent inp K c 3 0 rfl) $$ HP S30 HO
  iintro ⟨L30, HO⟩
  iapply (fin c)
  iapply Hk $$ L30 M22 HO

theorem part57 {Q : _ → sProp 𝕄} (K : Dev nD × PX → ℕ) (c : Dev nD) (a) :
    ⊢ iprop(Pers inp K -∗ owesE c (owed c 27) -∗ waitRes c (some (2, 3, 0)) N
      -∗ (left 2 c 3 0 -∗ owesE c (owed c 27) -∗ Q ⟨⟩)
      -∗ Wp c ((onBufs (k0_part57 (F := F))) a) Q) := by
  unfold onBufs Wp
  rw [k0_part57_eq_skeleton]
  unfold k0_part57_skel
  simp only [semSignalWord, semWaitWord, Prog.lift, Prog.bind_op, Prog.bind_ret, Prog.pure_eq_ret, wp_deviceId]
  iintro #HP HO T30 Hk
  iapply (returned inp K c 3 0 rfl) $$ HP T30 HO
  iintro ⟨M30, HO⟩
  iapply (fin c)
  iapply Hk $$ M30 HO

theorem part58 {Q : _ → sProp 𝕄} (K : Dev nD × PX → ℕ) (c : Dev nD) (a) :
    ⊢ iprop(Pers inp K -∗ owesE c (owed c 27) -∗ waitRes c (some (0, 3, 1)) N -∗ waitRes c (some (2, 3, 1)) N
      -∗ (∀ x y z p, left 0 c 3 1 -∗ left 2 c 3 1 -∗ owesE c (owed c 27) -∗ Q ⟨x, y, z, p⟩)
      -∗ Wp c ((onBufs (k0_part58 (F := F))) a) Q) := by
  unfold onBufs Wp
  rw [k0_part58_eq_skeleton]
  unfold k0_part58_skel
  simp only [semSignalWord, semWaitWord, Prog.lift, Prog.bind_op, Prog.bind_ret, Prog.pure_eq_ret, wp_deviceId]
  iintro #HP HO S31 T31 Hk
  iapply (sent inp K c 3 1 rfl) $$ HP S31 HO
  iintro ⟨L31, HO⟩
  iapply (returned inp K c 3 1 rfl) $$ HP T31 HO
  iintro ⟨M31, HO⟩
  iapply (fin c)
  iapply Hk $$ L31 M31 HO

end Cert.KernelProof
-- ==== Proof.Walk.lean ====
/-
  The whole body: the parts in their order, and the two departures waited for last.
-/
module

public import proofs.«01_k».proof.Proof.PartsA
public import proofs.«01_k».proof.Proof.PartsB
public import proofs.«01_k».proof.Proof.PartsC
public import proofs.«01_k».proof.Proof.PartsD

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the barrier gives -/

/-- The tokens of the tile sent `k + 1` ahead, without the window it lands in. -/
def dispTok (c : Dev nD) (j : Fin 4) (k : Fin 3) : sProp 𝕄 :=
  iprop(dutyTok ER (cell c (some (0, j, k))) 0 0 ∗ dutyTok ER (cell (fwd c k) (some (1, j, k))) 0 0
    ∗ atPos ER (cell c (some (0, j, k))) 0 ∅ 0)
/-- The tokens of the tile returned `k + 1` behind, without the window it lands in. -/
def retTok (c : Dev nD) (j : Fin 4) (k : Fin 3) : sProp 𝕄 :=
  iprop(dutyTok ER (cell c (some (2, j, k))) 0 0 ∗ dutyTok ER (cell (bwd c k) (some (3, j, k))) 0 0
    ∗ atPos ER (cell c (some (2, j, k))) 0 ∅ 0)

/-- A family over experts and distances, spelled out. -/
theorem open43 (f : Fin 4 → Fin 3 → sProp 𝕄) :
    (bigSep Finset.univ fun j => bigSep Finset.univ fun k => f j k)
      = iprop((f 0 0 ∗ f 0 1 ∗ f 0 2) ∗ (f 1 0 ∗ f 1 1 ∗ f 1 2) ∗ (f 2 0 ∗ f 2 1 ∗ f 2 2) ∗ (f 3 0 ∗ f 3 1 ∗ f 3 2)) := by
  simp only [Idealize.ShloMosaic.Ring.bigSep_fin4, Idealize.ShloMosaic.Ring.bigSep_fin3]

/-- Distances first, or experts first. -/
theorem swap34 (Φ : Fin 3 → Fin 4 → sProp 𝕄) : (bigSep Finset.univ fun k => bigSep Finset.univ fun j => Φ k j)
    = bigSep Finset.univ fun j => bigSep Finset.univ fun k => Φ k j := by
  rw [Idealize.ShloMosaic.Ring.bigSep_fin3]
  exact ((bigSep_congr fun j _ => Idealize.ShloMosaic.Ring.bigSep_fin3 _).trans
    ((bigSep_sep _ _ _).trans (congrArg (fun x : sProp 𝕄 => iprop((bigSep Finset.univ (Φ 0)) ∗ x)) (bigSep_sep _ _ _)))).symm

theorem swap34_rev (A B : Fin 3 → Fin 4 → sProp 𝕄) :
    (bigSep Finset.univ fun k => bigSep Finset.univ fun j => iprop(A k.rev j ∗ B k j))
      = iprop((bigSep Finset.univ fun j => bigSep Finset.univ fun k => A k j)
        ∗ (bigSep Finset.univ fun j => bigSep Finset.univ fun k => B k j)) := by
  have e : (bigSep Finset.univ fun k : Fin 3 => bigSep Finset.univ fun j : Fin 4 => A k.rev j)
      = bigSep Finset.univ fun k => bigSep Finset.univ fun j => A k j :=
    (bigSep_univ_equiv (Fin.revPerm : Fin 3 ≃ Fin 3) (fun k : Fin 3 => bigSep Finset.univ fun j : Fin 4 => A k j)).symm
  have s : (bigSep Finset.univ fun k => bigSep Finset.univ fun j => iprop(A k.rev j ∗ B k j))
      = iprop((bigSep Finset.univ fun k : Fin 3 => bigSep Finset.univ fun j : Fin 4 => A k.rev j)
        ∗ (bigSep Finset.univ fun k : Fin 3 => bigSep Finset.univ fun j : Fin 4 => B k j)) :=
    (bigSep_congr fun k _ => bigSep_sep _ _ _).trans (bigSep_sep _ _ _)
  rw [s, e, swap34 A, swap34 B]

/-- The three barrier payments, read by expert: where each sent tile lands, and where each returned one does. -/
theorem bar_pays (c : Dev nD) : (bigSep Finset.univ (barPay (F := F) c) : sProp 𝕄)
    = iprop((bigSep Finset.univ fun k : Fin 3 => ready (F := F) (bwd c k))
      ∗ (bigSep Finset.univ fun j : Fin 4 => bigSep Finset.univ fun k : Fin 3 => Any (F := F) (fwd c k) (recvM j k).view)
      ∗ (bigSep Finset.univ fun j : Fin 4 => bigSep Finset.univ fun k : Fin 3 => Any (F := F) (bwd c k) (rrM j k).view)) := by
  have h := swap34_rev (fun k j => Any (F := F) (fwd c k) (recvM j k).view) (fun k j => Any (F := F) (bwd c k) (rrM j k).view)
  simp only [fwd_rev] at h
  exact (bigSep_sep _ _ _).trans (congrArg (fun x : sProp 𝕄 => iprop((bigSep Finset.univ fun k : Fin 3 => ready (F := F) (bwd c k)) ∗ x)) h)

theorem tail4 (a b d e : sProp 𝕄) : iprop(a ∗ b ∗ d ∗ e) = iprop((a ∗ b ∗ d) ∗ e) := by
  have h₁ : iprop(a ∗ b ∗ d ∗ e) ⊢ iprop((a ∗ b ∗ d) ∗ e) := by
    iintro ⟨A, B, D, E⟩
    isplitr [E]
    · isplitl [A]
      · iexact A
      · isplitl [B]
        · iexact B
        · iexact D
    · iexact E
  have h₂ : iprop((a ∗ b ∗ d) ∗ e) ⊢ iprop(a ∗ b ∗ d ∗ e) := by
    iintro ⟨⟨A, B, D⟩, E⟩
    isplitl [A]
    · iexact A
    · isplitl [B]
      · iexact B
      · isplitl [D]
        · iexact D
        · iexact E
  exact BI.equiv_iff.mp ⟨h₁, h₂⟩

theorem bar_open (c : Dev nD) : ⊢ iprop(bigSep Finset.univ (barPay (F := F) c)
    -∗ (bigSep Finset.univ fun j : Fin 4 => bigSep Finset.univ fun k : Fin 3 => dispTok (F := F) c j k)
    -∗ (bigSep Finset.univ fun j : Fin 4 => bigSep Finset.univ fun k : Fin 3 => retTok (F := F) c j k)
    -∗ ((bigSep Finset.univ fun k : Fin 3 => ready (F := F) (bwd c k)) ∗ (bigSep Finset.univ fun j : Fin 4 => bigSep Finset.univ fun k : Fin 3 => dispRes (F := F) c j k)
      ∗ (bigSep Finset.univ fun j : Fin 4 => bigSep Finset.univ fun k : Fin 3 => retRes (F := F) c j k)) : sProp 𝕄) := by
  rw [bar_pays]
  have d : (bigSep Finset.univ fun j : Fin 4 => bigSep Finset.univ fun k : Fin 3 => dispRes (F := F) c j k)
      = iprop((bigSep Finset.univ fun j : Fin 4 => bigSep Finset.univ fun k : Fin 3 => dispTok (F := F) c j k)
        ∗ (bigSep Finset.univ fun j : Fin 4 => bigSep Finset.univ fun k : Fin 3 => Any (F := F) (fwd c k) (recvM j k).view)) :=
    (bigSep_congr fun j _ => (bigSep_congr fun k _ => tail4 _ _ _ _).trans (bigSep_sep _ _ _)).trans (bigSep_sep _ _ _)
  have r : (bigSep Finset.univ fun j : Fin 4 => bigSep Finset.univ fun k : Fin 3 => retRes (F := F) c j k)
      = iprop((bigSep Finset.univ fun j : Fin 4 => bigSep Finset.univ fun k : Fin 3 => retTok (F := F) c j k)
        ∗ (bigSep Finset.univ fun j : Fin 4 => bigSep Finset.univ fun k : Fin 3 => Any (F := F) (bwd c k) (rrM j k).view)) :=
    (bigSep_congr fun j _ => (bigSep_congr fun k _ => tail4 _ _ _ _).trans (bigSep_sep _ _ _)).trans (bigSep_sep _ _ _)
  rw [d, r]
  iintro ⟨R, A, B⟩ D E
  isplitl [R]; · iexact R
  isplitl [A D]
  · isplitl [D]
    · iexact D
    · iexact A
  · isplitl [E]
    · iexact E
    · iexact B

/-- One part, then the rest. -/
theorem seq {α β : Type} {Q : β → sProp 𝕄} (c : Dev nD) (p : Prog (TpuEff nD τ sig (Elt F) Λ₀ .tc) α) (f : α → Prog (TpuEff nD τ sig (Elt F) Λ₀ .tc) β) :
    ⊢ iprop(Wp c p (fun a => Wp c (f a) Q) -∗ Wp c (p >>= f) Q) := by
  unfold Wp
  rw [wp_bind]
  iintro H
  iexact H

variable (inp : Dev nD → In F)

set_option maxHeartbeats 4000000 in
set_option maxRecDepth 65536 in
theorem walk {Q : _ → sProp 𝕄} (K : Dev nD × PX → ℕ) (c : Dev nD) :
    ⊢ iprop(Start inp K c -∗ owesE c (owed c 0) -∗ sigRes c 0 -∗ sigRes c 1 -∗ sigRes c 2 -∗ waitRes c none 3 -∗ (bigSep Finset.univ fun j : Fin 4 => bigSep Finset.univ fun k : Fin 3 => dispTok (F := F) c j k) -∗ (bigSep Finset.univ fun j : Fin 4 => bigSep Finset.univ fun k : Fin 3 => retTok (F := F) c j k) -∗ waitRes c (some (1, 0, 0)) N -∗ waitRes c (some (1, 0, 1)) N -∗ waitRes c (some (1, 0, 2)) N -∗ waitRes c (some (1, 1, 0)) N -∗ waitRes c (some (1, 1, 1)) N -∗ waitRes c (some (1, 1, 2)) N -∗ waitRes c (some (1, 2, 0)) N -∗ waitRes c (some (1, 2, 1)) N -∗ waitRes c (some (1, 2, 2)) N -∗ waitRes c (some (1, 3, 0)) N -∗ waitRes c (some (1, 3, 1)) N -∗ waitRes c (some (1, 3, 2)) N -∗ waitRes c (some (3, 0, 0)) N -∗ waitRes c (some (3, 0, 1)) N -∗ waitRes c (some (3, 0, 2)) N -∗ waitRes c (some (3, 1, 0)) N -∗ waitRes c (some (3, 1, 1)) N -∗ waitRes c (some (3, 1, 2)) N -∗ waitRes c (some (3, 2, 0)) N -∗ waitRes c (some (3, 2, 1)) N -∗ waitRes c (some (3, 2, 2)) N -∗ waitRes c (some (3, 3, 0)) N -∗ waitRes c (some (3, 3, 1)) N -∗ waitRes c (some (3, 3, 2)) N -∗ HdB c mX (inp c).x -∗ HdB c mS (inp c).sl -∗ HdB c mT (inp c).st -∗ AnyB c mO -∗ AnyB c mP -∗ AnyB c mC -∗ AnyB c mH -∗ AnyB c m1 -∗ AnyB c m2 -∗ wv c 0 -∗ wv c 1 -∗ Wh1 inp c 0 -∗ Wh1 inp c 1 -∗ Wh1 inp c 2 -∗ Wh1 inp c 3 -∗ Wh2 inp c 0 -∗ Wh2 inp c 1 -∗ Wh2 inp c 2 -∗ Wh2 inp c 3 -∗ Any c (xsM 0 0).view -∗ Any c (xsM 0 1).view -∗ Any c (xsM 0 2).view -∗ Any c ((Memref.whole cc0_scratch2).access (blkR 1)) -∗ Any c ((Memref.whole cc0_scratch2).access (blkR 2)) -∗ Any c ((Memref.whole cc0_scratch2).access (blkR 3)) -∗ Any c ((Memref.whole cc0_scratch3).access (tileR 0 0)) -∗ Any c ((Memref.whole cc0_scratch3).access (tileR 1 0)) -∗ Any c ((Memref.whole cc0_scratch3).access (tileR 2 0)) -∗ Any c ((Memref.whole cc0_scratch3).access (tileR 3 0)) -∗ Any c ((Memref.whole cc0_scratch5).access (rowR 0 0)) -∗ Any c ((Memref.whole cc0_scratch5).access (rowR 1 0)) -∗ Any c ((Memref.whole cc0_scratch5).access (rowR 2 0)) -∗ Any c ((Memref.whole cc0_scratch5).access (rowR 3 0)) -∗ Any c ((Memref.whole cc0_scratch4).access (cmpR 0)) -∗ Any c ((Memref.whole cc0_scratch4).access (cmpR 1)) -∗ Any c ((Memref.whole cc0_scratch4).access (cmpR 2)) -∗ Any c ((Memref.whole cc0_scratch4).access (cmpR 3))
      -∗ (∀ w, Pers inp K -∗ HdB c mS (inp c).sl -∗ HdB c mT (inp c).st -∗ HdB c mX (inp c).x -∗ semVal (cell c none) 0 -∗ wv c 0 -∗ wv c 1 -∗ Hd c ((Memref.whole cc0_scratch5).access (blkR 0)) (gat inp c 0) -∗ Hd c ((Memref.whole cc0_scratch5).access (blkR 1)) (gat inp c 1) -∗ Hd c ((Memref.whole cc0_scratch5).access (blkR 2)) (gat inp c 2) -∗ Hd c ((Memref.whole cc0_scratch5).access (blkR 3)) (gat inp c 3) -∗ left 0 c 0 0 -∗ left 0 c 0 1 -∗ left 0 c 0 2 -∗ left 0 c 1 0 -∗ left 0 c 1 1 -∗ left 0 c 1 2 -∗ left 0 c 2 0 -∗ left 0 c 2 1 -∗ left 0 c 2 2 -∗ left 0 c 3 0 -∗ left 0 c 3 1 -∗ left 2 c 0 0 -∗ left 2 c 0 1 -∗ left 2 c 0 2 -∗ left 2 c 1 0 -∗ left 2 c 1 1 -∗ left 2 c 1 2 -∗ left 2 c 2 0 -∗ left 2 c 2 1 -∗ left 2 c 2 2 -∗ left 2 c 3 0 -∗ left 2 c 3 1 -∗ AnyB c mC -∗ AnyB c mH -∗ HdB c mO (out3 inp c) -∗ owesE c (owed c 27) -∗ AnyB c mP -∗ Hd c ((Memref.whole cc0_scratch3).access (boxR 0)) (box inp c 0) -∗ Hd c ((Memref.whole cc0_scratch3).access (boxR 1)) (box inp c 1) -∗ Hd c ((Memref.whole cc0_scratch3).access (boxR 2)) (box inp c 2) -∗ Hd c ((Memref.whole cc0_scratch3).access (boxR 3)) (box inp c 3) -∗ waitRes c (some (0, 3, 2)) N -∗ waitRes c (some (2, 3, 2)) N -∗ Wh1 inp c 0 -∗ Wh1 inp c 1 -∗ Wh1 inp c 2 -∗ Wh1 inp c 3 -∗ Wh2 inp c 0 -∗ Wh2 inp c 1 -∗ Wh2 inp c 2 -∗ Wh2 inp c 3 -∗ Any c ((Memref.whole cc0_scratch2).access (rowR 1 0)) -∗ Any c ((Memref.whole cc0_scratch2).access (rowR 2 0)) -∗ Any c ((Memref.whole cc0_scratch2).access (rowR 3 0)) -∗ HdB c m1 (wt1 (inp c) 3) -∗ HdB c m2 (wt2 (inp c) 3) -∗ sv 1 c 0 -∗ sv 1 c 1 -∗ sv 1 c 2 -∗ sv 1 c 3 -∗ sv 3 c 0 -∗ sv 3 c 1 -∗ sv 3 c 2 -∗ sv 3 c 3 -∗ Q w)
      -∗ Wp c (onBufs (k0_part59 (F := F))) Q) := by
  unfold onBufs
  rw [k0_part59_eq_skeleton]
  unfold k0_part59_skel
  iintro #H0 HO s0 s1 s2 Hw DT ET A00 A01 A02 A10 A11 A12 A20 A21 A22 A30 A31 A32 U00 U01 U02 U10 U11 U12 U20 U21 U22 U30 U31 U32 HX HS HT MO PJ MC MH M1 M2 Hv1 Hv2 W10 W11 W12 W13 W20 W21 W22 W23 X00a X01a X02a B1 B2 B3 R0a R1a R2a R3a K0a K1a K2a K3a C0 C1 C2 C3 Hk
  iapply (seq c)
  iapply (part1 inp K c ) $$ H0 HO s0 s1
  iintro %v1x %v1y %v1z HO
  iapply (seq c)
  iapply (part2 inp K c _ _ _) $$ H0 HO s2 Hw W10 W20 M1 M2 Hv1 Hv2 HS PJ
  iintro  F10 F20 HS Hbar Hbv HO PJ1
  ihave DE := (bar_open c) $$ Hbar DT ET
  icases DE with ⟨RY, DT, ET⟩
  ihave #HP := (all_ready inp K c) $$ [RY]
  · isplitr; · iexact H0
    iexact RY
  ihave DT := (Entails.of_eq (open43 fun j k => dispRes (F := F) c j k)) $$ DT
  icases DT with ⟨⟨D00, D01, D02⟩, ⟨D10, D11, D12⟩, ⟨D20, D21, D22⟩, ⟨D30, D31, D32⟩⟩
  ihave ET := (Entails.of_eq (open43 fun j k => retRes (F := F) c j k)) $$ ET
  icases ET with ⟨⟨E00, E01, E02⟩, ⟨E10, E11, E12⟩, ⟨E20, E21, E22⟩, ⟨E30, E31, E32⟩⟩
  iapply (seq c)
  iapply (part3 inp K c _) $$ HP HO PJ1 HX HS X00a D00
  iintro  HS HX HO PJ S00
  iapply (seq c)
  iapply (part4 inp K c _) $$ HP PJ HX X01a
  iintro  HX PJ X01
  iapply (seq c)
  iapply (part5 inp K c _) $$ HP HO X01 D01 HS PJ HX X02a
  iintro %v5x %v5y %v5z HS HX HO PJ S01 X02
  iapply (seq c)
  iapply (part6 inp K c _ _ _) $$ HP HO X02 D02 HS PJ HX R0a
  iintro  HS HX HO PJ R0 S02
  iapply (seq c)
  iapply (part7 inp K c _) $$ HP HS PJ HX B1 R1a
  iintro %v7x %v7y %v7z HS HX PJ R1 X10 X11 X12 Z1
  iapply (seq c)
  iapply (part8 inp K c _ _ _ _) $$ HP HO X10 D10
  iintro  HO S10
  iapply (seq c)
  iapply (part9 inp K c _) $$ HP HO X11 D11 X12 D12 HS PJ
  iintro  HS HO PJ S11 S12
  iapply (seq c)
  iapply (part10 inp K c _) $$ HP PJ HX B2 R2a
  iintro  HX PJ R2 X20 X21 X22 Z2
  iapply (seq c)
  iapply (part11 inp K c _) $$ HP HO X20 D20 X21 D21
  iintro %v11x %v11y %v11z %v11p %v11q HO S20 S21
  iapply (seq c)
  iapply (part12 inp K c _ _ _ _ _) $$ HP HO X22 D22 HS PJ HX B3
  iintro  HS HX HO PJ S22 X30 X31 X32 Z3
  iapply (seq c)
  iapply (part13 inp K c _) $$ HP HO R3a X30 D30
  iintro %v13x %v13y %v13z %v13p HO R3 S30
  iapply (seq c)
  iapply (part14 inp K c _ _ _ _ _) $$ HP HO X31 D31
  iintro  HO S31
  iapply (seq c)
  iapply (part15 inp K c _) $$ HP HO X32 D32 F10 F20
  iintro  Hv1 Hv2 HO S32 W10 W20 m10 m20
  iapply (seq c)
  iapply (part16 inp K c _) $$ HP HO A00 A01
  iintro %v16x %v16y %v16z G00 G01 HO
  iapply (seq c)
  iapply (part17 inp K c _ _ _) $$ HP HO A02 R0 G00 G01 m10 m20 MH K0a
  iintro  K0 MH HO Q0 m10 m20 q0
  iapply (seq c)
  iapply (part18 inp K c _) $$ HP HO C0 E00
  iintro %v18x %v18y %v18z HO T00 Y01 Y02
  iapply (seq c)
  iapply (part19 inp K c _ _ _ _) $$ HP HO Y01 E01
  iintro  HO T01
  iapply (seq c)
  iapply (part20 inp K c _) $$ HP HO Y02 E02 m10 m20 W11 W21 Hv1 Hv2
  iintro %v20x %v20y %v20z %v20p %v20q Hv1 Hv2 HO T02 W11 W21 m11 m21
  iapply (seq c)
  iapply (part21 inp K c _ _ _ _ _ _) $$ HP HO A10
  iintro  G10 HO
  iapply (seq c)
  iapply (part22 inp K c _) $$ HP HO A11 A12 R1 G10 m11 MH
  iintro  MH HO Q1 m11 q1
  iapply (seq c)
  iapply (part23 inp K c _) $$ HP MH m21 K1a C1
  iintro  K1 MH Y10 Y11 Y12 m21
  iapply (seq c)
  iapply (part24 inp K c _) $$ HP HO Y10 E10 Y11 E11
  iintro %v24x %v24y %v24z %v24p HO T10 T11
  iapply (seq c)
  iapply (part25 inp K c _ _ _ _ _) $$ HP HO Y12 E12 m11 m21 W12 W22 Hv1 Hv2
  iintro %v25x %v25y %v25z %v25p %v25q F12 F22 HO T12
  iapply (seq c)
  iapply (part26 inp K c _ _ _ _ _ _) $$ HP HO U00
  iintro  HO V00
  iapply (seq c)
  iapply (part27 inp K c _) $$ HP HO U01 U02 HT MC
  iintro  HT MCf HO V01 V02
  iapply (seq c)
  iapply (part28 inp K c _) $$ HP HO MCf K0 V00 V01 V02 MO F12 F22
  iintro  Hv1 Hv2 J0 MC O0 HO W12 W22 m12 m22 v0
  iapply (seq c)
  iapply (part29 inp K c _) $$ HP HO A20 A21
  iintro %v29x %v29y %v29z G20 G21 HO
  iapply (seq c)
  iapply (part30 inp K c _ _ _) $$ HP HO A22 R2 G20 G21 m12 m22 MH K2a
  iintro  K2 MH HO Q2 m12 m22 q2
  iapply (seq c)
  iapply (part31 inp K c _) $$ HP HO C2 E20
  iintro %v31x %v31y %v31z HO T20 Y21 Y22
  iapply (seq c)
  iapply (part32 inp K c _ _ _ _) $$ HP HO Y21 E21
  iintro  HO T21
  iapply (seq c)
  iapply (part33 inp K c _) $$ HP HO Y22 E22 m12 m22 W13 W23 Hv1 Hv2
  iintro  F13 F23 HO T22
  iapply (seq c)
  iapply (part34 inp K c _) $$ HP HO U10 U11
  iintro %v34x %v34y %v34z HO V10 V11
  iapply (seq c)
  iapply (part35 inp K c _ _ _) $$ HP HO U12 K1 V10 V11 HT MC O0
  iintro  HT J1 MC O1 HO v1
  iapply (seq c)
  iapply (part36 inp K c _) $$ HP HO F13 F23 A30
  iintro %v36x %v36y G30 Hv1 Hv2 HO W13 W23 m13 m23
  iapply (seq c)
  iapply (part37 inp K c _ _ _) $$ HP HO A31
  iintro  G31 HO
  iapply (seq c)
  iapply (part38 inp K c _) $$ HP HO A32 R3 G30 G31 m13 m23 MH K3a C3
  iintro %v38x %v38y K3 MH HO Q3 Y30 Y31 Y32 m13 m23 q3
  iapply (seq c)
  iapply (part39 inp K c _ _ _) $$ HP HO Y30 E30
  iintro %v39x HO T30
  iapply (seq c)
  iapply (part40 inp K c _ _) $$ HP HO Y31 E31 Y32 E32
  iintro %v40x %v40y HO T31 T32
  iapply (seq c)
  iapply (part41 inp K c _ _ _) $$ HP HO U20
  iintro %v41x %v41y HO V20
  iapply (seq c)
  iapply (part42 inp K c _ _ _) $$ HP HO U21 U22 HT
  iintro  HT HO V21 V22
  iapply (seq c)
  iapply (part43 inp K c _) $$ HP K2 V20 V21 V22 MC O1
  iintro  J2 MC O2 v2
  iapply (seq c)
  iapply (part44 inp K c _) $$ HP HO U30 U31
  iintro %v44x HO V30 V31
  iapply (seq c)
  iapply (part45 inp K c _ _) $$ HP HO U32 K3 V30 V31 HT MC O2
  iintro %v45x %v45y %v45z HT J3 MC O3 HO v3
  iapply (seq c)
  iapply (part46 inp K c _ _ _ _) $$ HP HO S00
  iintro  L00 HO
  iapply (seq c)
  iapply (part47 inp K c _) $$ HP HO T00 S01
  iintro  L01 M00 HO
  iapply (seq c)
  iapply (part48 inp K c _) $$ HP HO T01 S02
  iintro %v48x %v48y %v48z L02 M01 HO
  iapply (seq c)
  iapply (part49 inp K c _ _ _ _) $$ HP HO T02 S10
  iintro  L10 M02 HO
  iapply (seq c)
  iapply (part50 inp K c _) $$ HP HO T10
  iintro  M10 HO
  iapply (seq c)
  iapply (part51 inp K c _) $$ HP HO S11 T11
  iintro %v51x %v51y %v51z %v51p L11 M11 HO
  iapply (seq c)
  iapply (part52 inp K c _ _ _ _ _) $$ HP HO S12 T12
  iintro %v52x %v52y %v52z L12 M12 HO
  iapply (seq c)
  iapply (part53 inp K c _ _ _ _) $$ HP HO S20
  iintro  L20 HO
  iapply (seq c)
  iapply (part54 inp K c _) $$ HP HO T20 S21
  iintro  L21 M20 HO
  iapply (seq c)
  iapply (part55 inp K c _) $$ HP HO T21 S22
  iintro %v55x %v55y %v55z L22 M21 HO
  iapply (seq c)
  iapply (part56 inp K c _ _ _ _) $$ HP HO T22 S30
  iintro  L30 M22 HO
  iapply (seq c)
  iapply (part57 inp K c _) $$ HP HO T30
  iintro  M30 HO
  iapply (seq c)
  iapply (part58 inp K c _) $$ HP HO S31 T31
  iintro %v58x %v58y %v58z %v58p L31 M31 HO
  iapply (fin c)
  iapply Hk $$ HP HS HT HX Hbv Hv1 Hv2 J0 J1 J2 J3 L00 L01 L02 L10 L11 L12 L20 L21 L22 L30 L31 M00 M01 M02 M10 M11 M12 M20 M21 M22 M30 M31 MC MH O3 HO PJ Q0 Q1 Q2 Q3 S32 T32 W10 W11 W12 W13 W20 W21 W22 W23 Z1 Z2 Z3 m13 m23 q0 q1 q2 q3 v0 v1 v2 v3

end Cert.KernelProof
-- ==== Proof.Scratch.lean ====
/-
  The whole body on one device: the scratch buffers cut into the windows the walk takes, and put together again after it;
  the two weight blocks cut into the experts' matrices.
-/
module

public import proofs.«01_k».proof.Proof.Walk

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families gathered -/

theorem gather3 (f : Fin 3 → sProp 𝕄) : ⊢ iprop(f 0 -∗ f 1 -∗ f 2 -∗ bigSep Finset.univ f) := by
  rw [Idealize.ShloMosaic.Ring.bigSep_fin3]
  iintro A B C
  isplitl [A]; · iexact A
  isplitl [B]; · iexact B
  iexact C

theorem gather4 (f : Fin 4 → sProp 𝕄) : ⊢ iprop(f 0 -∗ f 1 -∗ f 2 -∗ f 3 -∗ bigSep Finset.univ f) := by
  rw [Idealize.ShloMosaic.Ring.bigSep_fin4]
  iintro A B C D
  isplitl [A]; · iexact A
  isplitl [B]; · iexact B
  isplitl [C]; · iexact C
  iexact D

theorem gather43 (f : Fin 4 → Fin 3 → sProp 𝕄) : ⊢ iprop(f 0 0 -∗ f 0 1 -∗ f 0 2 -∗ f 1 0 -∗ f 1 1 -∗ f 1 2 -∗ f 2 0 -∗ f 2 1 -∗ f 2 2 -∗ f 3 0 -∗ f 3 1 -∗ f 3 2 -∗ bigSep Finset.univ fun j => bigSep Finset.univ fun k => f j k) := by
  iintro A00 A01 A02 A10 A11 A12 A20 A21 A22 A30 A31 A32
  ihave B0 := (gather3 (f 0)) $$ A00 A01 A02
  ihave B1 := (gather3 (f 1)) $$ A10 A11 A12
  ihave B2 := (gather3 (f 2)) $$ A20 A21 A22
  ihave B3 := (gather3 (f 3)) $$ A30 A31 A32
  iapply (gather4 fun j => bigSep Finset.univ (f j)) $$ B0 B1 B2 B3

/-- One window beside three, over the experts. -/
theorem one_three (T : Fin 4 → sProp 𝕄) (a : Fin 4 → Fin 3 → sProp 𝕄) : (bigSep Finset.univ fun j => iprop(T j ∗ a j 0 ∗ a j 1 ∗ a j 2))
    = iprop(bigSep Finset.univ T ∗ bigSep Finset.univ fun j => bigSep Finset.univ fun k => a j k) :=
  (bigSep_congr fun j _ => congrArg (fun x : sProp 𝕄 => iprop(T j ∗ x)) (Idealize.ShloMosaic.Ring.bigSep_fin3 (a j)).symm).trans (bigSep_sep _ _ _)

/-! ## Buffers whole -/

section Full
variable {sp : Space} {s : Shape} {e : EltTy}

theorem set_full (v : View sig .tc sp s e) {off : Fin s.rank → ℕ} (h0 : ∀ a, off a = 0)
    (inb : ∀ a, off a + s.size a ≤ s.size a) : (v.slice (Rect.unit (s := s) off s.size inb)).set = v.set := by
  have he : ∀ x : s.Idx, (Rect.unit (s := s) off s.size inb).emb x = x := by
    intro x; funext a; apply Fin.ext
    rw [Rect.emb_apply]
    show off a + 1 * (x a).val = (x a).val
    rw [h0]; omega
  ext z
  simp only [View.set, Finset.mem_map, Finset.mem_univ, _root_.true_and]
  constructor
  · rintro ⟨x, rfl⟩
    exact ⟨_, rfl⟩
  · rintro ⟨x, rfl⟩
    exact ⟨x, congrArg v.emb (he x)⟩

theorem Any_full (c : Dev nD) (m : Memref sig .tc sp s e) (hm : m.view.set = Finset.univ) {off : Fin s.rank → ℕ} (h0 : ∀ a, off a = 0)
    (inb : ∀ a, off a + s.size a ≤ s.size a) :
    AnyB (F := F) c m = Any c (m.access (Rect.unit (s := s) off s.size inb)) := by
  show AnyS c m.view Finset.univ = AnyS c m.view (m.view.slice (Rect.unit (s := s) off s.size inb)).set
  rw [set_full m.view h0 inb, hm]

theorem Hd_full (c : Dev nD) (m : Memref sig .tc sp s e) (hm : m.view.set = Finset.univ) {off : Fin s.rank → ℕ} (h0 : ∀ a, off a = 0)
    (inb : ∀ a, off a + s.size a ≤ s.size a) (w : s.Idx → Elt F e) :
    HdB (F := F) c m w = Hd c (m.access (Rect.unit (s := s) off s.size inb)) w := by
  show HdS c m.view Finset.univ w = HdS c (m.view.slice (Rect.unit (s := s) off s.size inb)) (m.view.slice (Rect.unit (s := s) off s.size inb)).set w
  rw [HdS_full c m.view h0 inb, set_full m.view h0 inb, hm]

end Full

theorem z2 : ∀ a, (![0, 0] : Fin 2 → ℕ) a = 0 := by decide
theorem z3 : ∀ a, (![0, 0, 0] : Fin 3 → ℕ) a = 0 := by decide
theorem z4 : ∀ a, (![0, 0, 0, 0] : Fin 4 → ℕ) a = 0 := by decide

abbrev mA : Memref sig .tc .vmem S2560x1024 .bf16 := Memref.whole cc0_scratch2
abbrev mB : Memref sig .tc .vmem S4x4x160x1024 .bf16 := Memref.whole cc0_scratch3
abbrev mR : Memref sig .tc .vmem S4x3x160x1024 .bf16 := Memref.whole cc0_scratch4
abbrev mG : Memref sig .tc .vmem S2560x1024 .bf16 := Memref.whole cc0_scratch5
abbrev mW1 : Memref sig .tc .hbm S4x1024x2048 .f32 := Memref.whole main_arg2
abbrev mW2 : Memref sig .tc .hbm S4x2048x1024 .f32 := Memref.whole main_arg3

theorem blocks2 (c : Dev nD) : AnyB (F := F) c mA = bigSep Finset.univ fun j => Any c (mA.access (blkR j)) :=
  (Any_full c mA (View.set_whole _) z2 inb_all).trans (all_any mA c)
theorem blocks5 (c : Dev nD) : AnyB (F := F) c mG = bigSep Finset.univ fun j => Any c (mG.access (blkR j)) :=
  (Any_full c mG (View.set_whole _) z2 inb_all).trans (all_any mG c)
theorem blocks3 (c : Dev nD) : AnyB (F := F) c mB = bigSep Finset.univ fun j => Any c (mB.access (boxR j)) :=
  (Any_full c mB (View.set_whole _) z4 inb_boxes).trans (boxes_any c mB)
theorem blocks4 (c : Dev nD) : AnyB (F := F) c mR = bigSep Finset.univ fun j => Any c (mR.access (cmpR j)) :=
  (Any_full c mR (View.set_whole _) z4 inb_cmps).trans (cmps_any c mR)

theorem split2 (c : Dev nD) : AnyB (F := F) c mA = iprop((bigSep Finset.univ fun j => Any c (mA.access (rowR j 0)))
    ∗ bigSep Finset.univ fun j => bigSep Finset.univ fun k => Any c (xsM j k).view) :=
  ((blocks2 c).trans (bigSep_congr fun j _ => rows_any mA c j)).trans (one_three (fun j => Any c (mA.access (rowR j 0))) (fun j k => Any c (xsM j k).view))
theorem split5 (c : Dev nD) : AnyB (F := F) c mG = iprop((bigSep Finset.univ fun j => Any c (mG.access (rowR j 0)))
    ∗ bigSep Finset.univ fun j => bigSep Finset.univ fun k => Any c (rrM j k).view) :=
  ((blocks5 c).trans (bigSep_congr fun j _ => rows_any mG c j)).trans (one_three (fun j => Any c (mG.access (rowR j 0))) (fun j k => Any c (rrM j k).view))
theorem split3 (c : Dev nD) : AnyB (F := F) c mB = iprop((bigSep Finset.univ fun j => Any c (mB.access (tileR j 0)))
    ∗ bigSep Finset.univ fun j => bigSep Finset.univ fun k => Any c (recvM j k).view) :=
  ((blocks3 c).trans (bigSep_congr fun j _ => box_any c j)).trans (one_three (fun j => Any c (mB.access (tileR j 0))) (fun j k => Any c (recvM j k).view))
theorem split4 (c : Dev nD) : AnyB (F := F) c mR = bigSep Finset.univ fun j => bigSep Finset.univ fun k => Any c (rcM j k).view :=
  (blocks4 c).trans (bigSep_congr fun j _ => (cmp_any c j).trans (Idealize.ShloMosaic.Ring.bigSep_fin3 fun k => Any c (rcM j k).view).symm)

/-- The send buffer, as the walk takes it. -/
theorem open2 (c : Dev nD) : AnyB (F := F) c mA = iprop((Any c (mA.access (rowR 0 0)) ∗ Any c (xsM 0 0).view ∗ Any c (xsM 0 1).view ∗ Any c (xsM 0 2).view)
    ∗ Any c (mA.access (blkR 1)) ∗ Any c (mA.access (blkR 2)) ∗ Any c (mA.access (blkR 3))) :=
  ((blocks2 c).trans (Idealize.ShloMosaic.Ring.bigSep_fin4 _)).trans (sep4_eq (rows_any mA c 0) rfl rfl rfl)

/-- The landing windows go to the three devices that write them. -/
theorem signals (c : Dev nD) : ⊢ iprop((bigSep Finset.univ fun j => bigSep Finset.univ fun k => Any (F := F) c (recvM j k).view)
    -∗ (bigSep Finset.univ fun j => bigSep Finset.univ fun k => Any (F := F) c (rrM j k).view)
    -∗ (bigSep Finset.univ fun k : Fin 3 => dutyTok ER (cell (fwd c k) none) 0 k) -∗ (sigRes c 0 ∗ sigRes c 1 ∗ sigRes c 2) : sProp 𝕄) := by
  have h : iprop((bigSep Finset.univ fun k : Fin 3 => (dutyTok ER (cell (fwd c k) none) 0 k : sProp 𝕄))
      ∗ (bigSep Finset.univ fun j => bigSep Finset.univ fun k => Any (F := F) c (recvM j k).view)
      ∗ (bigSep Finset.univ fun j => bigSep Finset.univ fun k => Any (F := F) c (rrM j k).view))
      ⊢ iprop(sigRes c 0 ∗ sigRes c 1 ∗ sigRes c 2) := by
    rw [← swap34_rev (fun k j => Any (F := F) c (recvM j k).view) (fun k j => Any (F := F) c (rrM j k).view)]
    exact Entails.of_eq (((bigSep_sep _ _ _).symm).trans (Idealize.ShloMosaic.Ring.bigSep_fin3 fun k => sigRes c k))
  iintro A B C
  iapply h
  isplitl [C]; · iexact C
  isplitl [A]; · iexact A
  iexact B

/-- Departures waited for: the windows, and the counters at rest. -/
theorem lefts0 (c : Dev nD) : (bigSep Finset.univ fun j => bigSep Finset.univ fun k => left (F := F) 0 c j k)
    = iprop((bigSep Finset.univ fun j => bigSep Finset.univ fun k => Any c (xsM j k).view)
      ∗ bigSep Finset.univ fun j : Fin 4 => bigSep Finset.univ fun k : Fin 3 => semVal (cell c (some (0, j, k))) 0) :=
  (bigSep_congr fun j _ => (bigSep_congr fun k _ => by unfold left; rw [if_pos rfl]; rfl).trans (bigSep_sep _ _ _)).trans (bigSep_sep _ _ _)
theorem lefts2 (c : Dev nD) : (bigSep Finset.univ fun j => bigSep Finset.univ fun k => left (F := F) 2 c j k)
    = iprop((bigSep Finset.univ fun j => bigSep Finset.univ fun k => Any c (rcM j k).view)
      ∗ bigSep Finset.univ fun j : Fin 4 => bigSep Finset.univ fun k : Fin 3 => semVal (cell c (some (2, j, k))) 0) :=
  (bigSep_congr fun j _ => (bigSep_congr fun k _ => by unfold left; rw [if_neg (by decide)]; rfl).trans (bigSep_sep _ _ _)).trans (bigSep_sep _ _ _)
theorem svs (q : Fin 4) (c : Dev nD) : (bigSep Finset.univ fun j => sv (F := F) q c j)
    = bigSep Finset.univ fun j : Fin 4 => bigSep Finset.univ fun k : Fin 3 => semVal (cell c (some (q, j, k))) 0 :=
  bigSep_congr fun j _ => (Idealize.ShloMosaic.Ring.bigSep_fin3 fun k => (semVal (cell c (some (q, j, k))) 0 : sProp 𝕄)).symm

/-! ## The weights -/

theorem squeeze1 (h : S1024x2048.numel = S1x1024x2048.numel) (y : S1024x2048.Idx) :
    Shape.reshapeEquiv h y = ix3 (⟨0, Nat.one_pos⟩ : Fin 1) (y 0) (y 1) :=
  (congrArg (Shape.reshapeEquiv h) (eq_ix2 y)).trans (reshapeEquiv_ix2_1ab _ (y 0) (y 1))
theorem squeeze2 (h : S2048x1024.numel = S1x2048x1024.numel) (y : S2048x1024.Idx) :
    Shape.reshapeEquiv h y = ix3 (⟨0, Nat.one_pos⟩ : Fin 1) (y 0) (y 1) :=
  (congrArg (Shape.reshapeEquiv h) (eq_ix2 y)).trans (reshapeEquiv_ix2_1ab _ (y 0) (y 1))

theorem ix3_val {a b d : ℕ} (x x' : (⟨3, ![a, b, d]⟩ : Shape).Idx) (h0 : (x 0).val = (x' 0).val) (h1 : (x 1).val = (x' 1).val)
    (h2 : (x 2).val = (x' 2).val) : x = x' := by
  funext i; apply Fin.ext; match i with
  | 0 => exact h0
  | 1 => exact h1
  | 2 => exact h2

theorem inb_w1s : ∀ a, (![0, 0, 0] : Fin 3 → ℕ) a + S4x1024x2048.size a ≤ S4x1024x2048.size a := by
  intro a; rw [z3]; omega
theorem inb_w2s : ∀ a, (![0, 0, 0] : Fin 3 → ℕ) a + S4x2048x1024.size a ≤ S4x2048x1024.size a := by
  intro a; rw [z3]; omega

variable (inp : Dev nD → In F)

theorem weights1 (c : Dev nD) : HdB c mW1 (inp c).w1 = bigSep Finset.univ (Wh1 inp c) := by
  refine (Hd_full c mW1 (View.set_whole _) z3 inb_w1s _).trans ?_
  refine (Hd_slices c mW1.view (Rect.unit (s := S4x1024x2048) ![0, 0, 0] S4x1024x2048.size inb_w1s) w1R
    (fun j (z : S1x1024x2048.Idx) => (ix3 j (z 1) (z 2) : S4x1024x2048.Idx))
    (fun j z => by
      have h0 : (z 0).val < 1 := (z 0).isLt
      exact ix3_val _ _ (show j.val + 1 * (z 0).val = 0 + 1 * j.val by omega) rfl rfl)
    (fun z => ⟨z 0, ix3 (0 : Fin 1) (z 1) (z 2), ix3_val _ _ rfl rfl rfl⟩)
    (fun j j' z z' h => congrArg (fun z : S4x1024x2048.Idx => z 0) h) (inp c).w1).trans ?_
  refine bigSep_congr fun j _ => ?_
  unfold Wh1
  refine (Hd_reshape c _ squeezes_S1x1024x2048_S1024x2048.numel_eq _).trans ?_
  congr 1
  funext y
  rw [squeeze1]
  rfl
theorem weights2 (c : Dev nD) : HdB c mW2 (inp c).w2 = bigSep Finset.univ (Wh2 inp c) := by
  refine (Hd_full c mW2 (View.set_whole _) z3 inb_w2s _).trans ?_
  refine (Hd_slices c mW2.view (Rect.unit (s := S4x2048x1024) ![0, 0, 0] S4x2048x1024.size inb_w2s) w2R
    (fun j (z : S1x2048x1024.Idx) => (ix3 j (z 1) (z 2) : S4x2048x1024.Idx))
    (fun j z => by
      have h0 : (z 0).val < 1 := (z 0).isLt
      exact ix3_val _ _ (show j.val + 1 * (z 0).val = 0 + 1 * j.val by omega) rfl rfl)
    (fun z => ⟨z 0, ix3 (0 : Fin 1) (z 1) (z 2), ix3_val _ _ rfl rfl rfl⟩)
    (fun j j' z z' h => congrArg (fun z : S4x2048x1024.Idx => z 0) h) (inp c).w2).trans ?_
  refine bigSep_congr fun j _ => ?_
  unfold Wh2
  refine (Hd_reshape c _ squeezes_S1x2048x1024_S2048x1024.numel_eq _).trans ?_
  congr 1
  funext y
  rw [squeeze2]
  rfl

end Cert.KernelProof
-- ==== Proof.Body.lean ====
/-
  The body on one device, from the buffers and tokens it is entered with to what it leaves.
-/
module

public import proofs.«01_k».proof.Proof.Scratch

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (inp : Dev nD → In F)

/-- The scratch buffers, at any contents. -/
def scratch (c : Dev nD) : sProp 𝕄 :=
  iprop(AnyB c mP ∗ AnyB c mC ∗ AnyB c mA ∗ AnyB c mB ∗ AnyB c mR ∗ AnyB c mG ∗ AnyB c m1 ∗ AnyB c m2 ∗ AnyB c mH)

/-- The two weight blocks in HBM. -/
def weights (c : Dev nD) : sProp 𝕄 := iprop(HdB c mW1 (inp c).w1 ∗ HdB c mW2 (inp c).w2)

/-- The staged operands. -/
def staged (c : Dev nD) : sProp 𝕄 := iprop(HdB c mX (inp c).x ∗ HdB c mS (inp c).sl ∗ HdB c mT (inp c).st)

/-- The tokens the device's steps spend. -/
def tokens (c : Dev nD) : sProp 𝕄 :=
  iprop((bigSep Finset.univ fun k : Fin 3 => dutyTok ER (cell (fwd c k) none) 0 k) ∗ waitRes c none 3
    ∗ (bigSep Finset.univ fun j : Fin 4 => bigSep Finset.univ fun k : Fin 3 => dispTok (F := F) c j k)
    ∗ (bigSep Finset.univ fun j : Fin 4 => bigSep Finset.univ fun k : Fin 3 => retTok (F := F) c j k)
    ∗ (bigSep Finset.univ fun j : Fin 4 => bigSep Finset.univ fun k : Fin 3 => waitRes (F := F) c (some (1, j, k)) N)
    ∗ (bigSep Finset.univ fun j : Fin 4 => bigSep Finset.univ fun k : Fin 3 => waitRes (F := F) c (some (3, j, k)) N))

/-- The device's counters at rest. -/
def rest (c : Dev nD) : sProp 𝕄 :=
  iprop(semVal (cell c none) 0 ∗ bigSep Finset.univ fun q : Fin 4 => bigSep Finset.univ fun j : Fin 4 => bigSep Finset.univ fun k : Fin 3 => semVal (cell c (some (q, j, k))) 0)

/-- The buffers put together again. -/
theorem close2 (c : Dev nD) : ⊢ iprop(Any (F := F) c (mA.access (rowR 0 0)) -∗ Any c (mA.access (rowR 1 0)) -∗ Any c (mA.access (rowR 2 0)) -∗ Any c (mA.access (rowR 3 0))
    -∗ (bigSep Finset.univ fun j : Fin 4 => bigSep Finset.univ fun k : Fin 3 => left (F := F) 0 c j k)
    -∗ (AnyB c mA ∗ (bigSep Finset.univ fun j : Fin 4 => bigSep Finset.univ fun k : Fin 3 => semVal (cell c (some (0, j, k))) 0)) : sProp 𝕄) := by
  rw [lefts0, split2]
  iintro Z0 Z1 Z2 Z3 ⟨A, S⟩
  isplitr [S]
  · isplitr [A]
    · iapply (gather4 fun j => Any (F := F) c (mA.access (rowR j 0))) $$ Z0 Z1 Z2 Z3
    · iexact A
  · iexact S

theorem close4 (c : Dev nD) : (bigSep Finset.univ fun j : Fin 4 => bigSep Finset.univ fun k : Fin 3 => left (F := F) 2 c j k)
    ⊢ iprop(AnyB c mR ∗ (bigSep Finset.univ fun j : Fin 4 => bigSep Finset.univ fun k : Fin 3 => semVal (cell c (some (2, j, k))) 0)) := by
  rw [lefts2, split4]

theorem close3 (c : Dev nD) : ⊢ iprop(Hd c (mB.access (boxR 0)) (box inp c 0) -∗ Hd c (mB.access (boxR 1)) (box inp c 1) -∗ Hd c (mB.access (boxR 2)) (box inp c 2) -∗ Hd c (mB.access (boxR 3)) (box inp c 3) -∗ AnyB c mB) := by
  rw [blocks3]
  iintro Q0 Q1 Q2 Q3
  iapply (gather4 fun j => Any (F := F) c (mB.access (boxR j))) $$ [Q0] [Q1] [Q2] [Q3]
  · iapply (HdS_any (F := F) c (mB.access (boxR 0)) _ _) $$ Q0
  · iapply (HdS_any (F := F) c (mB.access (boxR 1)) _ _) $$ Q1
  · iapply (HdS_any (F := F) c (mB.access (boxR 2)) _ _) $$ Q2
  · iapply (HdS_any (F := F) c (mB.access (boxR 3)) _ _) $$ Q3

theorem close5 (c : Dev nD) : ⊢ iprop(Hd c (mG.access (blkR 0)) (gat inp c 0) -∗ Hd c (mG.access (blkR 1)) (gat inp c 1) -∗ Hd c (mG.access (blkR 2)) (gat inp c 2) -∗ Hd c (mG.access (blkR 3)) (gat inp c 3) -∗ AnyB c mG) := by
  rw [blocks5]
  iintro Q0 Q1 Q2 Q3
  iapply (gather4 fun j => Any (F := F) c (mG.access (blkR j))) $$ [Q0] [Q1] [Q2] [Q3]
  · iapply (HdS_any (F := F) c (mG.access (blkR 0)) _ _) $$ Q0
  · iapply (HdS_any (F := F) c (mG.access (blkR 1)) _ _) $$ Q1
  · iapply (HdS_any (F := F) c (mG.access (blkR 2)) _ _) $$ Q2
  · iapply (HdS_any (F := F) c (mG.access (blkR 3)) _ _) $$ Q3

/-- A part that is one operation and then the rest. -/
theorem one {α : Type} {Q : α → sProp 𝕄} (c : Dev nD) {X : Type} (o : TpuEff nD τ sig (Elt F) Λ₀ .tc X) (f : X → Prog (TpuEff nD τ sig (Elt F) Λ₀ .tc) α) :
    ⊢ iprop(Wp c (.op o f) Q -∗ Wp c (Prog.lift o >>= f) Q) := by
  iintro H
  iexact H

theorem body {Q : PUnit → sProp 𝕄} (K : Dev nD × PX → ℕ) (c : Dev nD) :
    ⊢ iprop(Start inp K c -∗ owesE c (owed c 0) -∗ tokens c -∗ staged inp c -∗ AnyB c mO -∗ scratch c -∗ weights inp c -∗ wv c 0 -∗ wv c 1
      -∗ (owesE c 0 -∗ staged inp c -∗ HdB c mO (out3 inp c) -∗ scratch c -∗ weights inp c -∗ wv c 0 -∗ wv c 1 -∗ rest c -∗ Q ⟨⟩)
      -∗ Wp c (onBufs (cc0__body (F := F))) Q) := by
  unfold onBufs
  rw [cc0__body_eq_skeleton]
  unfold cc0__body_skel tokens staged scratch weights
  iintro #H0 Ot0 ⟨Db, Hw, DT, ET, TA, TU⟩ ⟨HX, HS, HT⟩ MO ⟨PJ, MC, GA, GB, GR, GG, M1, M2, MH⟩ ⟨G1, G2⟩ Hv1 Hv2 Hk
  ihave GA := (Entails.of_eq (open2 (F := F) c)) $$ GA
  icases GA with ⟨⟨Z0, X00a, X01a, X02a⟩, B1, B2, B3⟩
  ihave GB := (Entails.of_eq (split3 (F := F) c)) $$ GB
  icases GB with ⟨RT, RV⟩
  ihave RT := (Entails.of_eq (Idealize.ShloMosaic.Ring.bigSep_fin4 fun j => Any (F := F) c (mB.access (tileR j 0)))) $$ RT
  icases RT with ⟨R0a, R1a, R2a, R3a⟩
  ihave GG := (Entails.of_eq (split5 (F := F) c)) $$ GG
  icases GG with ⟨KT, KV⟩
  ihave KT := (Entails.of_eq (Idealize.ShloMosaic.Ring.bigSep_fin4 fun j => Any (F := F) c (mG.access (rowR j 0)))) $$ KT
  icases KT with ⟨K0a, K1a, K2a, K3a⟩
  ihave GR := (Entails.of_eq ((blocks4 (F := F) c).trans (Idealize.ShloMosaic.Ring.bigSep_fin4 _))) $$ GR
  icases GR with ⟨C0, C1, C2, C3⟩
  ihave SG := (signals (F := F) c) $$ RV KV Db
  icases SG with ⟨s0, s1, s2⟩
  ihave G1 := (Entails.of_eq ((weights1 inp c).trans (Idealize.ShloMosaic.Ring.bigSep_fin4 _))) $$ G1
  icases G1 with ⟨W10, W11, W12, W13⟩
  ihave G2 := (Entails.of_eq ((weights2 inp c).trans (Idealize.ShloMosaic.Ring.bigSep_fin4 _))) $$ G2
  icases G2 with ⟨W20, W21, W22, W23⟩
  ihave TA := (Entails.of_eq (open43 fun j k => waitRes (F := F) c (some (1, j, k)) N)) $$ TA
  icases TA with ⟨⟨A00, A01, A02⟩, ⟨A10, A11, A12⟩, ⟨A20, A21, A22⟩, ⟨A30, A31, A32⟩⟩
  ihave TU := (Entails.of_eq (open43 fun j k => waitRes (F := F) c (some (3, j, k)) N)) $$ TU
  icases TU with ⟨⟨U00, U01, U02⟩, ⟨U10, U11, U12⟩, ⟨U20, U21, U22⟩, ⟨U30, U31, U32⟩⟩
  iapply (seq c)
  iapply (walk inp K c) $$ H0 Ot0 s0 s1 s2 Hw DT ET A00 A01 A02 A10 A11 A12 A20 A21 A22 A30 A31 A32 U00 U01 U02 U10 U11 U12 U20 U21 U22 U30 U31 U32 HX HS HT MO PJ MC MH M1 M2 Hv1 Hv2 W10 W11 W12 W13 W20 W21 W22 W23 X00a X01a X02a B1 B2 B3 R0a R1a R2a R3a K0a K1a K2a K3a C0 C1 C2 C3
  iintro %w #HP HS HT HX Hbv Hv1 Hv2 J0 J1 J2 J3 L00 L01 L02 L10 L11 L12 L20 L21 L22 L30 L31 M00 M01 M02 M10 M11 M12 M20 M21 M22 M30 M31 MC MH O3 Ot27 PJ Q0 Q1 Q2 Q3 S32 T32 W10 W11 W12 W13 W20 W21 W22 W23 Z1 Z2 Z3 m13 m23 q0 q1 q2 q3 v0 v1 v2 v3
  iapply (one c)
  iapply (sent inp K c 3 2 rfl) $$ HP S32 Ot27
  iintro ⟨L32, Ot27⟩
  iapply (one c)
  iapply (returned inp K c 3 2 rfl) $$ HP T32 Ot27
  iintro ⟨M32, Ot27⟩
  iapply (fin c)
  ihave LL := (gather43 fun j k => left (F := F) 0 c j k) $$ L00 L01 L02 L10 L11 L12 L20 L21 L22 L30 L31 L32
  ihave LM := (gather43 fun j k => left (F := F) 2 c j k) $$ M00 M01 M02 M10 M11 M12 M20 M21 M22 M30 M31 M32
  ihave F2 := (close2 c) $$ Z0 Z1 Z2 Z3 LL
  icases F2 with ⟨GA, S0⟩
  ihave F4 := (close4 c) $$ LM
  icases F4 with ⟨GR, S2⟩
  ihave GB := (close3 inp c) $$ Q0 Q1 Q2 Q3
  ihave GG := (close5 inp c) $$ J0 J1 J2 J3
  ihave S1 := (gather4 fun j => sv (F := F) 1 c j) $$ q0 q1 q2 q3
  ihave S1 := (Entails.of_eq (svs (F := F) 1 c)) $$ S1
  ihave S3 := (gather4 fun j => sv (F := F) 3 c j) $$ v0 v1 v2 v3
  ihave S3 := (Entails.of_eq (svs (F := F) 3 c)) $$ S3
  ihave SS := (gather4 fun q => (bigSep Finset.univ fun j : Fin 4 => bigSep Finset.univ fun k : Fin 3 => (semVal (cell c (some (q, j, k))) 0 : sProp 𝕄))) $$ S0 S1 S2 S3
  ihave G1 := (gather4 (Wh1 inp c)) $$ W10 W11 W12 W13
  ihave G1 := (Entails.of_eq (weights1 inp c).symm) $$ G1
  ihave G2 := (gather4 (Wh2 inp c)) $$ W20 W21 W22 W23
  ihave G2 := (Entails.of_eq (weights2 inp c).symm) $$ G2
  ihave M1 := (HdS_any (F := F) c m1.view _ _) $$ m13
  ihave M2 := (HdS_any (F := F) c m2.view _ _) $$ m23
  iapply Hk $$ [Ot27] [HX HS HT] O3 [PJ MC GA GB GR GG M1 M2 MH] [G1 G2] Hv1 Hv2 [Hbv SS]
  · rw [owed_end]; iexact Ot27
  · isplitl [HX]; · iexact HX
    isplitl [HS]; · iexact HS
    iexact HT
  · isplitl [PJ]; · iexact PJ
    isplitl [MC]; · iexact MC
    isplitl [GA]; · iexact GA
    isplitl [GB]; · iexact GB
    isplitl [GR]; · iexact GR
    isplitl [GG]; · iexact GG
    isplitl [M1]; · iexact M1
    isplitl [M2]; · iexact M2
    iexact MH
  · isplitl [G1]; · iexact G1
    iexact G2
  · unfold rest
    isplitl [Hbv]; · iexact Hbv
    iexact SS

end Cert.KernelProof
-- ==== Proof.Ghost.lean ====
/-
  The kernel call on one device: what it is entered with, what it leaves.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

/-! ## Families over expert and partner -/

/-- One resource per expert and partner. -/
abbrev each (Φ : Fin 4 → Fin 3 → sProp 𝕄) : sProp 𝕄 := bigSep Finset.univ fun j => bigSep Finset.univ fun k => Φ j k

theorem each_sep (Φ Ψ : Fin 4 → Fin 3 → sProp 𝕄) : each (fun j k => iprop(Φ j k ∗ Ψ j k)) = iprop(each Φ ∗ each Ψ) :=
  (bigSep_congr fun _ _ => bigSep_sep _ _ _).trans (bigSep_sep _ _ _)

theorem each_kind (Φ : Fin 4 × Fin 4 × Fin 3 → sProp 𝕄) : bigSep Finset.univ Φ = bigSep Finset.univ fun q => each fun j k => Φ (q, j, k) :=
  (bigSep_univ_prod Φ).trans (bigSep_congr fun _ _ => bigSep_univ_prod _)

/-- A step at every member of a family. -/
theorem bigSep_step {I : Type} [DecidableEq I] (S : Finset I) {R : sProp 𝕄} [BI.Persistent R] {Φ Ψ : I → sProp 𝕄}
    (h : ∀ i, iprop(R ∗ Φ i) ⊢ (|={Set.univ}=> Ψ i : sProp 𝕄)) : iprop(R ∗ bigSep S Φ) ⊢ (|={Set.univ}=> bigSep S Ψ : sProp 𝕄) := by
  induction S using Finset.induction_on with
  | empty =>
    rw [bigSep_empty, bigSep_empty]
    iintro ⟨-, H⟩
    imodintro
    iexact H
  | insert i S hi ih =>
    have e₁ : bigSep (insert i S) Φ = iprop(Φ i ∗ bigSep S Φ) := bigSep_insert hi
    have e₂ : bigSep (insert i S) Ψ = iprop(Ψ i ∗ bigSep S Ψ) := bigSep_insert hi
    rw [e₁, e₂]
    iintro ⟨#HR, Hi, HS⟩
    imod (h i) $$ [Hi] with Hi
    · isplitr; · iexact HR
      iexact Hi
    imod ih $$ [HS] with HS
    · isplitr; · iexact HR
      iexact HS
    imodintro
    isplitl [Hi] <;> iassumption

/-! ## Ghost state before and after the cells are opened -/

/-- What the device's tokens are made of, apart from its positions at its tile cells. -/
def duties (c : Dev nD) : sProp 𝕄 :=
  iprop((bigSep Finset.univ fun k : Fin 3 => dutyTok ER (cell (fwd c k) none) 0 k)
    ∗ (each fun j k => dutyTok ER (cell c (some (0, j, k))) 0 0) ∗ (each fun j k => dutyTok ER (cell (fwd c k) (some (1, j, k))) 0 0)
    ∗ (each fun j k => dutyTok ER (cell c (some (2, j, k))) 0 0) ∗ (each fun j k => dutyTok ER (cell (bwd c k) (some (3, j, k))) 0 0))

/-- The credit for what the device waits for. -/
def credits (c : Dev nD) : sProp 𝕄 :=
  iprop(cred (tallyAt (cell c none) () 3) ∗ (each fun j k => cred (tallyAt (cell c (some (1, j, k))) () N))
    ∗ (each fun j k => cred (tallyAt (cell c (some (3, j, k))) () N)))

theorem tokens_intro (c : Dev nD) : iprop(duties c ∗ credits c ∗ atPos ER (cell c none) 0 ∅ 0
      ∗ bigSep Finset.univ fun y : Fin 4 × Fin 4 × Fin 3 => atPos ER (cell c (some y)) 0 ∅ 0) ⊢ (tokens c : sProp 𝕄) := by
  have a : (bigSep Finset.univ fun y : Fin 4 × Fin 4 × Fin 3 => (atPos ER (cell c (some y)) 0 ∅ 0 : sProp 𝕄))
      = iprop((each fun j k => atPos ER (cell c (some (0, j, k))) 0 ∅ 0) ∗ (each fun j k => atPos ER (cell c (some (1, j, k))) 0 ∅ 0)
        ∗ (each fun j k => atPos ER (cell c (some (2, j, k))) 0 ∅ 0) ∗ (each fun j k => atPos ER (cell c (some (3, j, k))) 0 ∅ 0)) :=
    (each_kind _).trans (Idealize.ShloMosaic.Ring.bigSep_fin4 _)
  have d : (each fun j k => dispTok (F := F) c j k) = iprop((each fun j k => dutyTok ER (cell c (some (0, j, k))) 0 0)
      ∗ (each fun j k => dutyTok ER (cell (fwd c k) (some (1, j, k))) 0 0) ∗ (each fun j k => atPos ER (cell c (some (0, j, k))) 0 ∅ 0)) :=
    (each_sep (fun j k => dutyTok ER (cell c (some (0, j, k))) 0 0) _).trans (congrArg (fun x : sProp 𝕄 => iprop(_ ∗ x)) (each_sep _ _))
  have r : (each fun j k => retTok (F := F) c j k) = iprop((each fun j k => dutyTok ER (cell c (some (2, j, k))) 0 0)
      ∗ (each fun j k => dutyTok ER (cell (bwd c k) (some (3, j, k))) 0 0) ∗ (each fun j k => atPos ER (cell c (some (2, j, k))) 0 ∅ 0)) :=
    (each_sep (fun j k => dutyTok ER (cell c (some (2, j, k))) 0 0) _).trans (congrArg (fun x : sProp 𝕄 => iprop(_ ∗ x)) (each_sep _ _))
  have w (q : Fin 4) : (each fun j k => waitRes (F := F) c (some (q, j, k)) N) = iprop((each fun j k => cred (tallyAt (cell c (some (q, j, k))) () N))
      ∗ (each fun j k => atPos ER (cell c (some (q, j, k))) 0 ∅ 0)) := each_sep _ _
  have t : (tokens c : sProp 𝕄) = iprop((bigSep Finset.univ fun k : Fin 3 => dutyTok ER (cell (fwd c k) none) 0 k) ∗ waitRes c none 3
      ∗ (each fun j k => dispTok c j k) ∗ (each fun j k => retTok c j k) ∗ (each fun j k => waitRes c (some (1, j, k)) N)
      ∗ (each fun j k => waitRes c (some (3, j, k)) N)) := rfl
  unfold duties credits
  rw [t, a, d, r, w 1, w 3]
  unfold waitRes
  iintro ⟨⟨B, D0, D1, D2, D3⟩, ⟨C, C1, C3⟩, A, A0, A1, A2, A3⟩
  isplitl [B]; · iexact B
  isplitl [C A]
  · isplitl [C] <;> iassumption
  isplitl [D0 D1 A0]
  · isplitl [D0]; · iexact D0
    isplitl [D1] <;> iassumption
  isplitl [D2 D3 A2]
  · isplitl [D2]; · iexact D2
    isplitl [D3] <;> iassumption
  isplitl [C1 A1]
  · isplitl [C1] <;> iassumption
  isplitl [C3] <;> iassumption

variable (inp : Dev nD → In F)

/-- The invariants, and that the barrier cells are open. -/
def known (K : Dev nD × PX → ℕ) : sProp 𝕄 :=
  iprop((bigSep Finset.univ fun p : Dev nD × PX => cellInv ER (sched inp) (K p) (cell p.1 p.2))
    ∗ (bigSep Finset.univ fun d : Dev nD => reached ER (cell d none) 0))

instance known_persistent (K : Dev nD × PX → ℕ) : BI.Persistent (known inp K) := by unfold known; infer_instance

/-- Before: the tile cells may be opened. -/
def Tk (c : Dev nD) : sProp 𝕄 :=
  iprop((∃ K, known inp K) ∗ (atPos ER (cell c none) 0 ∅ 0 ∗ (bigSep Finset.univ fun y : Fin 4 × Fin 4 × Fin 3 => openTok ER (cell c (some y))) ∗ duties c) ∗ credits c)

/-- The call's semaphores that the protocol does not use. -/
def idle : (Fin 4 × Fin 4) ⊕ Fin 2 → SemLoc sig
  | .inl (q, j) => .dma (⟨4 + 16 * q.val + 4 * j.val, by have := q.isLt; have := j.isLt; show _ < 70; omega⟩ : Fin 70)
  | .inr i => .dma (ws i)

/-- The call's own semaphores. -/
def osem : (Fin 4 × Fin 4 × Fin 3) ⊕ ((Fin 4 × Fin 4) ⊕ Fin 2) → SemLoc sig
  | .inl y => semOf (some y)
  | .inr i => idle i

theorem osem_facts : Pipeline.OwnSemFacts spec0 osem := by decide +kernel

/-- The unused ones, at rest. -/
def idleSems (c : Dev nD) : sProp 𝕄 := bigSep Finset.univ fun p : Fin 4 × Fin 4 => semVal ((c : Thread nD τ), idle (.inl p)) 0

theorem ownSems_eq (c : Dev nD) : (Pipeline.ownSems0 osem c : sProp 𝕄)
    = iprop((bigSep Finset.univ fun y : Fin 4 × Fin 4 × Fin 3 => semVal (cell c (some y)) 0) ∗ idleSems c ∗ wv c 0 ∗ wv c 1) := by
  have h : (bigSep Finset.univ fun i : (Fin 4 × Fin 4) ⊕ Fin 2 => (semVal ((c : Thread nD τ), idle i) 0 : sProp 𝕄)) = iprop(idleSems c ∗ wv c 0 ∗ wv c 1) :=
    (bigSep_univ_sum _).trans (congrArg (fun x : sProp 𝕄 => iprop(idleSems c ∗ x)) (BI.bigSep_fin_two fun i : Fin 2 => (semVal ((c : Thread nD τ), idle (.inr i)) 0 : sProp 𝕄)))
  unfold Pipeline.ownSems0
  exact (bigSep_univ_sum _).trans (congrArg (fun x : sProp 𝕄 => iprop((bigSep Finset.univ fun y : Fin 4 × Fin 4 × Fin 3 => semVal (cell c (some y)) 0) ∗ x)) h)

/-- After: the tile cells are open. -/
def Xk (c : Dev nD) : sProp 𝕄 := iprop((∃ K, Start inp K c) ∗ tokens c ∗ idleSems c ∗ wv c 0 ∗ wv c 1)

theorem hopen (c : Dev nD) : iprop(Tk inp c ∗ Pipeline.ownSems0 osem c ∗ levAts L lv) ⊢ (|={Set.univ}=> Xk inp c : sProp 𝕄) := by
  rw [ownSems_eq]
  unfold Tk Xk
  iintro ⟨⟨⟨%K, #HK⟩, ⟨HatB, Hop, Hd⟩, Hc⟩, ⟨Hs, Hi⟩, #Hlev⟩
  have step : ∀ y : Fin 4 × Fin 4 × Fin 3, iprop(known inp K ∗ (openTok ER (cell c (some y)) ∗ semVal (cell c (some y)) 0))
      ⊢ (|={Set.univ}=> iprop(atPos ER (cell c (some y)) 0 ∅ 0 ∗ reached ER (cell c (some y)) 0) : sProp 𝕄) := by
    intro y
    unfold known
    iintro ⟨⟨HI, -⟩, Ho, Hv⟩
    iapply (Rounds.cell_open ER (sched inp) (g := cell c (some y)) (Set.mem_univ (K (c, some y))))
    isplitl [HI]
    · iapply (bigSep_out (c, some y) (fun p : Dev nD × PX => cellInv ER (sched inp) (K p) (cell p.1 p.2))); iexact HI
    isplitl [Ho] <;> iassumption
  imod (bigSep_step Finset.univ step) $$ [Hop Hs] with H
  · isplitr; · iexact HK
    rw [bigSep_sep']
    isplitl [Hop] <;> iassumption
  ihave H' := (Entails.of_eq (bigSep_sep' _ _ _)) $$ H
  icases H' with ⟨Hat, #Hr⟩
  imodintro
  isplitr
  · iexists K
    unfold Start known
    icases HK with ⟨#HI, #HB⟩
    isplitr; · iexact HI
    isplitr; · iexact HB
    isplitr
    · unfold ready; iexact Hr
    iexact Hlev
  isplitl [HatB Hd Hc Hat]
  · iapply (tokens_intro c)
    isplitl [Hd]; · iexact Hd
    isplitl [Hc]; · iexact Hc
    isplitl [HatB] <;> iassumption
  iexact Hi

end Cert.KernelProof
-- ==== Proof.Region.lean ====
/-
  The kernel call as a region of the program: its windows' contents, its body's obligation, and what it is entered with and
  leaves, from any contents of the buffers outside.
-/
module

public import proofs.«01_k».proof.Proof.Ghost

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (V : Dev nD → Valuation τ sig (Elt F))

/-- The kernel's operands, read off the buffers. -/
def inpOf (c : Dev nD) : In F where
  x := (Memref.whole main_v31).view.read (Elt F) (V c (Proc.devRef .tc main_v31))
  sl := (Memref.whole main_v32).view.read (Elt F) (V c (Proc.devRef .tc main_v32))
  st := (Memref.whole main_v33).view.read (Elt F) (V c (Proc.devRef .tc main_v33))
  w1 := (Memref.whole main_arg2).view.read (Elt F) (V c (Proc.devRef .tc main_arg2))
  w2 := (Memref.whole main_arg3).view.read (Elt F) (V c (Proc.devRef .tc main_arg3))

/-- The buffers after the call. -/
def Vout (c : Dev nD) : Valuation τ sig (Elt F) :=
  Function.update (V c) (Proc.devRef .tc main_v34) (out3 (inpOf V) c)

/-- What the body is entered with, its windows apart. -/
def entry (c : Dev nD) : sProp 𝕄 := iprop(Xk (inpOf V) c ∗ scratch c ∗ weights (inpOf V) c ∗ ∃ r, prngReg c r)

/-- What it leaves, its windows apart. -/
def exit (c : Dev nD) : sProp 𝕄 :=
  iprop(rest c ∗ idleSems c ∗ wv c 0 ∗ wv c 1 ∗ scratch c ∗ weights (inpOf V) c ∗ ∃ r, prngReg c r)

def dat (c : Dev nD) : Dat τ (Elt F) Unit ℕ UU ℕ cfg0 c where
  A w := V c (Proc.devRef .tc (Pipeline.arrRef spec0 w))
  after w _ := match w with
    | 0 => (inpOf V c).x
    | 1 => (inpOf V c).sl
    | 2 => (inpOf V c).st
    | 3 => out3 (inpOf V) c
    | ⟨_ + 4, h⟩ => absurd h (Nat.not_lt.2 (Nat.le_add_left _ _))
  Φ t := if t.val = 0 then entry V c else exit V c
  q _ := fullShare
  owed t := if t.val = 0 then owed c 0 else 0

def pdats : (p : Fin 1) → (c : Dev nD) → Dat τ (Elt F) Unit ℕ UU ℕ (cfgs p) c := fun _ c => dat V c

theorem owed_first (c : Dev nD) : (dat V c).owed t0_0.castSucc = owed c 0 := by
  show (if (t0_0.castSucc : Fin (cfg0.N + 1)).val = 0 then owed c 0 else 0) = owed c 0; exact if_pos rfl
theorem owed_last (c : Dev nD) : (dat V c).owed (Fin.last _) = 0 := by
  show (if (Fin.last cfg0.N).val = 0 then owed c 0 else 0) = 0
  rw [Fin.val_last, if_neg (by rw [show cfg0.N = 1 from N_0]; decide)]

theorem owes_in (c : Dev nD) (t : Fin (cfg0.N + 1)) (O : CellTallies nD τ sig Unit) (h : (dat V c).owed t = O) :
    owesE c O ⊢ ((dat V c).owesAt () t : sProp 𝕄) := by
  unfold owesE Dat.owesAt Pipeline.owesWithin Dat.bound
  rw [h]
  iintro ⟨%W, HO⟩
  iexists W
  isplitr
  · ipureintro; exact fun _ _ => Or.inl trivial
  iexact HO

theorem owes_out (c : Dev nD) (t : Fin (cfg0.N + 1)) (O : CellTallies nD τ sig Unit) (h : (dat V c).owed t = O) :
    ((dat V c).owesAt () t : sProp 𝕄) ⊢ owesE c O := by
  unfold owesE Dat.owesAt Pipeline.owesWithin
  rw [h]
  iintro ⟨%W, -, HO⟩
  iexists W
  iexact HO

section Whole

variable {sp : Space} {s : Shape} {e : EltTy}

omit [FloatOps F] in
/-- A buffer held whole is the windows library's form of it. -/
theorem owns_hd (c : Dev nD) (m : Memref sig .tc sp s e) (hm : m.view.set = Finset.univ) (X : s.Idx → Elt F e) :
    (owns (c : Thread nD τ) m fullShare X : sProp 𝕄) = HdB c m X := by
  unfold owns HdB HdS
  rw [hm]

end Whole

theorem setX : (mX).view.set = Finset.univ := View.set_whole _
theorem setS : (mS).view.set = Finset.univ := View.set_whole _
theorem setT : (mT).view.set = Finset.univ := View.set_whole _
theorem setO : (mO).view.set = Finset.univ := View.set_whole _

/-- A whole array's one block lies where the array does. -/
theorem block_id {s : Shape} {off : Fin s.rank → ℕ} (h0 : ∀ a, off a = 0) (inb : ∀ a, off a + s.size a ≤ s.size a) (j : s.Idx) :
    (Rect.unit (s := s) off s.size inb).emb j = j := by
  funext a; apply Fin.ext
  rw [Rect.emb_apply]
  show off a + 1 * (j a).val = (j a).val
  rw [h0]; omega

/-- An operand's staging buffer holds the operand. -/
theorem before0 (c : Dev nD) (d : S2048x1024.Idx → Elt F .bf16) : (dat V c).before 0 t0_0 d = (inpOf V c).x := by
  refine (Dat.before_fetched (dat V c) 0 t0_0 (fetch0_0 t0_0) d).trans (funext fun j => ?_)
  exact congrArg (fun i : S2048x1024.Idx => V c (Proc.devRef .tc main_v31) i) (block_id (s := S2048x1024) (fun a => Nat.zero_mul _) _ j)

theorem before1 (c : Dev nD) (d : S1x2048.Idx → Elt F .i32) : (dat V c).before 1 t0_0 d = (inpOf V c).sl := by
  refine (Dat.before_fetched (dat V c) 1 t0_0 (fetch0_1 t0_0) d).trans (funext fun j => ?_)
  exact congrArg (fun i : S1x2048.Idx => V c (Proc.devRef .tc main_v32) i) (block_id (s := S1x2048) (fun a => Nat.zero_mul _) _ j)

theorem before2 (c : Dev nD) (d : S2048x1.Idx → Elt F .i32) : (dat V c).before 2 t0_0 d = (inpOf V c).st := by
  refine (Dat.before_fetched (dat V c) 2 t0_0 (fetch0_2 t0_0) d).trans (funext fun j => ?_)
  exact congrArg (fun i : S2048x1.Idx => V c (Proc.devRef .tc main_v33) i) (block_id (s := S2048x1) (fun a => Nat.zero_mul _) _ j)

/-- The result array at the end is the result. -/
theorem after3 (c : Dev nD) : (dat V c).arrAt 3 cfg0.N = Vout V c (Proc.devRef .tc main_v34) := by
  rw [show Vout V c (Proc.devRef .tc main_v34) = out3 (inpOf V) c from Function.update_self _ _ _]
  refine Dat.arrAt_eq_of_cover (dat V c) 3 _ (fun t _ => ?_) fun i => ?_
  · obtain rfl := fin_N0 t
    funext j
    exact congrArg (fun i : S2048x1024.Idx => out3 (inpOf V) c i) (block_id (s := S2048x1024) (fun a => Nat.zero_mul _) _ j).symm
  · exact ⟨t0_0, flush0_3 t0_0, Finset.mem_map.mpr ⟨i, Finset.mem_univ _, block_id (s := S2048x1024) (fun a => Nat.zero_mul _) _ i⟩⟩

theorem bodyAt_eq : defs₀ (F := F) .tc cfg0.body (cfg0.bodyArgs t0_0 (cfg0.slots t0_0)) = onBufs (cc0__body (F := F)) := rfl

theorem body_ob' (c : Dev nD) : iprop(entry V c ∗ (dat V c).owesAt () t0_0.castSucc ∗ (∃ d : S2048x1024.Idx → Elt F .bf16, owns (c : Thread nD τ) mX fullShare ((dat V c).before 0 t0_0 d))
      ∗ (∃ d : S1x2048.Idx → Elt F .i32, owns (c : Thread nD τ) mS fullShare ((dat V c).before 1 t0_0 d))
      ∗ (∃ d : S2048x1.Idx → Elt F .i32, owns (c : Thread nD τ) mT fullShare ((dat V c).before 2 t0_0 d))
      ∗ (∃ d : S2048x1024.Idx → Elt F .f32, owns (c : Thread nD τ) mO fullShare ((dat V c).before 3 t0_0 d)))
    ⊢ Wp c (onBufs (cc0__body (F := F))) fun _ => iprop(exit V c ∗ (dat V c).owesAt () t0_0.succ
      ∗ owns (c : Thread nD τ) mX fullShare (inpOf V c).x ∗ owns (c : Thread nD τ) mS fullShare (inpOf V c).sl
      ∗ owns (c : Thread nD τ) mT fullShare (inpOf V c).st ∗ owns (c : Thread nD τ) mO fullShare (out3 (inpOf V) c)) := by
  simp only [before0, before1, before2, owns_hd c mX setX, owns_hd c mS setS, owns_hd c mT setT, owns_hd c mO setO]
  unfold entry exit Xk
  iintro ⟨⟨⟨⟨%K, #HS⟩, HT, Hid, Hv0, Hv1⟩, Hsc, Hw, Hp⟩, HO, ⟨%d0, HX⟩, ⟨%d1, HSl⟩, ⟨%d2, HSt⟩, ⟨%d3, HOut⟩⟩
  ihave HO := (owes_out V c _ (owed c 0) (owed_first V c)) $$ HO
  ihave HOut := (HdS_any (F := F) c mO.view Finset.univ _) $$ HOut
  iapply (body (inpOf V) K c) $$ HS HO HT [HX HSl HSt] HOut Hsc Hw Hv0 Hv1
  · unfold staged
    isplitl [HX]; · iexact HX
    isplitl [HSl] <;> iassumption
  unfold staged
  iintro HO ⟨HX, HSl, HSt⟩ HOut Hsc Hw Hv0 Hv1 Hr
  isplitl [Hr Hid Hv0 Hv1 Hsc Hw Hp]
  · isplitl [Hr]; · iexact Hr
    isplitl [Hid]; · iexact Hid
    isplitl [Hv0]; · iexact Hv0
    isplitl [Hv1]; · iexact Hv1
    isplitl [Hsc]; · iexact Hsc
    isplitl [Hw] <;> iassumption
  isplitl [HO]
  · iapply (owes_in V c _ 0 (owed_last V c)); iexact HO
  isplitl [HX]; · iexact HX
  isplitl [HSl]; · iexact HSl
  isplitl [HSt] <;> iassumption

set_option maxRecDepth 20000 in
theorem body_ob (c : Dev nD) : BodyObligation (dat V c) defs₀ 𝒱₀ () Set.univ := fun t => by
  obtain rfl := fin_N0 t
  rw [bigSep_W0, bigSep_W0]
  rw [show (dat V c).Φ t0_0.castSucc = entry V c from rfl, show (dat V c).Φ t0_0.succ = exit V c from rfl]
  rw [bodyAt_eq]
  exact body_ob' V c

/-! ## In and out of the call -/

/-- The buffers in HBM the body reads itself. -/
abbrev Hs : Finset (DevRef τ sig) := {Proc.devRef .tc main_arg2, Proc.devRef .tc main_arg3}

/-- A buffer at its own contents is the buffer held at what is read off it. -/
theorem hd_of (c : Dev nD) (r : Ref sig .tc) (f : Buf (Elt F) ((Memref.whole r).view.loc (c : Thread nD τ))) :
    (HdB c (Memref.whole r) ((Memref.whole r).view.read (Elt F) f) : sProp 𝕄)
      = ((Memref.whole r).view.loc (c : Thread nD τ) ↦[Finset.univ]{fullShare} f : sProp 𝕄) := by
  have h1 : (HdB c (Memref.whole r) ((Memref.whole r).view.read (Elt F) f) : sProp 𝕄)
      ⊢ ((Memref.whole r).view.loc (c : Thread nD τ) ↦[Finset.univ]{fullShare} f : sProp 𝕄) := by
    unfold HdB HdS
    iintro ⟨%g, %h, H⟩
    have h' : g = f := h
    rw [h']
    iexact H
  exact BI.equiv_iff.mp ⟨h1, HdS_intro c (Memref.whole r).view Finset.univ _ f rfl⟩

theorem held_weights (c : Dev nD) (W : Valuation τ sig (Elt F)) (h2 : W (Proc.devRef .tc main_arg2) = V c (Proc.devRef .tc main_arg2))
    (h3 : W (Proc.devRef .tc main_arg3) = V c (Proc.devRef .tc main_arg3)) :
    (StableHlo.held (c.tc : Thread nD τ) Hs W : sProp 𝕄) = weights (inpOf V) c := by
  have e : (StableHlo.held (c.tc : Thread nD τ) Hs W : sProp 𝕄) = iprop(((c : Thread nD τ).loc main_arg2 ↦{fullShare} W (Proc.devRef .tc main_arg2))
      ∗ ((c : Thread nD τ).loc main_arg3 ↦{fullShare} W (Proc.devRef .tc main_arg3))) := by
    unfold StableHlo.held
    rw [bigSep_eq_bigSepL_of_eq [Proc.devRef .tc main_arg2, Proc.devRef .tc main_arg3] (by decide) (by decide)]
    rfl
  rw [e, h2, h3]
  unfold weights
  exact congrArg₂ (fun a b : sProp 𝕄 => iprop(a ∗ b)) (hd_of c main_arg2 _).symm (hd_of c main_arg3 _).symm

theorem scratch_eq (c : Dev nD) : (Pipeline.scopedRest spec0 c : sProp 𝕄) = scratch c := scopedRest0_eq c

theorem hin (c : Dev nD) : iprop(Pipeline.scopedRest (Pipeline.pin (pcfgs (F := F)) adm 0).spec c ∗ (∃ r, prngReg c r) ∗ StableHlo.held (c.tc : Thread nD τ) Hs (V c) ∗ Xk (inpOf V) c)
    ⊢ (pdats V 0 c).Φ 0 := by
  rw [show (pdats V 0 c).Φ 0 = entry V c from rfl]
  unfold entry
  iintro ⟨Hs, Hp, Hh, HX⟩
  isplitl [HX]; · iexact HX
  isplitl [Hs]; · iapply (Entails.of_eq (scratch_eq c)) $$ Hs
  isplitl [Hh]; · iapply (Entails.of_eq (held_weights V c (V c) rfl rfl)) $$ Hh
  iexact Hp

/-- The counters at rest, put together as the call's own. -/
theorem rest_eq (c : Dev nD) : iprop(rest (F := F) c ∗ idleSems c ∗ wv c 0 ∗ wv c 1) ⊢ iprop(Pipeline.ownSems0 osem c ∗ semVal (cell c none) 0) := by
  rw [ownSems_eq]
  unfold rest
  iintro ⟨⟨Hb, Hs⟩, Hi⟩
  isplitr [Hb]
  · isplitl [Hs]
    · iapply (Entails.of_eq (each_kind fun y : Fin 4 × Fin 4 × Fin 3 => (semVal (cell c (some y)) 0 : sProp 𝕄)).symm); iexact Hs
    iexact Hi
  iexact Hb

theorem Vout_of (c : Dev nD) (b : DevRef τ sig) (h : b ≠ Proc.devRef .tc main_v34) : Vout V c b = V c b := Function.update_of_ne h _ _

theorem hout (c : Dev nD) : (pdats V 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (Vout V c)
      ∗ Pipeline.ownSems0 osem c ∗ semVal (cell c none) 0) := by
  rw [show (pdats V 0 c).Φ (Fin.last _) = exit V c from rfl]
  unfold exit
  iintro ⟨Hr, Hi, Hv0, Hv1, Hsc, Hw, Hp⟩
  ihave H := (rest_eq c) $$ [Hr Hi Hv0 Hv1]
  · isplitl [Hr]; · iexact Hr
    isplitl [Hi]; · iexact Hi
    isplitl [Hv0] <;> iassumption
  isplitl [Hsc]; · iapply (Entails.of_eq (scratch_eq c).symm) $$ Hsc
  isplitl [Hp]; · iexact Hp
  isplitl [Hw]
  · iapply (Entails.of_eq (held_weights V c (Vout V c) (Vout_of V c _ (by decide)) (Vout_of V c _ (by decide))).symm) $$ Hw
  iexact H

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The other buffers held across the call. -/
abbrev Sr : Finset (DevRef τ sig) := Pipeline.ucRefs τ sig \ Pipeline.arrRefs (τ := τ) spec0

theorem stage_lev : ∀ (w : Fin 4) (s : Fin (spec0 w).nbuf), levS (.dma ((spec0 w).sem s)) = 0 := by decide

theorem cut (c : Dev nD) (t : Fin (cfg0.N + 1)) (g : GSem nD τ sig) (i : Unit) (h : 0 < (dat V c).owed t g i) : i ∈ L g ∧ 0 < lv g i := by
  have e : (dat V c).owed t = if t.val = 0 then owed c 0 else 0 := rfl
  rw [e] at h
  split at h
  · obtain ⟨n, -, hn⟩ := owed_pos c 0 g i h
    obtain ⟨h1, h2⟩ := ob_pos c n g i hn
    refine ⟨?_, ?_⟩
    · unfold L; rw [if_pos h1]; exact Finset.mem_singleton_self _
    · show 0 < levS g.2
      rw [h2]; unfold obLev
      split
      · decide
      split
      · decide
      omega
  · exact absurd h (Nat.lt_irrefl 0)

theorem arr_in (c : Dev nD) : ∀ w : Fin 4, (dat V c).arrAt w cfg0.N = Vout V c (Proc.devRef .tc (Pipeline.arrRef spec0 w))
  | 0 => (Dat.arrAt_in (dat V c) 0 rfl _).trans (Vout_of V c _ (by decide)).symm
  | 1 => (Dat.arrAt_in (dat V c) 1 rfl _).trans (Vout_of V c _ (by decide)).symm
  | 2 => (Dat.arrAt_in (dat V c) 2 rfl _).trans (Vout_of V c _ (by decide)).symm
  | 3 => after3 V c
  | ⟨_ + 4, h⟩ => absurd h (Nat.not_lt.2 (Nat.le_add_left _ _))

theorem Hs_sub : Hs ⊆ Sr := by
  decide

theorem off_result (c : Dev nD) (b : DevRef τ sig) (hb : b ∈ Sr \ Hs) : Vout V c b = V c b := by
  refine Vout_of V c b ?_
  rintro rfl
  exact absurd ((Finset.mem_sdiff.mp (Finset.mem_sdiff.mp hb).1).2) (by decide)

set_option backward.isDefEq.respectTransparency.types false in
/-- The call. -/
def reg : Pipeline.RegionSeg (pcfgs (F := F)) adm (pdats V) () defs₀ 𝒱₀ L lv 0 :=
  Pipeline.RegionSeg.ofTalk (pcfgs (F := F)) adm (pdats V) () defs₀ 𝒱₀ L lv 0 osem osem_facts
    Hs Sr Hs_sub kit rfl (fun c => (body_ob V c).loose)
    (fun _ => 0) (fun c => owed c 0) (fun c => (owed_first V c).trans (zero_add _).symm) (owed_last V) (fun _ => rfl)
    (fun _ w => by unfold Dat.share; exact ite_self _)
    V (Vout V) (off_result V) (Tk (inpOf V)) (fun c => semVal (cell c none) 0) (Xk (inpOf V)) (fun c => semVal (cell c none) 0) (hopen (inpOf V)) (hin V) (hout V)
    (fun c => by iintro H; imodintro; iexact H)
    (fun _ => 0)
    ⟨fun c w s => by rw [L_tc]; exact Finset.mem_singleton_self _, fun _ w s => Nat.le_of_eq (stage_lev w s), fun c t g i h => cut V c t g i h⟩
    (fun _ => iprop(emp))
    (fun _ _ => rfl) (arr_in V)

end Cert.KernelProof
-- ==== Proof.Deal.lean ====
/-
  The launch: which cells are funded, how the tokens are dealt, and what credit each device starts with.
-/
module

public import proofs.«01_k».proof.Proof.Region

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A tile cell of a device. -/
abbrev PY : Type := Fin 4 × Fin 4 × Fin 3

/-! ## The funded cells and the tokens -/

def barEmb : Dev nD ↪ GSem nD τ sig := ⟨fun c => cell c none, fun _ _ h => congrArg Prod.fst (cell_inj (a₁ := (_, none)) (a₂ := (_, none)) h)⟩
def tileEmb : Dev nD × PY ↪ GSem nD τ sig := ⟨fun p => cell p.1 (some p.2), fun p q h => by
  have := cell_inj (a₁ := (p.1, some p.2)) (a₂ := (q.1, some q.2)) h
  exact Prod.ext (Prod.mk.inj this).1 (Option.some.inj (Prod.mk.inj this).2)⟩

abbrev barCells : Finset (GSem nD τ sig) := Finset.univ.map barEmb
abbrev tileCells : Finset (GSem nD τ sig) := Finset.univ.map tileEmb

/-- What a token is of. -/
abbrev tokOf : Fin 3 ⊕ PY → PX × Fin 3
  | .inl k => (none, k)
  | .inr y => (some y, 0)

theorem tokOf_inj : Function.Injective tokOf := by
  rintro (k | y) (k' | y') h
  · exact congrArg Sum.inl (congrArg Prod.snd h)
  · exact absurd (congrArg Prod.fst h) (by simp)
  · exact absurd (congrArg Prod.fst h) (by simp)
  · exact congrArg Sum.inr (Option.some.inj (congrArg Prod.fst h))

def tokEmb : Dev nD × (Fin 3 ⊕ PY) ↪ GSem nD τ sig × ℕ × Fin 3 := ⟨fun p => (cell p.1 (tokOf p.2).1, 0, (tokOf p.2).2), fun p q h => by
  have h1 := cell_inj (a₁ := (p.1, (tokOf p.2).1)) (a₂ := (q.1, (tokOf q.2).1)) (congrArg (fun t : GSem nD τ sig × ℕ × Fin 3 => t.1) h)
  have h2 : (tokOf p.2).2 = (tokOf q.2).2 := congrArg (fun t : GSem nD τ sig × ℕ × Fin 3 => t.2.2) h
  exact Prod.ext (Prod.mk.inj h1).1 (tokOf_inj (Prod.ext (Prod.mk.inj h1).2 h2))⟩

def toksAll : Finset (GSem nD τ sig × ℕ × Fin 3) := Finset.univ.map tokEmb

theorem cells_apart : Disjoint (barCells : Finset (GSem nD τ sig)) tileCells := by
  rw [Finset.disjoint_left]
  rintro g h₁ h₂
  obtain ⟨c, -, rfl⟩ := Finset.mem_map.mp h₁
  obtain ⟨p, -, h⟩ := Finset.mem_map.mp h₂
  exact absurd (congrArg Prod.snd (cell_inj (a₁ := (p.1, some p.2)) (a₂ := (c, none)) h)) (by simp)

theorem cell_mem (p : Dev nD × PX) : cell p.1 p.2 ∈ (barCells ∪ tileCells : Finset (GSem nD τ sig)) := by
  obtain ⟨c, x⟩ := p
  cases x with
  | none => exact Finset.mem_union_left _ (Finset.mem_map_of_mem barEmb (Finset.mem_univ c))
  | some y => exact Finset.mem_union_right _ (Finset.mem_map_of_mem tileEmb (Finset.mem_univ (c, y)))

/-- The launch element. -/
def u₀ : UU :=
  (initOf (Pipeline.cells cfgs cellOf_inj) (Pipeline.launchToks cfgs cellOf_inj), (launchOf barCells tileCells toksAll, 1))

/-- A resource of the whole machine, kept at one device. -/
def atFirst (X : sProp 𝕄) (c : Dev nD) : sProp 𝕄 := if c = 0 then X else iprop(emp)

omit [FloatOps F] in
theorem atFirst_all (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst
  rw [if_pos rfl]
  exact BI.equiv_iff.mp sep_emp

/-- The protocol's share of the launch element. -/
def seed : Dev nD → sProp 𝕄 := atFirst (BI.own (ER (launchOf barCells tileCells toksAll)))

theorem seeded : (ownU u₀ : sProp 𝕄) ⊢ (|={Set.univ}=> iprop(BI.own (EP (initOf (Pipeline.cells cfgs cellOf_inj) (Pipeline.launchToks cfgs cellOf_inj))) ∗ bigSep Finset.univ (seed (F := F))) : sProp 𝕄) := by
  unfold u₀ seed
  iintro Hu
  ihave H := (ownU_pair _ _) $$ Hu
  icases H with ⟨HP, HX⟩
  imodintro
  isplitl [HP]; · iexact HP
  rw [atFirst_all]
  iexact HX

/-! ## Dealing -/

omit [FloatOps F] in
theorem turn {A B : Type} [Fintype A] [Fintype B] (Φ : A → B → sProp 𝕄) :
    (bigSep Finset.univ fun a => bigSep Finset.univ fun b => Φ a b) = bigSep Finset.univ fun b => bigSep Finset.univ fun a => Φ a b :=
  ((bigSep_univ_prod fun p : A × B => Φ p.1 p.2).symm.trans (bigSep_univ_equiv (Equiv.prodComm B A) fun p : A × B => Φ p.1 p.2)).trans
    (bigSep_univ_prod fun q : B × A => Φ q.2 q.1)

def fwdE (k : Fin 3) : Dev nD ≃ Dev nD := ⟨fun c => fwd c k, fun c => bwd c k, fun c => bwd_fwd c k, fun c => fwd_bwd c k⟩

omit [FloatOps F] in
/-- What each device holds for each partner, handed to where the partner's turn takes it. -/
theorem around (e : Fin 3 → (Dev nD ≃ Dev nD)) (Φ : Dev nD → Fin 3 → sProp 𝕄) :
    (bigSep Finset.univ fun c => bigSep Finset.univ fun k => Φ c k) = bigSep Finset.univ fun c => bigSep Finset.univ fun k => Φ (e k c) k := by
  rw [turn, turn fun c k => Φ (e k c) k]
  exact bigSep_congr fun k _ => bigSep_univ_equiv (e k) _

omit [FloatOps F] in
theorem around_each (e : Fin 3 → (Dev nD ≃ Dev nD)) (Φ : Dev nD → Fin 4 → Fin 3 → sProp 𝕄) :
    (bigSep Finset.univ fun c => each (Φ c)) = bigSep Finset.univ fun c => each fun j k => Φ (e k c) j k := by
  rw [turn, turn fun c j => bigSep Finset.univ fun k => Φ (e k c) j k]
  exact bigSep_congr fun j _ => around e fun c k => Φ c j k

theorem dealt : bigSep toksAll (fun t => (dutyTok ER t.1 t.2.1 t.2.2 : sProp 𝕄)) = bigSep Finset.univ fun c : Dev nD => (duties c : sProp 𝕄) := by
  have h (c : Dev nD) : (bigSep Finset.univ fun i : Fin 3 ⊕ PY => (dutyTok ER (cell c (tokOf i).1) 0 (tokOf i).2 : sProp 𝕄))
      = iprop((bigSep Finset.univ fun k : Fin 3 => dutyTok ER (cell c none) 0 k)
        ∗ (each fun j k => dutyTok ER (cell c (some (0, j, k))) 0 0) ∗ (each fun j k => dutyTok ER (cell c (some (1, j, k))) 0 0)
        ∗ (each fun j k => dutyTok ER (cell c (some (2, j, k))) 0 0) ∗ (each fun j k => dutyTok ER (cell c (some (3, j, k))) 0 0)) :=
    (bigSep_univ_sum _).trans (congrArg (fun x : sProp 𝕄 => iprop((bigSep Finset.univ fun k : Fin 3 => dutyTok ER (cell c none) 0 k) ∗ x))
      ((each_kind _).trans (Idealize.ShloMosaic.Ring.bigSep_fin4 _)))
  unfold toksAll
  rw [bigSep_map, bigSep_univ_prod]
  refine (bigSep_congr fun c _ => h c).trans ?_
  unfold duties
  simp only [bigSep_sep']
  rw [around fwdE fun c k => dutyTok ER (cell c none) 0 k, around_each fwdE fun c j k => dutyTok ER (cell c (some (1, j, k))) 0 0,
    around_each (fun k => (fwdE k).symm) fun c j k => dutyTok ER (cell c (some (3, j, k))) 0 0]
  rfl

/-! ## The launch credit -/

/-- Obligation `i`: at which cell, and whose. -/
def obX (i : ℕ) : PX :=
  if i < 3 then none
  else if h : i < 15 then some (1, ⟨(i - 3) / 3, by omega⟩, ⟨(i - 3) % 3, Nat.mod_lt _ (by decide)⟩)
  else some (3, ⟨(i - 15) / 3 % 4, Nat.mod_lt _ (by decide)⟩, ⟨(i - 15) % 3, Nat.mod_lt _ (by decide)⟩)
def obTo (i : ℕ) : Dev nD ≃ Dev nD :=
  if h : i < 3 then fwdE ⟨i, h⟩
  else if i < 15 then fwdE ⟨(i - 3) % 3, Nat.mod_lt _ (by decide)⟩
  else (fwdE ⟨(i - 15) % 3, Nat.mod_lt _ (by decide)⟩).symm

theorem ob_eq (c : Dev nD) (i : ℕ) : ob c i = tallyAt (cell (obTo i c) (obX i)) () (amtX (obX i)) := by
  unfold ob obX obTo
  split
  · rfl
  · split <;> rfl

/-- How many obligations are at the cell. -/
def obCount (x : PX) : ℕ := ((Finset.Ico 0 27).filter fun i => obX i = x).card

theorem launch_cell (c : Dev nD) (x : PX) : ∑ d : Dev nD, owed d 0 (cell c x) () = obCount x * amtX x := by
  have one (i : ℕ) : ∑ d : Dev nD, ob d i (cell c x) () = if obX i = x then amtX x else 0 := by
    have e (d : Dev nD) : ob d i (cell c x) () = if d = (obTo i).symm c then (if obX i = x then amtX x else 0) else 0 := by
      rw [ob_eq, tallyAt_apply]
      by_cases h1 : d = (obTo i).symm c
      · rw [if_pos h1]
        by_cases h2 : obX i = x
        · rw [if_pos h2, if_pos ⟨by rw [h1, h2, Equiv.apply_symm_apply], rfl⟩, h2]
        · rw [if_neg h2, if_neg fun h => h2 (congrArg Prod.snd (cell_inj (a₁ := (c, x)) (a₂ := (obTo i d, obX i)) h.1)).symm]
      · rw [if_neg h1, if_neg fun h => h1 ?_]
        have := congrArg Prod.fst (cell_inj (a₁ := (c, x)) (a₂ := (obTo i d, obX i)) h.1)
        exact ((Equiv.symm_apply_eq _).mpr this).symm
    rw [Finset.sum_congr rfl fun d _ => e d, Finset.sum_ite_eq' Finset.univ _ fun _ => (if obX i = x then amtX x else 0), if_pos (Finset.mem_univ _)]
  have sw (d : Dev nD) : owed d 0 (cell c x) () = ∑ i ∈ Finset.Ico 0 27, ob d i (cell c x) () := by
    unfold owed
    rw [Finset.sum_apply, Finsupp.finset_sum_apply]
  rw [Finset.sum_congr rfl fun d _ => sw d, Finset.sum_comm, Finset.sum_congr rfl fun i _ => one i, Finset.sum_ite, Finset.sum_const_zero, add_zero,
    Finset.sum_const, smul_eq_mul]
  rfl

theorem launch_tally (c : Dev nD) (x : PX) :
    tallyOn (cell c x) (launchCredit (Pipeline.owing fun d => owed d 0) 0 (cell c x)) = (tallyAt (cell c x) () (obCount x * amtX x) : CellTallies nD τ sig Unit) := by
  unfold tallyAt
  refine congrArg _ (Finsupp.ext fun u => ?_)
  cases u
  rw [Pipeline.launchCredit_owing, Finsupp.single_eq_same]
  exact launch_cell c x

theorem count_bar : obCount none = 3 := by decide
theorem count_arr : ∀ (j : Fin 4) (k : Fin 3), obCount (some (1, j, k)) = 1 := by decide
theorem count_res : ∀ (j : Fin 4) (k : Fin 3), obCount (some (3, j, k)) = 1 := by decide

def semEmb : Unit ⊕ PY ↪ SemLoc sig := ⟨fun | .inl _ => semOf none | .inr y => semOf (some y), by
  rintro (a | y) (a' | y') h
  · rfl
  · exact absurd (semOf_inj h) (by simp)
  · exact absurd (semOf_inj h) (by simp)
  · exact congrArg Sum.inr (Option.some.inj (semOf_inj h))⟩

theorem creds (c : Dev nD) : (Pipeline.launchCred (fun d => owed d 0) c : sProp 𝕄) ⊢ credits c := by
  have one (x : PX) (n : ℕ) (h : obCount x * amtX x = n) :
      (cred (tallyOn (cell c x) (launchCredit (Pipeline.owing fun d => owed d 0) 0 (cell c x))) : sProp 𝕄) = cred (tallyAt (cell c x) () n) := by
    rw [launch_tally, h]
  unfold Pipeline.launchCred
  refine (bigSep_subset (Finset.subset_univ (Finset.univ.map semEmb))).trans ?_
  rw [bigSep_map, bigSep_univ_sum, Finset.univ_unique, BI.bigSep_singleton, each_kind, Idealize.ShloMosaic.Ring.bigSep_fin4]
  show iprop(cred (tallyOn (cell c none) (launchCredit (Pipeline.owing fun d => owed d 0) 0 (cell c none)))
    ∗ _ ∗ (each fun j k => cred (tallyOn (cell c (some (1, j, k))) (launchCredit (Pipeline.owing fun d => owed d 0) 0 (cell c (some (1, j, k))))))
    ∗ _ ∗ (each fun j k => cred (tallyOn (cell c (some (3, j, k))) (launchCredit (Pipeline.owing fun d => owed d 0) 0 (cell c (some (3, j, k))))))) ⊢ _
  have o1 (j : Fin 4) (k : Fin 3) := one (some (1, j, k)) N (by rw [count_arr, one_mul]; rfl)
  have o3 (j : Fin 4) (k : Fin 3) := one (some (3, j, k)) N (by rw [count_res, one_mul]; rfl)
  simp only [one none 3 (by rw [count_bar]; rfl), o1, o3]
  unfold credits
  iintro ⟨B, -, C1, -, C3⟩
  isplitl [B]; · iexact B
  isplitl [C1] <;> iassumption

end Cert.KernelProof
-- ==== Proof.Launch.lean ====
/-
  The run of the whole program, over any float values: it terminates, leaves the arguments, brings every counter back to zero,
  and leaves the call's result in the result buffer.
-/
module

public import proofs.«01_k».proof.Proof.Deal

@[expose] public section

noncomputable section

namespace Cert.KernelProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel's operands on each device. -/
abbrev ops : Dev nD → In F := inpOf (fun c => V13 m c)

/-- What rides along the host operations. -/
def before (c : Dev nD) : sProp 𝕄 := iprop(Tk (ops m) c ∗ owesE c (owed c 0) ∗ ∃ r, prngReg c r)
/-- What is left beside the buffers. -/
def after (c : Dev nD) : sProp 𝕄 := iprop(semVal (cell c none) 0 ∗ owesE c 0)

abbrev riding : Fin 2 → Dev nD → sProp 𝕄 := fun | 0 => before m | 1 => after

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) Sr W) := by
  unfold StableHlo.held
  exact bigSep_sdiff_split (by decide)

theorem reg_pre (c : Dev nD) : iprop(StableHlo.held (c : Thread nD τ) (Pipeline.ucRefs τ sig) (V13 m c) ∗ before m c) ⊢ (reg fun c => V13 m c).pre c := by
  show _ ⊢ iprop(StableHlo.held (c.tc : Thread nD τ) (Pipeline.arrRefs (τ := τ) spec0) (V13 m c) ∗ (∃ r, prngReg c r)
    ∗ (StableHlo.held (c.tc : Thread nD τ) Sr (V13 m c) ∗ emp) ∗ Tk (ops m) c ∗ ∃ Wd, owes (c : Thread nD τ) (0 + owed c 0) Wd)
  rw [held_split, zero_add]
  unfold before owesE
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem reg_post (c : Dev nD) : (reg fun c => V13 m c).post c
    ⊢ iprop(StableHlo.held (c : Thread nD τ) (Pipeline.ucRefs τ sig) (Vout (fun c => V13 m c) c) ∗ after c) := by
  show iprop(StableHlo.held (c.tc : Thread nD τ) (Pipeline.arrRefs (τ := τ) spec0) (Vout (fun c => V13 m c) c) ∗ (∃ r, prngReg c r)
    ∗ (StableHlo.held (c.tc : Thread nD τ) Sr (Vout (fun c => V13 m c) c) ∗ emp) ∗ semVal (cell c none) 0 ∗ ∃ Wd, owes (c : Thread nD τ) (0 : CellTallies nD τ sig Unit) Wd) ⊢ _
  rw [held_split]
  unfold after owesE
  iintro ⟨Ha, -, ⟨Hr, -⟩, Hb, HO⟩
  isplitl [Ha Hr]
  · isplitl [Ha] <;> iassumption
  isplitl [Hb] <;> iassumption

/-! ## The launch -/

theorem barrier_only (c : Dev nD) : (unscopedSems0 c : sProp 𝕄) = semVal (cell c none) 0 := by
  unfold unscopedSems0
  rw [show (Finset.univ.filter fun sm : SemLoc sig => ¬ sm.isScoped .tc) = {SemLoc.reg barS} from by decide, BI.bigSep_singleton]
  rfl

/-- A device's launch holdings, apart from the protocol's. -/
def bundle (c : Dev nD) : sProp 𝕄 :=
  iprop(StableHlo.held (c : Thread nD τ) (Pipeline.ucRefs τ sig) (V0 m c) ∗ credits c ∗ owesE c (owed c 0) ∗ ∃ r, prngReg c r)

/-- A device's share of the protocol's. -/
def share (c : Dev nD) : sProp 𝕄 :=
  iprop(atPos ER (cell c none) 0 ∅ 0 ∗ (bigSep Finset.univ fun y : PY => openTok ER (cell c (some y))) ∗ duties c)

theorem start_intro (inp : Dev nD → In F) (K : Dev nD × PX → ℕ) (c : Dev nD) :
    iprop(known inp K ∗ (share c ∗ bundle m c)) ⊢ iprop(StableHlo.held (c : Thread nD τ) (Pipeline.ucRefs τ sig) (V0 m c) ∗ Tk inp c ∗ owesE c (owed c 0) ∗ ∃ r, prngReg c r) := by
  unfold bundle share Tk
  iintro ⟨#HK, Hs, Hh, Hc, HO, Hp⟩
  isplitl [Hh]; · iexact Hh
  isplitl [Hs Hc]
  · isplitr; · iexists K; iexact HK
    isplitl [Hs] <;> iassumption
  isplitl [HO] <;> iassumption

theorem known_intro (inp : Dev nD → In F) (κ : GSem nD τ sig → ℕ) :
    iprop((bigSep (barCells ∪ tileCells) fun g => cellInv ER (sched inp) (κ g) g) ∗ bigSep barCells fun g => reached ER g 0)
      ⊢ known inp fun p => κ (cell p.1 p.2) := by
  unfold known
  iintro ⟨#HI, #HR⟩
  isplitr
  · iapply (bigSep_intro_persistent (R := bigSep (barCells ∪ tileCells) fun g => (cellInv ER (sched inp) (κ g) g : sProp 𝕄)) fun p _ => bigSep_elim (cell_mem p)) $$ HI
  · iapply (Entails.of_eq (bigSep_map (s := Finset.univ) barEmb (Φ := fun g : GSem nD τ sig => (reached ER g 0 : sProp 𝕄)))) $$ HR

theorem init :
    iprop((bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ seed c)) ∗ levAts L lv)
      ⊢ (|={Set.univ}=> bigSep Finset.univ fun c : Dev nD => iprop(StableHlo.held (c : Thread nD τ) (Pipeline.ucRefs τ sig) (V0 m c) ∗ before m c) : sProp 𝕄) := by
  have hcore (c : Dev nD) : iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ seed c)
      ⊢ (iprop(bundle m c ∗ (semVal (cell c none) 0 ∗ seed c)) : sProp 𝕄) := by
    rw [show (unscopedBufs c (fun b => m ((c.tc : Thread nD τ).loc b)) : sProp 𝕄) = StableHlo.held (c : Thread nD τ) (Pipeline.ucRefs τ sig) (V0 m c) from Pipeline.unscopedBufs_held c (V0 m c),
      barrier_only]
    unfold bundle owesE
    iintro ⟨Hh, Hb, HO, Hc, Hp, Hs⟩
    ihave Hc := (creds c) $$ Hc
    isplitl [Hh Hc HO Hp]
    · isplitl [Hh]; · iexact Hh
      isplitl [Hc]; · iexact Hc
      isplitl [HO]; · iexists ∅; iexact HO
      iexists (ρ c); iexact Hp
    isplitl [Hb] <;> iassumption
  have hsplit : (bigSep Finset.univ fun c : Dev nD => iprop(unscopedBufs c (fun b => m ((c.tc : Thread nD τ).loc b)) ∗ unscopedSems0 c
          ∗ owes (c.tc : Thread nD τ) (owed c 0) ∅ ∗ Pipeline.launchCred (fun d => owed d 0) c ∗ prngReg c (ρ c) ∗ seed c))
      ⊢ (iprop((bigSep Finset.univ fun c => bundle m c) ∗ (bigSep Finset.univ fun c : Dev nD => (semVal (cell c none) 0 : sProp 𝕄)) ∗ bigSep Finset.univ (seed (F := F))) : sProp 𝕄) := by
    rw [← bigSep_sep', ← bigSep_sep']
    exact bigSep_mono fun c _ => hcore c
  have hv : bigSep Finset.univ (fun c : Dev nD => (semVal (cell c none) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c none) 0 ∅ 0 : sProp 𝕄)) :=
    Entails.of_eq (bigSep_map (s := Finset.univ) barEmb (Φ := fun g : GSem nD τ sig => (atPos ER g 0 ∅ 0 : sProp 𝕄)))
  have hop : bigSep tileCells (fun g => (openTok ER g : sProp 𝕄)) ⊢ bigSep Finset.univ (fun c : Dev nD => bigSep Finset.univ fun y : PY => (openTok ER (cell c (some y)) : sProp 𝕄)) :=
    Entails.of_eq ((bigSep_map (s := Finset.univ) tileEmb (Φ := fun g : GSem nD τ sig => (openTok ER g : sProp 𝕄))).trans (bigSep_univ_prod _))
  have hshare : iprop((bigSep Finset.univ fun c : Dev nD => (atPos ER (cell c none) 0 ∅ 0 : sProp 𝕄)) ∗ (bigSep Finset.univ fun c : Dev nD => bigSep Finset.univ fun y : PY => (openTok ER (cell c (some y)) : sProp 𝕄))
      ∗ (bigSep Finset.univ fun c : Dev nD => (duties c : sProp 𝕄)) ∗ (bigSep Finset.univ fun c => bundle m c)) ⊢ bigSep Finset.univ fun c : Dev nD => iprop(share c ∗ bundle m c) := by
    unfold share
    rw [bigSep_sep', bigSep_sep', bigSep_sep']
    iintro ⟨H1, H2, H3, H4⟩
    isplitr [H4]
    · isplitl [H1]; · iexact H1
      isplitl [H2] <;> iassumption
    iexact H4
  iintro ⟨H, -⟩
  ihave H' := hsplit $$ H
  icases H' with ⟨HB, Hv, HS⟩
  ihave Hu := (show bigSep Finset.univ (seed (F := F)) ⊢ _ from Entails.of_eq (atFirst_all (F := F) (BI.own (ER (launchOf barCells tileCells toksAll))))) $$ HS
  imod (Rounds.fund_launch ER (sched (ops m)) cells_apart (fun g _ h => h) toksAll) $$ [Hv Hu] with ⟨%κ, -, #Hinv, #Hr, Hat, Hopen, Htok⟩
  · isplitl [Hv]
    · iapply hv $$ Hv
    · iexact Hu
  ihave Htok := (Entails.of_eq (dealt (F := F))) $$ Htok
  ihave Hat := hat $$ Hat
  ihave Hopen := hop $$ Hopen
  imodintro
  unfold before
  iapply (bigSep_with_persistent (R := known (ops m) fun p => κ (cell p.1 p.2)) (Φ := fun c => iprop(share c ∗ bundle m c)) fun c _ => start_intro m (ops m) _ c)
  isplitr
  · iapply (known_intro (ops m) κ)
    isplitr; · iexact Hinv
    iexact Hr
  iapply hshare
  isplitl [Hat]; · iexact Hat
  isplitl [Hopen]; · iexact Hopen
  isplitl [Htok] <;> iassumption

/-! ## The run -/

theorem unscoped_eq : ∀ sm : SemLoc sig, sm.isScoped .tc = false → sm = .reg barS := by decide

/-- The arguments at the end. -/
theorem args_left (c : Dev nD) (r : Ref sig .tc) (h : r ≠ main_v34) (h' : V13 m c r = m ((c : Thread nD τ).loc r)) :
    Vout (fun c => V13 m c) c (Proc.devRef .tc r) = m ((c : Thread nD τ).loc r) :=
  (Vout_of _ c _ (StableHlo.devRef_ne_of_ne h)).trans h'

theorem V13_arg0 (c : Dev nD) : V13 m c main_arg0 = m ((c : Thread nD τ).loc main_arg0) :=
  (V14_of m (fun _ r c => V13 m c r) c main_arg0 (by decide)).symm.trans (V14_main_arg0 m _ c)
theorem V13_arg1 (c : Dev nD) : V13 m c main_arg1 = m ((c : Thread nD τ).loc main_arg1) :=
  (V14_of m (fun _ r c => V13 m c r) c main_arg1 (by decide)).symm.trans (V14_main_arg1 m _ c)
theorem V13_arg2 (c : Dev nD) : V13 m c main_arg2 = m ((c : Thread nD τ).loc main_arg2) :=
  (V14_of m (fun _ r c => V13 m c r) c main_arg2 (by decide)).symm.trans (V14_main_arg2 m _ c)
theorem V13_arg3 (c : Dev nD) : V13 m c main_arg3 = m ((c : Thread nD τ).loc main_arg3) :=
  (V14_of m (fun _ r c => V13 m c r) c main_arg3 (by decide)).symm.trans (V14_main_arg3 m _ c)

/-- What a device ends with. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ s.mem ((c : Thread nD τ).loc main_v34) = out3 (ops m) c

theorem fin_read (c : Dev nD) (s' : Phys nD τ sig (Elt F)) :
    iprop((StableHlo.held (c : Thread nD τ) (Pipeline.ucRefs τ sig) (Vout (fun c => V13 m c) c) ∗ semVal (cell c none) 0) ∗ SI s')
      ⊢ (|={Set.univ}=> iprop(⌜Ends m c s'.mem ∧ s'.mem.sem (cell c none) = 0⌝ ∗ SI s') : sProp 𝕄) := by
  have mem (r : Ref sig .tc) (h : (Proc.devRef .tc r : DevRef τ sig).isScoped = false) : (Proc.devRef .tc r : DevRef τ sig) ∈ Pipeline.ucRefs τ sig :=
    Finset.mem_filter.mpr ⟨StableHlo.devRef_mem_tcRefs r, by simp [h]⟩
  unfold StableHlo.held
  iintro ⟨⟨Hh, Hb⟩, HSI⟩
  icombine HSI Hb gives %hb
  ihave Hr := (pointsTo_read_all (Pipeline.ucRefs τ sig) (fun b => ((c : Thread nD τ).1, b)) (Vout (fun c => V13 m c) c) s') $$ [Hh HSI]
  · isplitl [Hh] <;> iassumption
  icases Hr with ⟨%h, HSI⟩
  imodintro
  isplitr
  · ipureintro
    refine ⟨⟨⟨?_, ?_, ?_, ?_⟩, ?_⟩, by simpa using hb⟩
    · exact (h (Proc.devRef .tc main_arg0) (Finset.mem_filter.mpr ⟨StableHlo.devRef_mem_tcRefs main_arg0, by decide⟩)).trans (args_left m c main_arg0 (by decide) (V13_arg0 m c))
    · exact (h (Proc.devRef .tc main_arg1) (Finset.mem_filter.mpr ⟨StableHlo.devRef_mem_tcRefs main_arg1, by decide⟩)).trans (args_left m c main_arg1 (by decide) (V13_arg1 m c))
    · exact (h (Proc.devRef .tc main_arg2) (Finset.mem_filter.mpr ⟨StableHlo.devRef_mem_tcRefs main_arg2, by decide⟩)).trans (args_left m c main_arg2 (by decide) (V13_arg2 m c))
    · exact (h (Proc.devRef .tc main_arg3) (Finset.mem_filter.mpr ⟨StableHlo.devRef_mem_tcRefs main_arg3, by decide⟩)).trans (args_left m c main_arg3 (by decide) (V13_arg3 m c))
    · exact (h (Proc.devRef .tc main_v34) (Finset.mem_filter.mpr ⟨StableHlo.devRef_mem_tcRefs main_v34, by decide⟩)).trans (Function.update_self _ _ _)
  · iexact HSI

set_option backward.isDefEq.respectTransparency.types false in
/-- Every weakly fair execution ends, with the arguments as launched, the result named, and every counter at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats fun c => V13 m c) () cellOf_inj EP defs₀ 𝒱₀ L lv m ρ main
    (segs m 𝒱₀ L lv (riding m) () (pdats fun c => V13 m c) (reg fun c => V13 m c))
    (fun c Q => by
      rewrite [main_chain c, Pipeline.Seg.run_eq_chain,
        show (segs m 𝒱₀ L lv (riding m) () (pdats fun c => V13 m c) (reg fun c => V13 m c) c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun d => owed d 0) L_of_ne seed u₀ seeded
    (T₀ := fun c => iprop(StableHlo.held (c : Thread nD τ) (Pipeline.ucRefs τ sig) (V0 m c) ∗ before m c))
    (Tₙ := fun c => iprop(StableHlo.held (c : Thread nD τ) (Pipeline.ucRefs τ sig) (Vout (fun c => V13 m c) c) ∗ semVal (cell c none) 0))
    (hch := fun c => ⟨.rfl, .rfl, .rfl, .rfl, .rfl, .rfl, .rfl, .rfl, .rfl, .rfl, .rfl, .rfl, .rfl, reg_pre m c, (reg_post m c).trans (by
      unfold after owesE
      iintro ⟨Hh, Hb, HO⟩
      isplitr [HO]
      · isplitl [Hh] <;> iassumption
      iexact HO)⟩)
    (hinit := init m ρ) (QY := fun c s => Ends m c s ∧ s.sem (cell c none) = 0) (hfin := fin_read m)
    (hQ := fun s h hs => ⟨fun c => (h c).1, sem_eq_zero hs fun c sm hsm => by
      obtain rfl := unscoped_eq sm hsm
      exact (h c).2⟩)

end Cert.KernelProof
-- ==== Proof.Frames.lean ====
/-
  The frames: the kernel's two from its one run, the reference's from its straight line of operations.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.KernelProof

open Idealize.ShloMosaic Idealize.SL.Sem

section
open Cert.KernelIdeal

/-- The arguments end unchanged and every counter at zero, over any float values. -/
theorem frame_run {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run_main m g)

end

theorem frame_ideal : Cert.quiescent_KernelIdeal := fun m g _ => frame_run (F := Ideal) m g

/-! The two programs have one text. -/

theorem table_same {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl

theorem defs_same {F : FTy → Type} [FloatOps F] : Cert.Kernel.defs (F := F) = Cert.KernelIdeal.defs (F := F) :=
  congrArg (Pipeline.defs Cert.KernelIdeal.pcfgs) table_same

set_option maxHeartbeats 2000000 in
theorem main_same {F : FTy → Type} [FloatOps F] : Cert.Kernel.main (F := F) = Cert.KernelIdeal.main (F := F) := by
  funext c
  exact rfl

theorem run_same {F : FTy → Type} [FloatOps F] : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun d p => θ_run d (onTc (τ := Cert.KernelIdeal.τ) p)) defs_same main_same

theorem frame_kernel : Cert.quiescent_Kernel := by
  intro m g _
  rw [run_same]
  exact frame_run (F := Bits) m g

open Cert.ReferenceIdeal in
theorem frame_reference : Cert.quiescent_ReferenceIdeal := fun m g _ =>
  (θ_run defs _ _).mono (fun _ h => ⟨fun c => (h c).2, sem_eq_zero_of_no_sems (by decide) _⟩) (Cert.ReferenceIdeal.Value.run (F := Ideal) m g)

end Cert.KernelProof
-- ==== Proof.Route.lean ====
/-
  The routing table: the word the host computes for each token, in the numbers of its expert and of its place among the
  tokens of the same expert.
-/
module

public import proofs.«01_k».proof.Proof.Gen.KernelIdeal.Regions
public import Idealize.ShloMosaic.Lib.Pointwise
public import Idealize.ShloMosaic.Lib.StableHlo.ReadAt
public import Idealize.ShloMosaic.Lib.Routing.Words
public import Idealize.ShloMosaic.Lib.Routing.OpsOne
public import Idealize.ShloMosaic.Lib.Routing.Count

@[expose] public section

noncomputable section

namespace Cert.KernelProof

open Cert.KernelIdeal Cert.KernelIdeal.Gen

open Idealize.ShloMosaic
open Idealize.ShloMosaic.TcCoe
open scoped BigOperators

/-- The expert token `i` names. -/
def tok (A : IVec S2048 32) (i : ℕ) : ℕ := if h : i < 2048 then (A (ix1 ⟨i, h⟩)).toNat else 0

/-- How many earlier tokens name the same expert. -/
def rank (A : IVec S2048 32) (t : ℕ) : ℕ := Nat.count (fun i => tok A i = tok A t) t

/-- Every token names an expert, and no expert is named more often than it has slots. -/
structure Routed (A : IVec S2048 32) : Prop where
  lt : ∀ t : Fin 2048, tok A t < 16
  few : ∀ e : Fin 16, Nat.count (fun i => tok A i = e) 2048 ≤ 160

theorem tok_word (A : IVec S2048 32) (t : Fin 2048) : A (ix1 t) = BitVec.ofNat 32 (tok A t) := by
  rw [tok, dif_pos t.isLt, BitVec.ofNat_toNat, BitVec.setWidth_eq]

theorem tok_small (A : IVec S2048 32) (t : ℕ) : tok A t < 2 ^ 32 := by
  unfold tok
  split
  · exact BitVec.isLt _
  · norm_num

theorem Routed.rank_lt {A : IVec S2048 32} (h : Routed A) (t : Fin 2048) : rank A t < 160 :=
  lt_of_lt_of_le (Nat.count_strict_mono (p := fun i => tok A i = tok A t) rfl t.isLt) (h.few ⟨tok A t, h.lt t⟩)

/-- Two tokens of one expert and of one place are one token. -/
theorem rank_inj {A : IVec S2048 32} {s t : ℕ} (h : tok A s = tok A t) (hr : rank A s = rank A t) : s = t := by
  unfold rank at hr
  rw [h] at hr
  exact Nat.count_injective (p := fun i => tok A i = tok A t) h rfl hr

theorem sum_marks (p : ℕ → Prop) [DecidablePred p] (n : ℕ) : ((List.range n).map fun i => if p i then 1 else 0).sum = Nat.count p n := by
  induction n with
  | zero => rfl
  | succ n ih => rw [List.range_succ, List.map_append, List.sum_append, ih, Nat.count_succ]; simp

/-- A row's sum is its one entry that is not zero. -/
theorem row_sum {n k : ℕ} (x : IVec ⟨2, ![n, k]⟩ 32) (h : (⟨2, ![n, k]⟩ : Shape).ReducesTo [1] ⟨1, ![n]⟩) {u : Shape} (hu : 0 < u.numel) (t : Fin n)
    (e : Fin k) (hz : ∀ e', e' ≠ e → x (ix2 t e') = 0#32) :
    Host.reduce IntOp.addi x (constantI u 32 0#32) h hu (ix1 t) = x (ix2 t e) := by
  classical
  rw [Host.reduce_eq_fold]
  have hd : ∀ i : (⟨2, ![n, k]⟩ : Shape).Idx, h.drop i = ix1 t ↔ i 0 = t := by
    intro i
    have hv : (h.drop i 0 : ℕ) = i 0 := Shape.ReducesTo.drop_apply_val h i 0
    constructor
    · intro q; rw [q] at hv; exact Fin.ext hv.symm
    · intro q; funext b; have hb : b = 0 := Subsingleton.elim _ _; subst hb; exact Fin.ext (by rw [hv, q]; rfl)
  have he : ∀ i : (⟨2, ![n, k]⟩ : Shape).Idx, i 0 = t → i = ix2 t (i 1) := fun i q => by
    funext b
    match b with
    | ⟨0, _⟩ => exact q
    | ⟨1, _⟩ => rfl
  refine Eq.trans (b := ∑ i ∈ Finset.univ.filter (fun i : (⟨2, ![n, k]⟩ : Shape).Idx => h.drop i = ix1 t), x i) rfl ?_
  refine Finset.sum_eq_single (ix2 t e) (fun i hi hne => ?_) (fun hn => ?_)
  on_goal 1 =>
    have h0 := (hd i).1 (Finset.mem_filter.1 hi).2
    rw [he i h0]
  · exact hz _ fun q => hne (by rw [he i h0, q]; rfl)
  · exact absurd (Finset.mem_filter.2 ⟨Finset.mem_univ (ix2 t e), (hd (ix2 t e)).2 rfl⟩) hn

theorem host_quot (n : Fin 16) : Scalar.select
      (IntOp.andi (IntOp.cmpi .ne (if BitVec.ofNat 32 n.val = 0 then 0 else if (BitVec.ofNat 32 n.val).msb = true then -1 else 1 : BitVec 32)
          (if 4#32 = 0 then 0 else if (4#32).msb = true then -1 else 1))
        (IntOp.cmpi .ne (IntOp.remsi ArithUnit.host (BitVec.ofNat 32 n.val) 4#32) 0#32))
      (IntOp.subi (IntOp.divsi ArithUnit.host (BitVec.ofNat 32 n.val) 4#32) 1#32)
      (IntOp.divsi ArithUnit.host (BitVec.ofNat 32 n.val) 4#32) = BitVec.ofNat 32 (n.val / 4) := by
  revert n; decide

/-- The host's remainder by four, its sign that of the divisor. -/
def hostRem (x : BitVec 32) : BitVec 32 :=
  let d := Scalar.select (IntOp.cmpi .eq 4#32 0#32) 1#32 4#32
  Scalar.select (IntOp.andi (IntOp.cmpi .ne (IntOp.cmpi .slt (IntOp.remsi ArithUnit.host x d) 0#32) (IntOp.cmpi .slt d 0#32))
      (IntOp.cmpi .ne (IntOp.remsi ArithUnit.host x d) 0#32))
    (IntOp.addi (IntOp.remsi ArithUnit.host x d) d) (IntOp.remsi ArithUnit.host x d)

theorem host_rem (n : Fin 16) : hostRem (BitVec.ofNat 32 n.val) = BitVec.ofNat 32 (n.val % 4) := by
  revert n; decide

theorem host_rem_sub (a b : Fin 4) : hostRem (IntOp.subi (BitVec.ofNat 32 a.val) (BitVec.ofNat 32 b.val)) = BitVec.ofNat 32 ((a - b : Fin 4).val) := by
  revert a b; decide

theorem host_me (c : Dev nD) : id (Host.remui (Host.divui (constantI S_ 32 c.word) (constantI S_ 32 1#32)) (constantI S_ 32 4#32)) ix0
    = (BitVec.ofNat 32 c.val : BitVec 32) := by
  revert c; decide

theorem same_bit (a e : ℕ) (ha : a < 2 ^ 32) (he : e < 2 ^ 32) : IntOp.cmpi .eq (BitVec.ofNat 32 a) (BitVec.ofNat 32 e) = 1#1 ↔ a = e := by
  rw [IntOp.cmpi_eq]
  constructor
  · intro q
    have := congrArg BitVec.toNat q
    rwa [BitVec.toNat_ofNat, BitVec.toNat_ofNat, Nat.mod_eq_of_lt ha, Nat.mod_eq_of_lt he] at this
  · rintro rfl; rfl

theorem wide_bit (w : BitVec 1) (p : Prop) [Decidable p] (h : w = 1#1 ↔ p) : BitVec.setWidth 32 w = BitVec.ofNat 32 (if p then 1 else 0) := by
  rcases BitVec.eq_zero_or_eq_one w with q | q <;> subst q
  · rw [if_neg (fun hp => absurd (h.2 hp) (by decide))]; rfl
  · rw [if_pos (h.1 rfl)]; rfl

variable {F : FTy → Type} [FloatOps F]
variable (m : (ℓ : Loc nD τ sig) → Buf (Elt F) ℓ) (c : Dev nD)

/-- The device's expert words. -/
abbrev words : IVec S2048 32 := V0 m c main_arg1

theorem v4_at : V1 m c main_v4 ix0 = (BitVec.ofNat 32 c.val : BitVec 32) := by
  after_reads_at
  exact host_me c

theorem bit_at (t : Fin 2048) (e : Fin 16) : IntOp.cmpi .eq (words m c (ix1 t)) (BitVec.ofNat 32 e.val) = 1#1 ↔ tok (words m c) t = e.val := by
  rw [tok_word (words m c) t]
  exact same_bit _ _ (tok_small _ _) (by omega)

theorem v12_at (t : Fin 2048) (e : Fin 16) :
    V2 m c main_v12 (ix2 t e) = (BitVec.ofNat 32 (Nat.count (fun i => tok (words m c) i = e.val) (t.val + 1)) : BitVec 32) := by
  have hx : ∀ (i : Fin 2048) (e : Fin 16), V1 m c main_v11 (ix2 i e) = (BitVec.ofNat 32 (if tok (words m c) i = e.val then 1 else 0) : BitVec 32) := by
    intro i e
    after_reads_at
    exact wide_bit _ _ (bit_at m c i e)
  rw [← sum_marks]
  refine Eq.trans ?_ (Routing.cumsum_rows (Rm1 := 2047) rfl (V1 m c main_v11) (fun i e => if tok (words m c) i = e then 1 else 0)
    (fun i e => (congrArg _ (ix2_eq_valueIdx i e).symm).trans (hx i e)) (fun _ => 0#32) rfl reduceWindows_S2048x16_S2048x16_w2048s1p2047_0_w1s1p0_0 h_S_ t e)
  rw [← ix2_eq_valueIdx]
  simp only [V2]
  generalize V1 m c = V
  after_reads_at
  rfl

theorem v16_at (h : Routed (words m c)) (t : Fin 2048) : V5 m c main_v16 (ix1 t) = (BitVec.ofNat 32 (rank (words m c) t) : BitVec 32) := by
  have hx : ∀ e : Fin 16, V4 m c main_v15 (ix2 t e) = (Scalar.select (IntOp.cmpi .eq (words m c (ix1 t)) (BitVec.ofNat 32 e.val))
      (IntOp.subi (V2 m c main_v12 (ix2 t e)) 1#32) 0#32 : BitVec 32) := by
    intro e
    have h10 : V2 m c main_v10 (ix2 t e) = (IntOp.cmpi .eq (words m c (ix1 t)) (BitVec.ofNat 32 e.val) : BitVec 1) := by
      after_reads_at
    rw [← h10]
    simp only [V4, V3]
    generalize V2 m c = V
    after_reads_at
    rfl
  have hr : V5 m c main_v16 (ix1 t) = Host.reduce IntOp.addi (V4 m c main_v15 : IVec S2048x16 32) (constantI S_ 32 0#32) reducesTo_S2048x16_S2048_d1 h_S_ (ix1 t) := by
    simp only [V5]
    generalize V4 m c = V
    after_reads_at
  rw [hr, row_sum _ _ _ t ⟨tok (words m c) t, h.lt t⟩ (fun e' he => ?_), hx, Scalar.select_of_eq_one ((bit_at m c t _).2 rfl), v12_at, Nat.count_succ, if_pos rfl]
  · show BitVec.ofNat 32 (_ + 1) - 1#32 = _
    rw [BitVec.ofNat_add, BitVec.add_sub_cancel]
    rfl
  · rw [hx]
    exact Scalar.select_of_ne_one (fun q => he (Fin.ext ((bit_at m c t e').1 q).symm)) _ _

theorem v17_at (h : Routed (words m c)) (t : Fin 2048) : V6 m c main_v17 (ix1 t) = (BitVec.ofNat 32 (tok (words m c) t / 4) : BitVec 32) := by
  rw [← host_quot ⟨tok (words m c) t, h.lt t⟩, ← tok_word]
  after_reads_at
  rfl

theorem v18_at (h : Routed (words m c)) (t : Fin 2048) : V8 m c main_v18 (ix1 t) = (BitVec.ofNat 32 (tok (words m c) t % 4) : BitVec 32) := by
  rw [← host_rem ⟨tok (words m c) t, h.lt t⟩, ← tok_word]
  after_reads_at
  rfl

/-- The device that holds expert `e`. -/
def owner (A : IVec S2048 32) (t : ℕ) : Fin 4 := ⟨tok A t / 4 % 4, Nat.mod_lt _ (by decide)⟩
/-- Where that device keeps it. -/
def place (A : IVec S2048 32) (t : ℕ) : Fin 4 := ⟨tok A t % 4, Nat.mod_lt _ (by decide)⟩

theorem v21_at (h : Routed (words m c)) (t : Fin 2048) : V10 m c main_v21 (ix1 t) = (BitVec.ofNat 32 ((owner (words m c) t - c : Fin 4).val) : BitVec 32) := by
  have hs : V8 m c main_v17 (ix1 t) = (BitVec.ofNat 32 (owner (words m c) t).val : BitVec 32) := by
    rw [V8_of m c main_v17 (by decide), V7_of m c main_v17 (by decide), v17_at m c h]
    have := h.lt t
    exact congrArg (BitVec.ofNat 32) (Nat.mod_eq_of_lt (show tok (words m c) t / 4 < 4 by omega)).symm
  have h4 : V8 m c main_v4 ix0 = (BitVec.ofNat 32 c.val : BitVec 32) := by
    rw [V8_of m c main_v4 (by decide), V7_of m c main_v4 (by decide), V6_of m c main_v4 (by decide), V5_of m c main_v4 (by decide),
      V4_of m c main_v4 (by decide), V3_of m c main_v4 (by decide), V2_of m c main_v4 (by decide), v4_at]
  rw [← host_rem_sub, ← hs, ← h4]
  simp only [V10, V9]
  generalize V8 m c = V
  after_reads_at
  rfl

/-- The token's row within its expert's tiles, the tiles in the order of the device's sends. -/
def line (A : IVec S2048 32) (c : Dev nD) (t : ℕ) : ℕ := 160 * (owner A t - c : Fin 4).val + rank A t

theorem slot_word (p k r : ℕ) : IntOp.addi (IntOp.muli (IntOp.addi (IntOp.muli (BitVec.ofNat 32 p) 4#32) (BitVec.ofNat 32 k)) 160#32) (BitVec.ofNat 32 r)
    = BitVec.ofNat 32 (640 * p + (160 * k + r)) := by
  show (BitVec.ofNat 32 p * BitVec.ofNat 32 4 + BitVec.ofNat 32 k) * BitVec.ofNat 32 160 + BitVec.ofNat 32 r = _
  rw [← BitVec.ofNat_mul, ← BitVec.ofNat_add, ← BitVec.ofNat_mul, ← BitVec.ofNat_add, show (p * 4 + k) * 160 + r = 640 * p + (160 * k + r) by omega]

theorem slot_of (h : Routed (words m c)) (t : Fin 2048) :
    V12 m c main_v30 (ix1 t) = (BitVec.ofNat 32 (640 * (place (words m c) t).val + line (words m c) c t) : BitVec 32) := by
  have h16 : V10 m c main_v16 (ix1 t) = (BitVec.ofNat 32 (rank (words m c) t) : BitVec 32) := by
    rw [V10_of m c main_v16 (by decide), V9_of m c main_v16 (by decide), V8_of m c main_v16 (by decide), V7_of m c main_v16 (by decide),
      V6_of m c main_v16 (by decide), v16_at m c h]
  have h18 : V10 m c main_v18 (ix1 t) = (BitVec.ofNat 32 (place (words m c) t).val : BitVec 32) := by
    rw [V10_of m c main_v18 (by decide), V9_of m c main_v18 (by decide), v18_at m c h]
    rfl
  have hr : V12 m c main_v30 (ix1 t) = (Scalar.select (IntOp.cmpi .slt (V10 m c main_v16 (ix1 t)) 160#32)
      (IntOp.addi (IntOp.muli (IntOp.addi (IntOp.muli (V10 m c main_v18 (ix1 t)) 4#32) (V10 m c main_v21 (ix1 t))) 160#32) (V10 m c main_v16 (ix1 t)))
      2560#32 : BitVec 32) := by
    simp only [V12, V11]
    generalize V10 m c = V
    after_reads_at
    rfl
  have hk := h.rank_lt t
  rw [hr, h16, h18, v21_at m c h, Scalar.select_of_eq_one]
  · exact slot_word _ _ _
  · show IntOp.cmpi .slt _ _ = 1#1
    rw [IntOp.cmpi_slt, BitVec.toInt_eq_toNat_of_lt, BitVec.toInt_eq_toNat_of_lt, BitVec.toNat_ofNat, BitVec.toNat_ofNat]
    · exact_mod_cast (by omega : rank (words m c) t % 2 ^ 32 < 160 % 2 ^ 32)
    · decide
    · rw [BitVec.toNat_ofNat]; omega

theorem row_slot (t : Fin 2048) : V13 m c main_v32 (ix2 0 t) = V12 m c main_v30 (ix1 t) := by
  simp only [V13]
  generalize V12 m c = V
  after_reads_at

theorem col_slot (t : Fin 2048) : V13 m c main_v33 (ix2 t 0) = V12 m c main_v30 (ix1 t) := by
  simp only [V13]
  generalize V12 m c = V
  after_reads_at

/-- Two tokens with one slot are one token. -/
theorem slot_inj {A : IVec S2048 32} (h : Routed A) (c : Dev nD) {s t : Fin 2048}
    (hs : (BitVec.ofNat 32 (640 * (place A s).val + line A c s) : BitVec 32) = BitVec.ofNat 32 (640 * (place A t).val + line A c t)) : s = t := by
  have e := congrArg BitVec.toNat hs
  have h1 := h.rank_lt s
  have h2 := h.rank_lt t
  have h3 := h.lt s
  have h4 := h.lt t
  have k1 := (owner A s - c : Fin 4).isLt
  have k2 := (owner A t - c : Fin 4).isLt
  have p1 := (place A s).isLt
  have p2 := (place A t).isLt
  unfold line at e
  rw [BitVec.toNat_ofNat, BitVec.toNat_ofNat, Nat.mod_eq_of_lt (by omega), Nat.mod_eq_of_lt (by omega)] at e
  have hp : (place A s).val = (place A t).val := by omega
  have ho : (owner A s - c : Fin 4) = owner A t - c := Fin.ext (by omega)
  have hr : rank A s = rank A t := by omega
  have ho' : (owner A s).val = (owner A t).val := congrArg Fin.val (sub_left_injective ho)
  simp only [place, owner] at hp ho'
  exact Fin.ext (rank_inj (by omega) hr)

end Cert.KernelProof
-- ==== Proof.Expert.lean ====
/-
  One expert applied to one token, on the extended reals: a product with the first matrix, the positive part, a
  product with the second matrix. The kernel and the reference are both read as this function.
-/
module

public import Idealize.ShloMosaic.PureOps.Ideal.Laws

@[expose] public section

noncomputable section

namespace Cert.KernelProof

open scoped BigOperators

/-- The expert with matrices `u` and `w` on the token `x`, lane `d`. -/
def expert (x : Fin 1024 → EReal) (u : Fin 1024 → Fin 2048 → EReal) (w : Fin 2048 → Fin 1024 → EReal)
    (d : Fin 1024) : EReal :=
  ∑ f : Fin 2048, max (∑ q : Fin 1024, x q * u q f) 0 * w f d

end Cert.KernelProof
-- ==== Proof.KVal.lean ====
/-
  What the kernel stores, read at an index on the extended reals. A tile row is the sum of the tokens whose slot names
  it, a row of results is the expert on that sum, and the stored block adds up, over the four local experts, the rows
  of results whose slot is the token's.
-/
module

public import proofs.«01_k».proof.Proof.Vals
public import proofs.«01_k».proof.Proof.Expert
public import Idealize.ShloMosaic.Lib.Pointwise

@[expose] public section

noncomputable section

namespace Cert.KernelProof

open Cert.KernelIdeal Cert.KernelIdeal.Gen

open Idealize.ShloMosaic
open Idealize.ShloMosaic.TcCoe
open scoped BigOperators

/-- One when the word is the number, else zero. -/
def ind (s : BitVec 32) (n : ℕ) : EReal := if s = BitVec.ofNat 32 n then 1 else 0

theorem sub_word (r s : BitVec 32) (b : ℕ) : (r = s - BitVec.ofNat 32 b) ↔ s = BitVec.ofNat 32 b + r := by
  constructor
  · rintro rfl; rw [BitVec.add_comm, BitVec.sub_add_cancel]
  · rintro rfl; rw [BitVec.add_comm, BitVec.add_sub_cancel]

/-- A comparison turned into a number. -/
theorem mark (w : BitVec 1) : (FloatOps.sitofp .f32 (BitVec.setWidth 32 w) : Ideal .f32) = if w = 1#1 then 1 else 0 := by
  rcases BitVec.eq_zero_or_eq_one w with h | h <;> subst h
  · show (((BitVec.setWidth 32 (0#1)).toInt : ℝ) : EReal) = _
    norm_num
  · show (((BitVec.setWidth 32 (1#1)).toInt : ℝ) : EReal) = _
    have : (BitVec.setWidth 32 (1#1)).toInt = 1 := by decide
    rw [this]; norm_num

/-- The mark of row `r` of the tile at slot `b`. -/
theorem mark_row (s : BitVec 32) (r b : ℕ) :
    (FloatOps.sitofp .f32 (BitVec.setWidth 32 (IntOp.cmpi .eq (BitVec.ofNat 32 r) (IntOp.subi s (BitVec.ofNat 32 b)))) : Ideal .f32)
      = ind s (b + r) := by
  rw [mark, ind]
  refine if_congr ?_ rfl rfl
  rw [BitVec.ofNat_add, ← sub_word]
  exact IntOp.cmpi_eq

/-- The same mark with the two sides exchanged. -/
theorem mark_col (s : BitVec 32) (r b : ℕ) :
    (FloatOps.sitofp .f32 (BitVec.setWidth 32 (IntOp.cmpi .eq (IntOp.subi s (BitVec.ofNat 32 b)) (BitVec.ofNat 32 r))) : Ideal .f32)
      = ind s (b + r) := by
  rw [← mark_row, mark, mark]
  exact if_congr (IntOp.cmpi_eq.trans (eq_comm.trans IntOp.cmpi_eq.symm)) rfl rfl

/-- The sum of the tokens whose slot is `n`. -/
def pick (i : In Ideal) (n : ℕ) (d : Fin 1024) : EReal := ∑ t : Fin 2048, ind (i.sl (ix2 0 t)) n * i.x (ix2 t d)

theorem big_at (i : In Ideal) (j : Fin 4) (hj : j ≠ 0) (R : Fin 640) (d : Fin 1024) :
    big i j (ix2 R d) = pick i (640 * j.val + R.val) d := by
  match j, hj with
  | 1, _ => simp only [big, pick]; pointwise [k0_pay12, k0_pay11, k0_pay10, mark_row]
  | 2, _ => simp only [big, pick]; pointwise [k0_pay16, k0_pay15, k0_pay14, mark_row]
  | 3, _ => simp only [big, pick]; pointwise [k0_pay20, k0_pay19, k0_pay18, mark_row]

theorem disp_at (i : In Ideal) (j : Fin 4) (k : Fin 3) (r : Fin 160) (d : Fin 1024) :
    disp i j k (ix2 r d) = pick i (640 * j.val + (160 * (k.val + 1) + r.val)) d := by
  have hb : ∀ j : Fin 4, j ≠ 0 → big i j (blk k.succ (ix2 r d)) = pick i (640 * j.val + (160 * (k.val + 1) + r.val)) d := by
    intro j hj
    rw [← big_at i j hj ⟨160 * (k.val + 1) + r.val, by omega⟩ d]
    congr 1
  match j, k with
  | 0, 0 => simp only [disp, pick]; pointwise [k0_pay2, k0_pay1, mark_row]
  | 0, 1 => simp only [disp, pick]; pointwise [k0_pay5, k0_pay4, k0_pay3, mark_row]
  | 0, 2 => simp only [disp, pick]; pointwise [k0_pay7, k0_pay6, mark_row]
  | 1, _ => exact hb 1 (by decide)
  | 2, _ => exact hb 2 (by decide)
  | 3, _ => exact hb 3 (by decide)

theorem own_at (i : In Ideal) (j : Fin 4) (r : Fin 160) (d : Fin 1024) :
    own i j (ix4 0 0 r d) = pick i (640 * j.val + r.val) d := by
  match j with
  | 0 => simp only [own, pick]; pointwise [k0_pay9, k0_pay8, mark_row]
  | 1 => simp only [own, pick]; pointwise [k0_pay13, k0_pay11, k0_pay10, mark_row]
  | 2 => simp only [own, pick]; pointwise [k0_pay17, k0_pay15, k0_pay14, mark_row]
  | 3 => simp only [own, pick]; pointwise [k0_pay21, k0_pay19, k0_pay18, mark_row]

/-- The device `b` places behind, and the device `b` places ahead. -/
def src (c : Dev nD) (b : Fin 4) : Dev nD := ⟨(c.val + 4 - b.val) % 4, Nat.mod_lt _ (by decide)⟩
def dst (c : Dev nD) (b : Fin 4) : Dev nD := ⟨(c.val + b.val) % 4, Nat.mod_lt _ (by decide)⟩

variable (inp : Dev nD → In Ideal)

theorem box_at (c : Dev nD) (j b : Fin 4) (r : Fin 160) (d : Fin 1024) :
    box inp c j (ix4 0 b r d) = pick (inp (src c b)) (640 * j.val + (160 * b.val + r.val)) d := by
  refine Fin.cases ?_ (fun k => ?_) b
  · show own (inp c) j (ValueIdx.ix4 0 0 r d) = _
    rw [← ix4_eq_valueIdx, own_at]
    have : src c 0 = c := by revert c; decide
    rw [this]
    simp
  · show disp (inp (bwd c k)) j k (ValueIdx.ix2 r d) = _
    rw [← ix2_eq_valueIdx, disp_at]
    have : src c k.succ = bwd c k := by revert c k; decide
    rw [this]
    rfl

/-- Row `r` of block `b` of expert `j`'s results on device `c`. -/
def res (c : Dev nD) (j b : Fin 4) (r : Fin 160) (d : Fin 1024) : EReal :=
  expert (fun q => pick (inp (src c b)) (640 * j.val + (160 * b.val + r.val)) q)
    (fun q f => (inp c).w1 (ix3 j q f)) (fun f l => (inp c).w2 (ix3 j f l)) d

theorem hid_at (c : Dev nD) (j : Fin 4) (R : Fin 640) (f : Fin 2048) :
    hid inp c j (ix2 R f)
      = max (∑ q : Fin 1024, box inp c j (ix4 0 ⟨R.val / 160, by omega⟩ ⟨R.val % 160, Nat.mod_lt _ (by decide)⟩ q)
          * (inp c).w1 (ix3 j q f)) 0 := by
  match j with
  | 0 => simp only [hid]; pointwise [k0_pay22, wt1, ix3_eq_valueIdx]
  | 1 => simp only [hid]; pointwise [k0_pay27, k0_pay26, wt1, ix3_eq_valueIdx]
  | 2 => simp only [hid]; pointwise [k0_pay33, wt1, ix3_eq_valueIdx]
  | 3 => simp only [hid]; pointwise [k0_pay39, wt1, ix3_eq_valueIdx]

theorem row_at (c : Dev nD) (j b : Fin 4) (r : Fin 160) (d : Fin 1024) (R : Fin 640) (hR : R.val = 160 * b.val + r.val) :
    ∑ f : Fin 2048, hid inp c j (ix2 R f) * (inp c).w2 (ix3 j f d) = res inp c j b r d := by
  rw [res, expert]
  refine Finset.sum_congr rfl fun f _ => ?_
  rw [hid_at]
  have h1 : (⟨R.val / 160, by omega⟩ : Fin 4) = b := Fin.ext (by show R.val / 160 = b.val; omega)
  have h2 : (⟨R.val % 160, Nat.mod_lt _ (by decide)⟩ : Fin 160) = r := Fin.ext (by show R.val % 160 = r.val; omega)
  rw [h1, h2]
  simp only [box_at]

theorem keep_at (c : Dev nD) (j : Fin 4) (r : Fin 160) (d : Fin 1024) :
    keep inp c j (ix2 r d) = res inp c j 0 r d := by
  rw [← row_at inp c j 0 r d ⟨r.val, by omega⟩ (by simp)]
  match j with
  | 0 => simp only [keep]; pointwise [k0_pay24, k0_pay23, wt2, ix3_eq_valueIdx]
  | 1 => simp only [keep]; pointwise [k0_pay29, k0_pay28, wt2, ix3_eq_valueIdx]
  | 2 => simp only [keep]; pointwise [k0_pay35, k0_pay34, wt2, ix3_eq_valueIdx]
  | 3 => simp only [keep]; pointwise [k0_pay41, k0_pay40, wt2, ix3_eq_valueIdx]

theorem comp_at (c : Dev nD) (j : Fin 4) (k : Fin 3) (r : Fin 160) (d : Fin 1024) :
    comp inp c j (ix4 0 k r d) = res inp c j k.succ r d := by
  rw [← row_at inp c j k.succ r d ⟨160 + (k.val * 160 + r.val), by omega⟩ (by simp; omega)]
  match j with
  | 0 => simp only [comp]; pointwise [k0_pay25, k0_pay23, wt2, ix3_eq_valueIdx]
  | 1 => simp only [comp]; pointwise [k0_pay30, k0_pay28, wt2, ix3_eq_valueIdx]
  | 2 => simp only [comp]; pointwise [k0_pay36, k0_pay34, wt2, ix3_eq_valueIdx]
  | 3 => simp only [comp]; pointwise [k0_pay42, k0_pay40, wt2, ix3_eq_valueIdx]

theorem gat_at (c : Dev nD) (j b : Fin 4) (r : Fin 160) (d : Fin 1024) (R : Fin 640) (hR : R.val = 160 * b.val + r.val) :
    gat inp c j (ix2 R d) = res inp (dst c b) j b r d := by
  revert hR
  refine Fin.cases (fun hR => ?_) (fun k hR => ?_) b
  · have hR' : R.val = r.val := by simpa using hR
    have : dst c 0 = c := by revert c; decide
    rw [this, ← keep_at, ix2_eq_valueIdx r d]
    refine (dif_pos (show R.val < 160 by omega)).trans ?_
    exact congrArg (keep inp c j) (congrArg₂ ValueIdx.ix2 (Fin.ext hR') rfl)
  · have hk : R.val / 160 - 1 = k.val := by simp at hR; omega
    have hr : R.val % 160 = r.val := by simp at hR; omega
    have : dst c k.succ = fwd c k := by clear hR hk hr; revert c k; decide
    rw [this, ← comp_at]
    refine (dif_neg (show ¬ R.val < 160 by simp at hR; omega)).trans ?_
    show comp inp (fwd c ⟨R.val / 160 - 1, _⟩) j (ValueIdx.ix4 0 ⟨R.val / 160 - 1, _⟩ ⟨R.val % 160, _⟩ d) = _
    have e1 : (⟨R.val / 160 - 1, by omega⟩ : Fin 3) = k := Fin.ext hk
    have e2 : (⟨R.val % 160, Nat.mod_lt _ (by decide)⟩ : Fin 160) = r := Fin.ext hr
    rw [e1, e2, ix4_eq_valueIdx]

/-- What expert `j` adds to token `t`. -/
def add (c : Dev nD) (j : Fin 4) (t : Fin 2048) (d : Fin 1024) : EReal :=
  ∑ R : Fin 640, ind ((inp c).st (ix2 t 0)) (640 * j.val + R.val) * gat inp c j (ix2 R d)

theorem out3_at (c : Dev nD) (t : Fin 2048) (d : Fin 1024) :
    out3 inp c (ix2 t d) = add inp c 0 t d + add inp c 1 t d + add inp c 2 t d + add inp c 3 t d := by
  pointwise [out3, out2, out1, out0, add, k0_pay31, k0_pay32, k0_pay37, k0_pay38, k0_pay43, k0_pay44, k0_pay45,
    k0_pay46, k0_pay47, mark_col]

/-- A token whose slot is row `R` of expert `j` gets that row. -/
theorem out3_row (c : Dev nD) (t : Fin 2048) (d : Fin 1024) (j : Fin 4) (R : Fin 640)
    (hs : (inp c).st (ix2 t 0) = BitVec.ofNat 32 (640 * j.val + R.val)) :
    out3 inp c (ix2 t d) = gat inp c j (ix2 R d) := by
  have hi : ∀ (j' : Fin 4) (R' : Fin 640), ind ((inp c).st (ix2 t 0)) (640 * j'.val + R'.val)
      = if j' = j ∧ R' = R then 1 else 0 := by
    intro j' R'
    rw [ind, hs]
    refine if_congr ⟨fun h => ?_, fun h => by rw [h.1, h.2]⟩ rfl rfl
    have h1 := j.isLt; have h2 := R.isLt; have h3 := j'.isLt; have h4 := R'.isLt
    have := congrArg BitVec.toNat h
    rw [BitVec.toNat_ofNat, BitVec.toNat_ofNat, Nat.mod_eq_of_lt (by omega), Nat.mod_eq_of_lt (by omega)] at this
    exact ⟨Fin.ext (by omega), Fin.ext (by omega)⟩
  have ha : ∀ j' : Fin 4, add inp c j' t d = if j' = j then gat inp c j (ix2 R d) else 0 := by
    intro j'
    rw [add]
    simp only [hi]
    by_cases h : j' = j
    · subst h
      simp
    · simp [h]
  rw [out3_at]
  simp only [ha]
  match j with
  | 0 => simp
  | 1 => simp
  | 2 => simp
  | 3 => simp

/-- A slot that one token names picks that token. -/
theorem pick_one (i : In Ideal) (n : ℕ) (t : Fin 2048) (hs : ∀ t', i.sl (ix2 0 t') = BitVec.ofNat 32 n ↔ t' = t) (d : Fin 1024) :
    pick i n d = i.x (ix2 t d) := by
  rw [pick]
  simp only [ind, hs]
  simp

end Cert.KernelProof
-- ==== Proof.RefVal.lean ====
/-
  The reference read at an index: sixteen selects, each of which writes the rows of one expert. A token whose expert id
  is below sixteen ends with that expert's row.
-/
module

public import proofs.«01_k».proof.Proof.Gen.ReferenceIdeal.Read
public import proofs.«01_k».proof.Proof.Expert
public import Idealize.ShloMosaic.Lib.Pointwise

@[expose] public section

noncomputable section

namespace Cert.RefProof

open Cert.ReferenceIdeal Cert.ReferenceIdeal.Gen Cert.ReferenceIdeal.Read Cert.KernelProof

open Idealize.ShloMosaic
open Idealize.ShloMosaic.TcCoe

variable {F : FTy → Type} [FloatOps F]

theorem cut1 (n : ℕ) (h : n < 16) : S16x1024x2048.Slices ![n, 0, 0] S1x1024x2048 :=
  ⟨rfl, fun a => match a with
    | ⟨0, _⟩ => by show n + 1 ≤ 16; omega
    | ⟨1, _⟩ => by show 0 + 1024 ≤ 1024; omega
    | ⟨2, _⟩ => by show 0 + 2048 ≤ 2048; omega⟩

theorem cut2 (n : ℕ) (h : n < 16) : S16x2048x1024.Slices ![n, 0, 0] S1x2048x1024 :=
  ⟨rfl, fun a => match a with
    | ⟨0, _⟩ => by show n + 1 ≤ 16; omega
    | ⟨1, _⟩ => by show 0 + 2048 ≤ 2048; omega
    | ⟨2, _⟩ => by show 0 + 1024 ≤ 1024; omega⟩

/-- One step of the reference: the rows of expert `n` over the rows so far. -/
def layer (x : FVec F S8192x1024 .f32) (a : IVec S8192 32) (u : FVec F S16x1024x2048 .f32) (w : FVec F S16x2048x1024 .f32)
    (n : ℕ) (h : n < 16) (prev : FVec F S8192x1024 .f32) : FVec F S8192x1024 .f32 :=
  select (broadcastInDim S8192x1024 ![0, 1] bcast_S8192x1_S8192x1024_0_1
      (broadcastInDim S8192x1 ![0] bcast_S8192_S8192x1_0
        (cmpi .eq a (broadcastInDim S8192 ![] bcast_S_S8192 (constantI S_ 32 (BitVec.ofNat 32 n))))))
    (Host.dotGeneral dot_S8192x2048_S2048x1024_S8192x1024_1_0_0_1_n_n none
      (maximumf
        (Host.dotGeneral dot_S8192x1024_S1024x2048_S8192x2048_1_0_0_1_n_n none x
          (shapeCast _ (extractStridedSlice S1x1024x2048 ![n, 0, 0] u (cut1 n h)) shapeCasts_S1x1024x2048_S1024x2048))
        (broadcastInDim S8192x2048 ![] bcast_S_S8192x2048 (constant S_ .f32 0x00000000#32)))
      (shapeCast _ (extractStridedSlice S1x2048x1024 ![n, 0, 0] w (cut2 n h)) shapeCasts_S1x2048x1024_S2048x1024))
    prev

/-- The first `n` steps. -/
def layers (x : FVec F S8192x1024 .f32) (a : IVec S8192 32) (u : FVec F S16x1024x2048 .f32) (w : FVec F S16x2048x1024 .f32) :
    (n : ℕ) → n ≤ 16 → FVec F S8192x1024 .f32
  | 0, _ => broadcastInDim S8192x1024 ![] bcast_S_S8192x1024 (constant S_ .f32 0x00000000#32)
  | n + 1, h => layer x a u w n h (layers x a u w n (Nat.le_of_succ_le h))

/-- The reference's composed term is the sixteen steps. -/
theorem val_eq (x : FVec F S8192x1024 .f32) (a : IVec S8192 32) (u : FVec F S16x1024x2048 .f32) (w : FVec F S16x2048x1024 .f32) :
    val_main_v192 (F := F) x a u w = layers x a u w 16 le_rfl := rfl

/-- One step at an index. -/
theorem layer_at (x : FVec Ideal S8192x1024 .f32) (a : IVec S8192 32) (u : FVec Ideal S16x1024x2048 .f32)
    (w : FVec Ideal S16x2048x1024 .f32) (n : ℕ) (h : n < 16) (prev : FVec Ideal S8192x1024 .f32) (t : Fin 8192) (d : Fin 1024) :
    layer x a u w n h prev (ix2 t d) = if a (ix1 t) = BitVec.ofNat 32 n then
      expert (fun q => x (ix2 t q)) (fun q f => u (ix3 ⟨n, h⟩ q f)) (fun f e => w (ix3 ⟨n, h⟩ f e)) d
      else prev (ix2 t d) := by
  pointwise [layer, expert]
  by_cases ha : a (ix1 t) = BitVec.ofNat 32 n
  · rw [if_pos ha, Scalar.select_of_eq_one (IntOp.cmpi_eq.mpr ha)]
  · rw [if_neg ha, Scalar.select_of_ne_one (fun h1 => ha (IntOp.cmpi_eq.mp h1))]

/-- A token with expert id `e` below `n` has that expert's row after `n` steps. -/
theorem layers_at (x : FVec Ideal S8192x1024 .f32) (a : IVec S8192 32) (u : FVec Ideal S16x1024x2048 .f32)
    (w : FVec Ideal S16x2048x1024 .f32) (t : Fin 8192) (d : Fin 1024) (e : Fin 16) (he : a (ix1 t) = BitVec.ofNat 32 e.val)
    (n : ℕ) (h : n ≤ 16) (hn : e.val < n) :
    layers x a u w n h (ix2 t d)
      = expert (fun q => x (ix2 t q)) (fun q f => u (ix3 e q f)) (fun f l => w (ix3 e f l)) d := by
  induction n with
  | zero => omega
  | succ n ih =>
    show layer x a u w n h _ (ix2 t d) = _
    rw [layer_at]
    by_cases hen : e.val = n
    · subst hen
      rw [if_pos he]
    · rw [if_neg, ih (Nat.le_of_succ_le h) (by omega)]
      rw [he]
      intro hc
      have := congrArg BitVec.toNat hc
      simp only [BitVec.toNat_ofNat] at this
      have := e.isLt
      omega

end Cert.RefProof
-- ==== Proof.Equation.lean ====
/-
  The block a device stores, token by token: the token's own expert on the token; and that block beside the reference.
-/
module

public import proofs.«01_k».proof.Proof.Route
public import proofs.«01_k».proof.Proof.KVal
public import proofs.«01_k».proof.Proof.RefVal
public import proofs.«01_k».proof.Proof.Launch
public import Idealize.ShloMosaic.Lib.LayoutAt

@[expose] public section

noncomputable section

namespace Cert.KernelProof

open Cert.KernelIdeal Cert.KernelIdeal.Gen

open Idealize.ShloMosaic
open Idealize.ShloMosaic.TcCoe
open scoped BigOperators

variable (m : (ℓ : Loc nD τ sig) → Buf (Elt Ideal) ℓ) (c : Dev nD)

theorem in_sl (V : Dev nD → Valuation τ sig (Elt Ideal)) (c : Dev nD) : (inpOf V c).sl = V c main_v32 := rfl
theorem in_st (V : Dev nD → Valuation τ sig (Elt Ideal)) (c : Dev nD) : (inpOf V c).st = V c main_v33 := rfl

theorem x_at (t : Fin 2048) (q : Fin 1024) : (ops m c).x (ix2 t q) = m ((c : Thread nD τ).loc main_arg0) (ix2 t q) := by
  have h : V13 m c main_v31 (ix2 t q) = V12 m c main_arg0 (ix2 t q) := by
    simp only [V13]
    generalize V12 m c = V
    after_reads_at
  refine Eq.trans (b := V13 m c main_v31 (ix2 t q)) rfl (h.trans ?_)
  rw [← V13_of m c main_arg0 (by decide), V13_arg0]

theorem w1_at (j : Fin 4) (q : Fin 1024) (f : Fin 2048) : (ops m c).w1 (ix3 j q f) = m ((c : Thread nD τ).loc main_arg2) (ix3 j q f) := by
  refine Eq.trans (b := V13 m c main_arg2 (ix3 j q f)) rfl ?_
  rw [V13_arg2]

theorem w2_at (j : Fin 4) (f : Fin 2048) (l : Fin 1024) : (ops m c).w2 (ix3 j f l) = m ((c : Thread nD τ).loc main_arg3) (ix3 j f l) := by
  refine Eq.trans (b := V13 m c main_arg3 (ix3 j f l)) rfl ?_
  rw [V13_arg3]

theorem sl_at (h : Routed (words m c)) (t : Fin 2048) :
    (ops m c).sl (ix2 0 t) = BitVec.ofNat 32 (640 * (place (words m c) t).val + line (words m c) c t) := by
  have e : (ops m c).sl = V13 m c main_v32 := in_sl (fun c => V13 m c) c
  rw [e, row_slot, slot_of m c h]

theorem st_at (h : Routed (words m c)) (t : Fin 2048) :
    (ops m c).st (ix2 t 0) = BitVec.ofNat 32 (640 * (place (words m c) t).val + line (words m c) c t) := by
  have e : (ops m c).st = V13 m c main_v33 := in_st (fun c => V13 m c) c
  rw [e, col_slot, slot_of m c h]

theorem src_dst (c : Dev nD) (b : Fin 4) : src (dst c b) b = c := by revert c b; decide
theorem dst_sub (c : Dev nD) (o : Fin 4) : dst c (o - c : Fin 4) = o := by revert c o; decide

/-- A token's row is its own expert on it. -/
theorem token_out (h : Routed (words m c)) (t : Fin 2048) (d : Fin 1024) :
    out3 (ops m) c (ix2 t d) = expert (fun q => m ((c : Thread nD τ).loc main_arg0) (ix2 t q))
      (fun q f => m (((owner (words m c) t : Dev nD) : Thread nD τ).loc main_arg2) (ix3 (place (words m c) t) q f))
      (fun f l => m (((owner (words m c) t : Dev nD) : Thread nD τ).loc main_arg3) (ix3 (place (words m c) t) f l)) d := by
  have hr := h.rank_lt t
  have hk := (owner (words m c) t - c : Fin 4).isLt
  have hl : line (words m c) c t < 640 := by unfold line; omega
  rw [out3_row (ops m) c t d (place (words m c) t) ⟨line (words m c) c t, hl⟩ (st_at m c h t),
    gat_at (ops m) c (place (words m c) t) (owner (words m c) t - c : Fin 4) ⟨rank (words m c) t, hr⟩ d ⟨line (words m c) c t, hl⟩ rfl,
    res, src_dst, dst_sub]
  have hp : ∀ q, pick (ops m c) (640 * (place (words m c) t).val + (160 * (owner (words m c) t - c : Fin 4).val + rank (words m c) t)) q
      = m ((c : Thread nD τ).loc main_arg0) (ix2 t q) := by
    intro q
    rw [pick_one (ops m c) _ t (fun t' => ?_), x_at]
    rw [sl_at m c h]
    exact ⟨fun e => slot_inj h c e, fun e => by rw [e]; rfl⟩
  simp only [hp, w1_at, w2_at]

variable (x : FVec Ideal ⟨2, ![8192, 1024]⟩ .f32) (a : IVec ⟨1, ![8192]⟩ 32) (u : FVec Ideal ⟨3, ![16, 1024, 2048]⟩ .f32)
  (w : FVec Ideal ⟨3, ![16, 2048, 1024]⟩ .f32)

/-- The device's block is the reference's. -/
theorem block_eq (h : Routed (words m c))
    (hx : m ((c.tc : Thread nD τ).loc main_arg0) = Layout.block ⟨2, ![2048, 1024]⟩ ⟨2, ![8192, 1024]⟩ 0 4 c x)
    (ha : m ((c.tc : Thread nD τ).loc main_arg1) = Layout.block ⟨1, ![2048]⟩ ⟨1, ![8192]⟩ 0 4 c a)
    (hu : ∀ c : Dev nD, m ((c.tc : Thread nD τ).loc main_arg2) = Layout.block ⟨3, ![4, 1024, 2048]⟩ ⟨3, ![16, 1024, 2048]⟩ 0 4 c u)
    (hw : ∀ c : Dev nD, m ((c.tc : Thread nD τ).loc main_arg3) = Layout.block ⟨3, ![4, 2048, 1024]⟩ ⟨3, ![16, 2048, 1024]⟩ 0 4 c w) :
    out3 (ops m) c = Layout.block ⟨2, ![2048, 1024]⟩ ⟨2, ![8192, 1024]⟩ 0 4 c (Cert.RefProof.layers x a u w 16 le_rfl) := by
  funext i
  obtain ⟨t, d, rfl⟩ : ∃ (t : Fin 2048) (d : Fin 1024), i = ix2 t d := ⟨i 0, i 1, by
    funext b
    match b with
    | ⟨0, _⟩ => rfl
    | ⟨1, _⟩ => rfl⟩
  have hc := c.isLt
  have hT : 2048 * c.val + t.val < 8192 := by have : c.val < 4 := hc; omega
  have ht : tok (words m c) t < 16 := h.lt t
  have ho : (owner (words m c) t).val = tok (words m c) t / 4 := Nat.mod_eq_of_lt (by omega)
  have hp : (place (words m c) t).val = tok (words m c) t % 4 := rfl
  rw [token_out m c h]
  have e1 : (Layout.block ⟨2, ![2048, 1024]⟩ ⟨2, ![8192, 1024]⟩ 0 4 c (Cert.RefProof.layers x a u w 16 le_rfl) : FVec Ideal ⟨2, ![2048, 1024]⟩ .f32) (ix2 t d)
      = Cert.RefProof.layers x a u w 16 le_rfl (ix2 ⟨2048 * c.val + t.val, hT⟩ d) := by
    shard_ext
  have ea : a (ix1 ⟨2048 * c.val + t.val, hT⟩) = BitVec.ofNat 32 (tok (words m c) t) := by
    rw [← tok_word]
    show _ = m ((c.tc : Thread nD τ).loc main_arg1) (ix1 t)
    rw [ha]
    shard_ext
  rw [e1, Cert.RefProof.layers_at x a u w _ d ⟨tok (words m c) t, ht⟩ ea 16 le_rfl ht]
  have ex : ∀ q, m ((c : Thread nD τ).loc main_arg0) (ix2 t q) = x (ix2 ⟨2048 * c.val + t.val, hT⟩ q) := by
    intro q
    rw [hx]
    shard_ext
  have eu : ∀ q f, m (((owner (words m c) t : Dev nD) : Thread nD τ).loc main_arg2) (ix3 (place (words m c) t) q f)
      = u (ix3 ⟨tok (words m c) t, ht⟩ q f) := by
    intro q f
    rw [hu]
    shard_ext
  have ew : ∀ f l, m (((owner (words m c) t : Dev nD) : Thread nD τ).loc main_arg3) (ix3 (place (words m c) t) f l)
      = w (ix3 ⟨tok (words m c) t, ht⟩ f l) := by
    intro f l
    rw [hw]
    shard_ext
  simp only [ex, eu, ew]

end Cert.KernelProof
-- ==== Proof.Pre.lean ====
/-
  The condition on a device's tokens, read: each names an expert and no expert is named more often than it has slots.
-/
module

public import proofs.«01_k».proof.Proof.Route
public import proofs.«01_k».proof.Proof.Gen.Pre_routed_KernelIdeal
public import Idealize.ShloMosaic.Lib.ReduceAll
public import Idealize.ShloMosaic.Lib.StableHlo.Predicate

@[expose] public section

noncomputable section

namespace Cert.KernelProof

open Idealize.ShloMosaic
open Idealize.ShloMosaic.StableHlo.Predicate

instance : Subsingleton (⟨0, ![]⟩ : Shape).Idx := ⟨fun _ _ => funext fun b => b.elim0⟩

attribute [local instance] Cert.Pre_routed_KernelIdeal.Gen.facts in
theorem routed_of {F : FTy → Type} [FloatOps F] (x : FVec F ⟨2, ![2048, 1024]⟩ .f32) (A : IVec ⟨1, ![2048]⟩ 32)
    (u : FVec F ⟨3, ![4, 1024, 2048]⟩ .f32) (w : FVec F ⟨3, ![4, 2048, 1024]⟩ .f32)
    (h : Cert.Pre_routed_KernelIdeal.fn x A u w = fun _ => 1#1) : Routed A := by
  have h0 := congrFun h ix0
  unfold Cert.Pre_routed_KernelIdeal.fn at h0
  obtain ⟨ha, hb⟩ := IntOp.andi_eq_one.1 h0
  have hlt : ∀ t : Fin 2048, tok A t < 16 := by
    intro t
    have q := Host.reduce_andi_all _ _ _ _ _ ha (ix1 t)
    obtain ⟨q1, q2⟩ := IntOp.andi_eq_one.1 q
    have q1' : IntOp.cmpi .sge (A (ix1 t)) 0#32 = 1#1 := q1
    have q2' : IntOp.cmpi .slt (A (ix1 t)) 16#32 = 1#1 := q2
    rw [IntOp.cmpi_sge, BitVec.toInt_eq_toNat_cond, BitVec.toInt_eq_toNat_cond, BitVec.toNat_ofNat] at q1'
    rw [IntOp.cmpi_slt, BitVec.toInt_eq_toNat_cond, BitVec.toInt_eq_toNat_cond, BitVec.toNat_ofNat] at q2'
    rw [tok, dif_pos t.isLt]
    have hl := (A (ix1 t)).isLt
    show (A (ix1 t)).toNat < 16
    split at q2' <;> split at q1' <;> omega
  refine ⟨hlt, fun e => ?_⟩
  have q := Host.reduce_andi_all _ _ _ _ _ hb (ix1 e)
  have hc := toNat_reduce_count_rows (by decide) (cmpi .eq
      (broadcastInDim Cert.Pre_routed_KernelIdeal.S2048x16 ![0, 1] Cert.Pre_routed_KernelIdeal.Facts.bcast_S2048x1_S2048x16_0_1
        (broadcastInDim Cert.Pre_routed_KernelIdeal.S2048x1 ![0] Cert.Pre_routed_KernelIdeal.Facts.bcast_S2048_S2048x1_0 A))
      (broadcastInDim Cert.Pre_routed_KernelIdeal.S2048x16 ![0, 1] Cert.Pre_routed_KernelIdeal.Facts.bcast_S1x16_S2048x16_0_1
        (broadcastInDim Cert.Pre_routed_KernelIdeal.S1x16 ![1] Cert.Pre_routed_KernelIdeal.Facts.bcast_S16_S1x16_1
          (iotaInDim Cert.Pre_routed_KernelIdeal.S16 32 0)))) Cert.Pre_routed_KernelIdeal.Facts.natLt_1_32
    Cert.Pre_routed_KernelIdeal.Facts.reducesTo_S2048x16_S16_d0 Cert.Pre_routed_KernelIdeal.Facts.h_S_ (ix1 e)
  rw [← Routing.card_filter_fin 2048 fun i => tok A i = e.val]
  have hm : (Finset.univ.filter fun t : Fin 2048 => cmpi .eq
      (broadcastInDim Cert.Pre_routed_KernelIdeal.S2048x16 ![0, 1] Cert.Pre_routed_KernelIdeal.Facts.bcast_S2048x1_S2048x16_0_1
        (broadcastInDim Cert.Pre_routed_KernelIdeal.S2048x1 ![0] Cert.Pre_routed_KernelIdeal.Facts.bcast_S2048_S2048x1_0 A))
      (broadcastInDim Cert.Pre_routed_KernelIdeal.S2048x16 ![0, 1] Cert.Pre_routed_KernelIdeal.Facts.bcast_S1x16_S2048x16_0_1
        (broadcastInDim Cert.Pre_routed_KernelIdeal.S1x16 ![1] Cert.Pre_routed_KernelIdeal.Facts.bcast_S16_S1x16_1
          (iotaInDim Cert.Pre_routed_KernelIdeal.S16 32 0))) (ij t e) = 1#1)
      = Finset.univ.filter fun t : Fin 2048 => tok A t.val = e.val := by
    refine Finset.filter_congr fun t _ => ?_
    rw [show ij t e = ix2 t e from (Routing.ij_eq_ix2 t e).trans (ix2_eq_valueIdx t e).symm]
    have hw := same_bit (tok A t) e.val (tok_small A t) (by omega)
    rw [← tok_word] at hw
    refine Iff.trans (iff_of_eq (congrArg (· = 1#1) ?_)) hw
    pointwise []
  replace hc := hc.trans (congrArg Finset.card hm)
  have hle := Finset.card_le_univ (Finset.univ.filter fun t : Fin 2048 => tok A t.val = e.val)
  rw [Fintype.card_fin] at hle
  have h2 := (sle_iff_toNat (by rw [hc]; omega) (by decide)).1 (show IntOp.cmpi .sle _ 160#32 = 1#1 from q)
  exact hc ▸ h2

end Cert.KernelProof
-- ==== Proof.Value.lean ====
/-
  The value claim: every device ends with its block of what the reference computes.
-/
module

public import proofs.«01_k».proof.Defs
public import proofs.«01_k».proof.Proof.Equation
public import proofs.«01_k».proof.Proof.Pre
public import proofs.«01_k».proof.Proof.Gen.ReferenceIdeal.Run
public import proofs.«01_k».proof.Proof.Gen.ReferenceIdeal.Read

@[expose] public section

noncomputable section

namespace Cert.KernelProof

open Idealize.ShloMosaic Idealize.SL.Sem

section
open Cert.ReferenceIdeal

/-- The reference ends with its sixteen layers of its arguments. -/
theorem run_reference (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v192)
          = Cert.RefProof.layers (F := Ideal) (m (((0 : Dev nD).tc : Thread nD τ).loc main_arg0)) (m (((0 : Dev nD).tc : Thread nD τ).loc main_arg1))
              (m (((0 : Dev nD).tc : Thread nD τ).loc main_arg2)) (m (((0 : Dev nD).tc : Thread nD τ).loc main_arg3)) 16 le_rfl
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)) :=
  (θ_run defs _ _).mono (fun _ h => ⟨(h 0).1.trans ((Cert.ReferenceIdeal.Read.val_main_v192_eq (StableHlo.launchContents m 0)).trans
    (Cert.RefProof.val_eq _ _ _ _)), (h 0).2⟩) (Cert.ReferenceIdeal.Value.run (F := Ideal) m g)

end

theorem value : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := by
  intro m g m' g' hp hin
  refine ⟨Cert.RefProof.layers (F := Ideal) _ _ _ _ 16 le_rfl, (θ_run Cert.KernelIdeal.defs _ _).mono (fun r h c => ⟨(h.1 c).2.trans ?_, (h.1 c).1⟩) (run_main m g), run_reference m' g'⟩
  exact block_eq m c _ _ _ _ (routed_of _ _ _ _ (hp c)) (hin c).1 (hin c).2.1 (fun c => (hin c).2.2.1) (fun c => (hin c).2.2.2)

end Cert.KernelProof
-- ==== Proof.lean ====
/- The certificate: the frames of the kernel, of its idealization and of the reference, the (empty) ledger, and the value
   claim: under the condition on the tokens every device ends with its block of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import proofs.«01_k».proof.Proof.Gen.Pre_routed_KernelIdeal
public import proofs.«01_k».proof.Proof.Gen.Pre_routed_ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, Cert.KernelProof.frame_kernel, Cert.KernelProof.frame_ideal,
    fun m g _ => Cert.KernelProof.frame_run (F := Ideal) m g, Cert.KernelProof.frame_reference,
    fun m g _ => Cert.KernelProof.frame_reference m g trivial, trivial, Cert.KernelProof.value⟩

end Cert.Proof

end
